-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v57) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def preserves_Kernel9_Kernel9Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ preserves_Kernel9_Kernel9Ideal
-- ==== Pre_finite_qk.lean ====
abbrev S4x1x2048x3072 : Shape := ⟨4, ![4, 1, 2048, 3072]⟩
abbrev S4x1x2048x2048 : Shape := ⟨4, ![4, 1, 2048, 2048]⟩
abbrev S_ : Shape := ⟨0, ![]⟩

class Facts : Prop where
  slices_S4x1x2048x3072_S4x1x2048x2048_0_0_0_0 : S4x1x2048x3072.Slices ![0, 0, 0, 0] S4x1x2048x2048
  bitsLt_bf16_f32 : FTy.bits .bf16 < FTy.bits .f32
  bcast_S_S4x1x2048x2048 : S_.BroadcastsInDim S4x1x2048x2048 (![] : Fin 0 → Fin S4x1x2048x2048.rank)

variable [Facts]

def fn {F : FTy → Type} [FloatOps F] (main_arg0 : FVec F S4x1x2048x3072 .bf16) : IVec S4x1x2048x2048 1 :=
  let main_v0 : FVec F S4x1x2048x2048 .bf16 := (extractStridedSlice S4x1x2048x2048 ![0, 0, 0, 0] · slices_S4x1x2048x3072_S4x1x2048x2048_0_0_0_0) main_arg0
  let main_v1 : FVec F S4x1x2048x2048 .f32 := (extf .f32 · bitsLt_bf16_f32) main_v0
  let main_v2 : FVec F S4x1x2048x2048 .f32 := Host.absf main_v1
  let main_cst : FVec F S_ .f32 := constant S_ .f32 0x7F800000#32
  let main_v3 : FVec F S4x1x2048x2048 .f32 := broadcastInDim S4x1x2048x2048 ![] bcast_S_S4x1x2048x2048 main_cst
  let main_v4 : IVec S4x1x2048x2048 1 := cmpf .olt main_v2 main_v3
  main_v4
-- ==== Kernel.lean ====
abbrev S4x1x2048x3072 : Shape := ⟨4, ![4, 1, 2048, 3072]⟩
abbrev S4x1x2048x1024 : Shape := ⟨4, ![4, 1, 2048, 1024]⟩
abbrev S4x1x2048x128 : Shape := ⟨4, ![4, 1, 2048, 128]⟩
abbrev S1x1x512x1024 : Shape := ⟨4, ![1, 1, 512, 1024]⟩
abbrev S1x1x512x128 : Shape := ⟨4, ![1, 1, 512, 128]⟩
abbrev S32x128x256 : Shape := ⟨3, ![32, 128, 256]⟩
abbrev S2x128x1024 : Shape := ⟨3, ![2, 128, 1024]⟩
abbrev S128x256 : Shape := ⟨2, ![128, 256]⟩
abbrev S128x128 : Shape := ⟨2, ![128, 128]⟩
abbrev S1x1x128x128 : Shape := ⟨4, ![1, 1, 128, 128]⟩
abbrev S1x128x128 : Shape := ⟨3, ![1, 128, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩
abbrev S1x1x128x1024 : Shape := ⟨4, ![1, 1, 128, 1024]⟩
abbrev S128x1024 : Shape := ⟨2, ![128, 1024]⟩
abbrev S1x128x1024 : Shape := ⟨3, ![1, 128, 1024]⟩

abbrev nBuf : Space → Nat
  | .hbm => 3
  | .vmem => 12
  | .smem => 0
  | _ => 0

abbrev bufTy : (tb : Table) → Fin (tcTables nBuf tb) → BufTy
  | .hbm, ⟨0, _⟩ => ⟨S4x1x2048x3072, .bf16⟩
  | .hbm, ⟨1, _⟩ => ⟨S4x1x2048x1024, .bf16⟩
  | .hbm, ⟨2, _⟩ => ⟨S4x1x2048x128, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x512x128, .f32⟩
  | .local _ .vmem, ⟨9, _⟩ => ⟨S1x1x512x128, .f32⟩
  | .local _ .vmem, ⟨10, _⟩ => ⟨S32x128x256, .f32⟩
  | .local _ .vmem, ⟨11, _⟩ => ⟨S2x128x1024, .bf16⟩
  | _, _ => ⟨S4x1x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x1x2048x3072 : Shape := ⟨4, ![4, 1, 2048, 3072]⟩
abbrev S4x16x128x3x8x128 : Shape := ⟨6, ![4, 16, 128, 3, 8, 128]⟩
abbrev S4x16x128x1x8x128 : Shape := ⟨6, ![4, 16, 128, 1, 8, 128]⟩
abbrev S4x16x128x8x128 : Shape := ⟨5, ![4, 16, 128, 8, 128]⟩
abbrev S4x1x128x8x128 : Shape := ⟨5, ![4, 1, 128, 8, 128]⟩
abbrev S_ : Shape := ⟨0, ![]⟩
abbrev S4x15x128x8x128 : Shape := ⟨5, ![4, 15, 128, 8, 128]⟩
abbrev S4x16x256x8x128 : Shape := ⟨5, ![4, 16, 256, 8, 128]⟩
abbrev S4x16x8x128x256 : Shape := ⟨5, ![4, 16, 8, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x128x256 : Shape := ⟨5, ![1, 16, 1, 128, 256]⟩
abbrev S4x16x8x128 : Shape := ⟨4, ![4, 16, 8, 128]⟩
abbrev S4x16x8x128x1 : Shape := ⟨5, ![4, 16, 8, 128, 1]⟩
abbrev S4x16x8x128x128 : Shape := ⟨5, ![4, 16, 8, 128, 128]⟩
abbrev S4x1x2048x1024 : Shape := ⟨4, ![4, 1, 2048, 1024]⟩
abbrev S4x16x128x8 : Shape := ⟨4, ![4, 16, 128, 8]⟩
abbrev S4x1x2048x8 : Shape := ⟨4, ![4, 1, 2048, 8]⟩
abbrev S4x1x2048x128 : Shape := ⟨4, ![4, 1, 2048, 128]⟩

abbrev nBuf : Space → Nat
  | .hbm => 82
  | .vmem => 0
  | .smem => 0
  | _ => 0

abbrev bufTy : (tb : Table) → Fin (tcTables nBuf tb) → BufTy
  | .hbm, ⟨0, _⟩ => ⟨S4x1x2048x3072, .bf16⟩
  | .hbm, ⟨1, _⟩ => ⟨S4x1x2048x3072, .f32⟩
  | .hbm, ⟨2, _⟩ => ⟨S4x16x128x3x8x128, .f32⟩
  | .hbm, ⟨3, _⟩ => ⟨S4x16x128x1x8x128, .f32⟩
  | .hbm, ⟨4, _⟩ => ⟨S4x16x128x8x128, .f32⟩
  | .hbm, ⟨5, _⟩ => ⟨S4x16x128x1x8x128, .f32⟩
  | .hbm, ⟨6, _⟩ => ⟨S4x16x128x8x128, .f32⟩
  | .hbm, ⟨7, _⟩ => ⟨S4x16x128x1x8x128, .f32⟩
  | .hbm, ⟨8, _⟩ => ⟨S4x16x128x8x128, .f32⟩
  | .hbm, ⟨9, _⟩ => ⟨S4x1x128x8x128, .f32⟩
  | .hbm, ⟨10, _⟩ => ⟨S_, .f32⟩
  | .hbm, ⟨11, _⟩ => ⟨S4x1x128x8x128, .f32⟩
  | .hbm, ⟨12, _⟩ => ⟨S4x15x128x8x128, .f32⟩
  | .hbm, ⟨13, _⟩ => ⟨S4x16x128x8x128, .f32⟩
  | .hbm, ⟨14, _⟩ => ⟨S4x16x256x8x128, .f32⟩
  | .hbm, ⟨15, _⟩ => ⟨S4x1x128x8x128, .f32⟩
  | .hbm, ⟨16, _⟩ => ⟨S_, .f32⟩
  | .hbm, ⟨17, _⟩ => ⟨S4x1x128x8x128, .f32⟩
  | .hbm, ⟨18, _⟩ => ⟨S4x15x128x8x128, .f32⟩
  | .hbm, ⟨19, _⟩ => ⟨S4x16x128x8x128, .f32⟩
  | .hbm, ⟨20, _⟩ => ⟨S4x16x256x8x128, .f32⟩
  | .hbm, ⟨21, _⟩ => ⟨S4x16x8x128x256, .f32⟩
  | .hbm, ⟨22, _⟩ => ⟨S16, .i32⟩
  | .hbm, ⟨23, _⟩ => ⟨S16x1x1, .i32⟩
  | .hbm, ⟨24, _⟩ => ⟨S128, .i32⟩
  | .hbm, ⟨25, _⟩ => ⟨S1x128x1, .i32⟩
  | .hbm, ⟨26, _⟩ => ⟨S_, .i32⟩
  | .hbm, ⟨27, _⟩ => ⟨S1x128x1, .i32⟩
  | .hbm, ⟨28, _⟩ => ⟨S1x128x1, .i32⟩
  | .hbm, ⟨29, _⟩ => ⟨S256, .i32⟩
  | .hbm, ⟨30, _⟩ => ⟨S1x1x256, .i32⟩
  | .hbm, ⟨31, _⟩ => ⟨S1x128x256, .i32⟩
  | .hbm, ⟨32, _⟩ => ⟨S1x128x256, .i32⟩
  | .hbm, ⟨33, _⟩ => ⟨S1x128x256, .i32⟩
  | .hbm, ⟨34, _⟩ => ⟨S_, .i32⟩
  | .hbm, ⟨35, _⟩ => ⟨S1x128x256, .i32⟩
  | .hbm, ⟨36, _⟩ => ⟨S1x128x256, .i1⟩
  | .hbm, ⟨37, _⟩ => ⟨S_, .i32⟩
  | .hbm, ⟨38, _⟩ => ⟨S1x128x256, .i32⟩
  | .hbm, ⟨39, _⟩ => ⟨S1x128x256, .i1⟩
  | .hbm, ⟨40, _⟩ => ⟨S1x128x256, .i1⟩
  | .hbm, ⟨41, _⟩ => ⟨S_, .i32⟩
  | .hbm, ⟨42, _⟩ => ⟨S16x1x1, .i32⟩
  | .hbm, ⟨43, _⟩ => ⟨S16x1x1, .i1⟩
  | .hbm, ⟨44, _⟩ => ⟨S_, .i32⟩
  | .hbm, ⟨45, _⟩ => ⟨S1x1x256, .i32⟩
  | .hbm, ⟨46, _⟩ => ⟨S1x1x256, .i1⟩
  | .hbm, ⟨47, _⟩ => ⟨S16x1x256, .i1⟩
  | .hbm, ⟨48, _⟩ => ⟨S16x1x256, .i1⟩
  | .hbm, ⟨49, _⟩ => ⟨S16x1x256, .i1⟩
  | .hbm, ⟨50, _⟩ => ⟨S16x128x256, .i1⟩
  | .hbm, ⟨51, _⟩ => ⟨S16x128x256, .i1⟩
  | .hbm, ⟨52, _⟩ => ⟨S16x128x256, .i1⟩
  | .hbm, ⟨53, _⟩ => ⟨S1x16x1x128x256, .i1⟩
  | .hbm, ⟨54, _⟩ => ⟨S_, .f32⟩
  | .hbm, ⟨55, _⟩ => ⟨S_, .f32⟩
  | .hbm, ⟨56, _⟩ => ⟨S4x16x8x128x256, .i1⟩
  | .hbm, ⟨57, _⟩ => ⟨S4x16x8x128x256, .f32⟩
  | .hbm, ⟨58, _⟩ => ⟨S4x16x8x128x256, .f32⟩
  | .hbm, ⟨59, _⟩ => ⟨S_, .f32⟩
  | .hbm, ⟨60, _⟩ => ⟨S4x16x8x128, .f32⟩
  | .hbm, ⟨61, _⟩ => ⟨S4x16x8x128x1, .f32⟩
  | .hbm, ⟨62, _⟩ => ⟨S4x16x8x128x256, .f32⟩
  | .hbm, ⟨63, _⟩ => ⟨S4x16x8x128x256, .f32⟩
  | .hbm, ⟨64, _⟩ => ⟨S4x16x8x128x256, .f32⟩
  | .hbm, ⟨65, _⟩ => ⟨S_, .f32⟩
  | .hbm, ⟨66, _⟩ => ⟨S4x16x8x128, .f32⟩
  | .hbm, ⟨67, _⟩ => ⟨S4x16x8x128x1, .f32⟩
  | .hbm, ⟨68, _⟩ => ⟨S4x16x8x128x256, .f32⟩
  | .hbm, ⟨69, _⟩ => ⟨S4x16x8x128x256, .f32⟩
  | .hbm, ⟨70, _⟩ => ⟨S4x16x8x128x128, .f32⟩
  | .hbm, ⟨71, _⟩ => ⟨S4x16x128x8x128, .f32⟩
  | .hbm, ⟨72, _⟩ => ⟨S4x16x8x128x1, .f32⟩
  | .hbm, ⟨73, _⟩ => ⟨S4x16x8x128x1, .f32⟩
  | .hbm, ⟨74, _⟩ => ⟨S4x16x8x128, .f32⟩
  | .hbm, ⟨75, _⟩ => ⟨S4x1x2048x1024, .f32⟩
  | .hbm, ⟨76, _⟩ => ⟨S4x16x128x8, .f32⟩
  | .hbm, ⟨77, _⟩ => ⟨S4x1x2048x8, .f32⟩
  | .hbm, ⟨78, _⟩ => ⟨S4x1x2048x1024, .bf16⟩
  | .hbm, ⟨79, _⟩ => ⟨S_, .i32⟩
  | .hbm, ⟨80, _⟩ => ⟨S_, .f32⟩
  | .hbm, ⟨81, _⟩ => ⟨S4x1x2048x128, .f32⟩
  | _, _ => ⟨S4x1x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c_1 : Ref sig .tc := ⟨.hbm, 34, rfl⟩
abbrev main_v30 : Ref sig .tc := ⟨.hbm, 35, rfl⟩
abbrev main_v31 : Ref sig .tc := ⟨.hbm, 36, rfl⟩
abbrev main_c_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_3 : Ref sig .tc := ⟨.hbm, 41, rfl⟩
abbrev main_v35 : Ref sig .tc := ⟨.hbm, 42, rfl⟩
abbrev main_v36 : Ref sig .tc := ⟨.hbm, 43, rfl⟩
abbrev main_c_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_8 : Ref sig .tc := ⟨.hbm, 79, rfl⟩
abbrev main_call1_v0 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S4x2048x8192, .f32⟩
  | .hbm, ⟨4, _⟩ => ⟨S4x8192x2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S1024x2048, .f32⟩
  | .local _ .vmem, ⟨1, _⟩ => ⟨S1x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S4x2048x8192, .f32⟩
  | .hbm, ⟨4, _⟩ => ⟨S4x8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x8192, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S1x8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2x2048x8192 : Shape := ⟨3, ![2, 2048, 8192]⟩
abbrev S1x2048 : Shape := ⟨2, ![1, 2048]⟩
abbrev S3x8192x2048 : Shape := ⟨3, ![3, 8192, 2048]⟩
abbrev S512x2048 : Shape := ⟨2, ![512, 2048]⟩
abbrev S1x2048x2048 : Shape := ⟨3, ![1, 2048, 2048]⟩
abbrev S1x512x2048 : Shape := ⟨3, ![1, 512, 2048]⟩
abbrev S2048x2048 : Shape := ⟨2, ![2048, 2048]⟩
abbrev S1x128x2048 : Shape := ⟨3, ![1, 128, 2048]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S1x2048, .f32⟩
  | .hbm, ⟨4, _⟩ => ⟨S3x8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .f32⟩
  | .local _ .vmem, ⟨4, _⟩ => ⟨S1x512x2048, .bf16⟩
  | .local _ .vmem, ⟨5, _⟩ => ⟨S1x512x2048, .bf16⟩
  | .local _ .vmem, ⟨6, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![3, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_24 : BitVec 32 := 0#32
  let c16_i32 : BitVec 32 := 16#32
  let v47 : BitVec 32 := Scalar.addi c0_i32_24 c16_i32
  let c1_i32 : BitVec 32 := 1#32
  ⟨c0_i32_24, v47, c1_i32⟩
def k0_mult1 (k0_t1 : Fin k0_t1_loop.trips) : BitVec 32 :=
  let c0_i32_24 : BitVec 32 := 0#32
  let c1_i32 : BitVec 32 := 1#32
  let arg7 : BitVec 32 := Scf.iv c0_i32_24 c1_i32 k0_t1
  let c128_i32 : BitVec 32 := 128#32
  let v48 : BitVec 32 := Scalar.muli arg7 c128_i32
  v48
def k0_off1 (k0_t1 : Fin k0_t1_loop.trips) : Fin 3 → Nat :=
  let c0_26 : Index := 0#32
  let c0_i32_24 : BitVec 32 := 0#32
  let c1_i32 : BitVec 32 := 1#32
  let arg7 : BitVec 32 := Scf.iv c0_i32_24 c1_i32 k0_t1
  let c128_i32 : BitVec 32 := 128#32
  let v48 : BitVec 32 := Scalar.muli arg7 c128_i32
  let v49 : BitVec 32 := v48
  let v50 : Index := Scalar.indexCast v49
  let c0_27 : Index := 0#32
  ![0, v50.toNat, 0]
def k0_off2 (k0_t1 : Fin k0_t1_loop.trips) : Fin 2 → Nat :=
  let c0_i32_24 : BitVec 32 := 0#32
  let c1_i32 : BitVec 32 := 1#32
  let arg7 : BitVec 32 := Scf.iv c0_i32_24 c1_i32 k0_t1
  let c128_i32 : BitVec 32 := 128#32
  let v48 : BitVec 32 := Scalar.muli arg7 c128_i32
  let v49 : BitVec 32 := v48
  let v54 : Index := Scalar.indexCast v49
  let c0_28 : Index := 0#32
  ![v54.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let c3_i32 : BitVec 32 := 3#32
  let v1 : BitVec 32 := Scalar.select v0 c2_i32 c3_i32
  let c0_i32 : BitVec 32 := 0#32
  let v2 : BitVec 1 := Scalar.cmpi .eq arg0 c0_i32
  let c0_i32_0 : BitVec 32 := 0#32
  let v3 : BitVec 32 := Scalar.select v2 c0_i32_0 v1
  let c0_i32_1 : BitVec 32 := 0#32
  let c0_i32_2 : BitVec 32 := 0#32
  let c0_i32_3 : BitVec 32 := 0#32
  ![c0_i32_1.toNat, c0_i32_2.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S2048 : Shape := ⟨1, ![2048]⟩
abbrev S2x2048x8192 : Shape := ⟨3, ![2, 2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩
abbrev S3x8192x2048 : Shape := ⟨3, ![3, 8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x8192, .f32⟩
  | .hbm, ⟨20, _⟩ => ⟨S2048x8192, .f32⟩
  | .hbm, ⟨21, _⟩ => ⟨S8192x8192, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S1x8192x2048, .f32⟩
  | .hbm, ⟨26, _⟩ => ⟨S1x8192x2048, .f32⟩
  | .hbm, ⟨27, _⟩ => ⟨S1x8192x2048, .f32⟩
  | .hbm, ⟨28, _⟩ => ⟨S3x8192x2048, .f32⟩
  | .hbm, ⟨29, _⟩ => ⟨S3x8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2x2048x2048 : Shape := ⟨3, ![2, 2048, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048, .f32⟩
  | .hbm, ⟨3, _⟩ => ⟨S2x2048x2048, .f32⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x2048 : Shape := ⟨2, ![8192, 2048]⟩
abbrev S2048 : Shape := ⟨1, ![2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048, .f32⟩
  | .hbm, ⟨3, _⟩ => ⟨S2x2048x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2x2048x9216 : Shape := ⟨3, ![2, 2048, 9216]⟩
abbrev S4x1x2048x128 : Shape := ⟨4, ![4, 1, 2048, 128]⟩
abbrev S1x2048 : Shape := ⟨2, ![1, 2048]⟩
abbrev S4x1x2048x3072 : Shape := ⟨4, ![4, 1, 2048, 3072]⟩
abbrev S256x2048 : Shape := ⟨2, ![256, 2048]⟩
abbrev S1x2048x3072 : Shape := ⟨3, ![1, 2048, 3072]⟩
abbrev S1x1x256x128 : Shape := ⟨4, ![1, 1, 256, 128]⟩
abbrev S1x1x256x3072 : Shape := ⟨4, ![1, 1, 256, 3072]⟩
abbrev S2048x3072 : Shape := ⟨2, ![2048, 3072]⟩
abbrev S1x128x3072 : Shape := ⟨3, ![1, 128, 3072]⟩
abbrev S128x3072 : Shape := ⟨2, ![128, 3072]⟩
abbrev S256 : Shape := ⟨1, ![256]⟩
abbrev S256x1 : Shape := ⟨2, ![256, 1]⟩
abbrev S256x3072 : Shape := ⟨2, ![256, 3072]⟩
abbrev S1x256x128 : Shape := ⟨3, ![1, 256, 128]⟩
abbrev S256x128 : Shape := ⟨2, ![256, 128]⟩
abbrev S256x1024 : Shape := ⟨2, ![256, 1024]⟩
abbrev S1x1x256x1024 : Shape := ⟨4, ![1, 1, 256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x9216, .f32⟩
  | .hbm, ⟨3, _⟩ => ⟨S4x1x2048x128, .f32⟩
  | .hbm, ⟨4, _⟩ => ⟨S4x1x2048x128, .f32⟩
  | .hbm, ⟨5, _⟩ => ⟨S4x1x2048x128, .f32⟩
  | .hbm, ⟨6, _⟩ => ⟨S1x2048, .f32⟩
  | .hbm, ⟨7, _⟩ => ⟨S4x1x2048x3072, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x3072, .f32⟩
  | .local _ .vmem, ⟨4, _⟩ => ⟨S1x1x256x128, .f32⟩
  | .local _ .vmem, ⟨5, _⟩ => ⟨S1x1x256x128, .f32⟩
  | .local _ .vmem, ⟨6, _⟩ => ⟨S1x1x256x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S1x1x256x3072, .bf16⟩
  | .local _ .vmem, ⟨11, _⟩ => ⟨S1x1x256x3072, .bf16⟩
  | .local _ .vmem, ⟨12, _⟩ => ⟨S2048x3072, .bf16⟩
  | .local _ .vmem, ⟨13, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_114 : BitVec 32 := 0#32
  let c16_i32_115 : BitVec 32 := 16#32
  let v245 : BitVec 32 := Scalar.addi c0_i32_114 c16_i32_115
  let c1_i32 : BitVec 32 := 1#32
  ⟨c0_i32_114, v245, c1_i32⟩
def k0_mult1 (k0_t1 : Fin k0_t1_loop.trips) : BitVec 32 :=
  let c0_i32_114 : BitVec 32 := 0#32
  let c1_i32 : BitVec 32 := 1#32
  let arg11 : BitVec 32 := Scf.iv c0_i32_114 c1_i32 k0_t1
  let c128_i32 : BitVec 32 := 128#32
  let v246 : BitVec 32 := Scalar.muli arg11 c128_i32
  v246
def k0_off1 (k0_t1 : Fin k0_t1_loop.trips) : Fin 3 → Nat :=
  let c0_117 : Index := 0#32
  let c0_i32_114 : BitVec 32 := 0#32
  let c1_i32 : BitVec 32 := 1#32
  let arg11 : BitVec 32 := Scf.iv c0_i32_114 c1_i32 k0_t1
  let c128_i32 : BitVec 32 := 128#32
  let v246 : BitVec 32 := Scalar.muli arg11 c128_i32
  let v247 : BitVec 32 := v246
  let v248 : Index := Scalar.indexCast v247
  let c0_118 : Index := 0#32
  ![0, v248.toNat, 0]
def k0_off2 (k0_t1 : Fin k0_t1_loop.trips) : Fin 2 → Nat :=
  let c0_i32_114 : BitVec 32 := 0#32
  let c1_i32 : BitVec 32 := 1#32
  let arg11 : BitVec 32 := Scf.iv c0_i32_114 c1_i32 k0_t1
  let c128_i32 : BitVec 32 := 128#32
  let v246 : BitVec 32 := Scalar.muli arg11 c128_i32
  let v247 : BitVec 32 := v246
  let v252 : Index := Scalar.indexCast v247
  let c0_119 : Index := 0#32
  ![v252.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x2048 : Shape := ⟨2, ![8192, 2048]⟩
abbrev S2048 : Shape := ⟨1, ![2048]⟩
abbrev S2x2048x9216 : Shape := ⟨3, ![2, 2048, 9216]⟩
abbrev S4x1x2048x128 : Shape := ⟨4, ![4, 1, 2048, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x3072 : Shape := ⟨3, ![1, 2048, 3072]⟩
abbrev S2048x3072 : Shape := ⟨2, ![2048, 3072]⟩
abbrev S8192x3072 : Shape := ⟨2, ![8192, 3072]⟩
abbrev S4x2048x1x3x8x128 : Shape := ⟨6, ![4, 2048, 1, 3, 8, 128]⟩
abbrev S4x1x2048x3x8x128 : Shape := ⟨6, ![4, 1, 2048, 3, 8, 128]⟩
abbrev S4x1x2048x1x8x128 : Shape := ⟨6, ![4, 1, 2048, 1, 8, 128]⟩
abbrev S4x1x2048x8x128 : Shape := ⟨5, ![4, 1, 2048, 8, 128]⟩
abbrev S4x1x2048x1x128 : Shape := ⟨5, ![4, 1, 2048, 1, 128]⟩
abbrev S4x1x2048x8x16 : Shape := ⟨5, ![4, 1, 2048, 8, 16]⟩
abbrev S4x1x2048x8x112 : Shape := ⟨5, ![4, 1, 2048, 8, 112]⟩
abbrev S4x1x2048x3072 : Shape := ⟨4, ![4, 1, 2048, 3072]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x9216, .f32⟩
  | .hbm, ⟨3, _⟩ => ⟨S4x1x2048x128, .f32⟩
  | .hbm, ⟨4, _⟩ => ⟨S4x1x2048x128, .f32⟩
  | .hbm, ⟨5, _⟩ => ⟨S4x1x2048x128, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x3072, .f32⟩
  | .hbm, ⟨23, _⟩ => ⟨S2048x3072, .f32⟩
  | .hbm, ⟨24, _⟩ => ⟨S8192x3072, .f32⟩
  | .hbm, ⟨25, _⟩ => ⟨S4x2048x1x3x8x128, .f32⟩
  | .hbm, ⟨26, _⟩ => ⟨S4x1x2048x3x8x128, .f32⟩
  | .hbm, ⟨27, _⟩ => ⟨S4x1x2048x1x8x128, .f32⟩
  | .hbm, ⟨28, _⟩ => ⟨S4x1x2048x8x128, .f32⟩
  | .hbm, ⟨29, _⟩ => ⟨S4x1x2048x1x128, .f32⟩
  | .hbm, ⟨30, _⟩ => ⟨S4x1x2048x1x128, .f32⟩
  | .hbm, ⟨31, _⟩ => ⟨S4x1x2048x1x128, .f32⟩
  | .hbm, ⟨32, _⟩ => ⟨S4x1x2048x8x128, .f32⟩
  | .hbm, ⟨33, _⟩ => ⟨S4x1x2048x8x128, .f32⟩
  | .hbm, ⟨34, _⟩ => ⟨S4x1x2048x8x16, .f32⟩
  | .hbm, ⟨35, _⟩ => ⟨S4x1x2048x8x112, .f32⟩
  | .hbm, ⟨36, _⟩ => ⟨S4x1x2048x8x128, .f32⟩
  | .hbm, ⟨37, _⟩ => ⟨S4x1x2048x8x128, .f32⟩
  | .hbm, ⟨38, _⟩ => ⟨S4x1x2048x8x128, .f32⟩
  | .hbm, ⟨39, _⟩ => ⟨S4x1x2048x8x128, .f32⟩
  | .hbm, ⟨40, _⟩ => ⟨S4x1x2048x8x112, .f32⟩
  | .hbm, ⟨41, _⟩ => ⟨S4x1x2048x8x16, .f32⟩
  | .hbm, ⟨42, _⟩ => ⟨S4x1x2048x8x128, .f32⟩
  | .hbm, ⟨43, _⟩ => ⟨S4x1x2048x8x128, .f32⟩
  | .hbm, ⟨44, _⟩ => ⟨S4x1x2048x8x128, .f32⟩
  | .hbm, ⟨45, _⟩ => ⟨S4x1x2048x8x128, .f32⟩
  | .hbm, ⟨46, _⟩ => ⟨S_, .f32⟩
  | .hbm, ⟨47, _⟩ => ⟨S4x1x2048x8x128, .f32⟩
  | .hbm, ⟨48, _⟩ => ⟨S4x1x2048x8x128, .f32⟩
  | .hbm, ⟨49, _⟩ => ⟨S4x1x2048x1x8x128, .f32⟩
  | .hbm, ⟨50, _⟩ => ⟨S4x1x2048x8x128, .f32⟩
  | .hbm, ⟨51, _⟩ => ⟨S4x1x2048x1x128, .f32⟩
  | .hbm, ⟨52, _⟩ => ⟨S4x1x2048x1x128, .f32⟩
  | .hbm, ⟨53, _⟩ => ⟨S4x1x2048x1x128, .f32⟩
  | .hbm, ⟨54, _⟩ => ⟨S4x1x2048x8x128, .f32⟩
  | .hbm, ⟨55, _⟩ => ⟨S4x1x2048x8x128, .f32⟩
  | .hbm, ⟨56, _⟩ => ⟨S4x1x2048x8x16, .f32⟩
  | .hbm, ⟨57, _⟩ => ⟨S4x1x2048x8x112, .f32⟩
  | .hbm, ⟨58, _⟩ => ⟨S4x1x2048x8x128, .f32⟩
  | .hbm, ⟨59, _⟩ => ⟨S4x1x2048x8x128, .f32⟩
  | .hbm, ⟨60, _⟩ => ⟨S4x1x2048x8x128, .f32⟩
  | .hbm, ⟨61, _⟩ => ⟨S4x1x2048x8x128, .f32⟩
  | .hbm, ⟨62, _⟩ => ⟨S4x1x2048x8x112, .f32⟩
  | .hbm, ⟨63, _⟩ => ⟨S4x1x2048x8x16, .f32⟩
  | .hbm, ⟨64, _⟩ => ⟨S4x1x2048x8x128, .f32⟩
  | .hbm, ⟨65, _⟩ => ⟨S4x1x2048x8x128, .f32⟩
  | .hbm, ⟨66, _⟩ => ⟨S4x1x2048x8x128, .f32⟩
  | .hbm, ⟨67, _⟩ => ⟨S4x1x2048x8x128, .f32⟩
  | .hbm, ⟨68, _⟩ => ⟨S4x1x2048x1x8x128, .f32⟩
  | .hbm, ⟨69, _⟩ => ⟨S4x1x2048x8x128, .f32⟩
  | .hbm, ⟨70, _⟩ => ⟨S4x1x2048x1x8x128, .f32⟩
  | .hbm, ⟨71, _⟩ => ⟨S4x1x2048x1x8x128, .f32⟩
  | .hbm, ⟨72, _⟩ => ⟨S4x1x2048x1x8x128, .f32⟩
  | .hbm, ⟨73, _⟩ => ⟨S4x1x2048x3x8x128, .f32⟩
  | .hbm, ⟨74, _⟩ => ⟨S4x1x2048x3072, .f32⟩
  | .hbm, ⟨75, _⟩ => ⟨S4x1x2048x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call2_v0 : Ref sig .tc := ⟨.hbm, 56, rfl⟩
abbrev main_call2_v1 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_v0 : Ref sig .tc := ⟨.hbm, 62, rfl⟩
abbrev main_call3_v1 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2x2048x9216 : Shape := ⟨3, ![2, 2048, 9216]⟩
abbrev S4x4x512x128 : Shape := ⟨4, ![4, 4, 512, 128]⟩
abbrev S1x2048 : Shape := ⟨2, ![1, 2048]⟩
abbrev S4x4x512x3072 : Shape := ⟨4, ![4, 4, 512, 3072]⟩
abbrev S256x2048 : Shape := ⟨2, ![256, 2048]⟩
abbrev S1x2048x3072 : Shape := ⟨3, ![1, 2048, 3072]⟩
abbrev S1x4x64x128 : Shape := ⟨4, ![1, 4, 64, 128]⟩
abbrev S1x4x64x3072 : Shape := ⟨4, ![1, 4, 64, 3072]⟩
abbrev S2048x3072 : Shape := ⟨2, ![2048, 3072]⟩
abbrev S16x256x128 : Shape := ⟨3, ![16, 256, 128]⟩
abbrev S1x128x3072 : Shape := ⟨3, ![1, 128, 3072]⟩
abbrev S128x3072 : Shape := ⟨2, ![128, 3072]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S256x3072 : Shape := ⟨2, ![256, 3072]⟩
abbrev S4x64x128 : Shape := ⟨3, ![4, 64, 128]⟩
abbrev S1x1x64x128 : Shape := ⟨4, ![1, 1, 64, 128]⟩
abbrev S256x1024 : Shape := ⟨2, ![256, 1024]⟩
abbrev S64x1024 : Shape := ⟨2, ![64, 1024]⟩
abbrev S1x1x64x1024 : Shape := ⟨4, ![1, 1, 64, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x9216, .f32⟩
  | .hbm, ⟨3, _⟩ => ⟨S4x4x512x128, .f32⟩
  | .hbm, ⟨4, _⟩ => ⟨S4x4x512x128, .f32⟩
  | .hbm, ⟨5, _⟩ => ⟨S4x4x512x128, .f32⟩
  | .hbm, ⟨6, _⟩ => ⟨S1x2048, .f32⟩
  | .hbm, ⟨7, _⟩ => ⟨S4x4x512x3072, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x3072, .f32⟩
  | .local _ .vmem, ⟨4, _⟩ => ⟨S1x4x64x128, .f32⟩
  | .local _ .vmem, ⟨5, _⟩ => ⟨S1x4x64x128, .f32⟩
  | .local _ .vmem, ⟨6, _⟩ => ⟨S1x4x64x128, .f32⟩
  | .local _ .vmem, ⟨7, _⟩ => ⟨S1x4x64x128, .f32⟩
  | .local _ .vmem, ⟨8, _⟩ => ⟨S1x4x64x128, .f32⟩
  | .local _ .vmem, ⟨9, _⟩ => ⟨S1x4x64x128, .f32⟩
  | .local _ .vmem, ⟨10, _⟩ => ⟨S1x4x64x3072, .bf16⟩
  | .local _ .vmem, ⟨11, _⟩ => ⟨S1x4x64x3072, .bf16⟩
  | .local _ .vmem, ⟨12, _⟩ => ⟨S2048x3072, .bf16⟩
  | .local _ .vmem, ⟨13, _⟩ => ⟨S256x2048, .bf16⟩
  | .local _ .vmem, ⟨14, _⟩ => ⟨S16x256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_667 : BitVec 32 := 0#32
  let c16_i32_668 : BitVec 32 := 16#32
  let v961 : BitVec 32 := Scalar.addi c0_i32_667 c16_i32_668
  let c1_i32 : BitVec 32 := 1#32
  ⟨c0_i32_667, v961, c1_i32⟩
def k0_mult1 (k0_t1 : Fin k0_t1_loop.trips) : BitVec 32 :=
  let c0_i32_667 : BitVec 32 := 0#32
  let c1_i32 : BitVec 32 := 1#32
  let arg12 : BitVec 32 := Scf.iv c0_i32_667 c1_i32 k0_t1
  let c128_i32 : BitVec 32 := 128#32
  let v962 : BitVec 32 := Scalar.muli arg12 c128_i32
  v962
def k0_off1 (k0_t1 : Fin k0_t1_loop.trips) : Fin 3 → Nat :=
  let c0_670 : Index := 0#32
  let c0_i32_667 : BitVec 32 := 0#32
  let c1_i32 : BitVec 32 := 1#32
  let arg12 : BitVec 32 := Scf.iv c0_i32_667 c1_i32 k0_t1
  let c128_i32 : BitVec 32 := 128#32
  let v962 : BitVec 32 := Scalar.muli arg12 c128_i32
  let v963 : BitVec 32 := v962
  let v964 : Index := Scalar.indexCast v963
  let c0_671 : Index := 0#32
  ![0, v964.toNat, 0]
def k0_off2 (k0_t1 : Fin k0_t1_loop.trips) : Fin 2 → Nat :=
  let c0_i32_667 : BitVec 32 := 0#32
  let c1_i32 : BitVec 32 := 1#32
  let arg12 : BitVec 32 := Scf.iv c0_i32_667 c1_i32 k0_t1
  let c128_i32 : BitVec 32 := 128#32
  let v962 : BitVec 32 := Scalar.muli arg12 c128_i32
  let v963 : BitVec 32 := v962
  let v968 : Index := Scalar.indexCast v963
  let c0_672 : Index := 0#32
  ![v968.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x64x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x2048 : Shape := ⟨2, ![8192, 2048]⟩
abbrev S2048 : Shape := ⟨1, ![2048]⟩
abbrev S2x2048x9216 : Shape := ⟨3, ![2, 2048, 9216]⟩
abbrev S4x4x512x128 : Shape := ⟨4, ![4, 4, 512, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x3072 : Shape := ⟨3, ![1, 2048, 3072]⟩
abbrev S2048x3072 : Shape := ⟨2, ![2048, 3072]⟩
abbrev S8192x3072 : Shape := ⟨2, ![8192, 3072]⟩
abbrev S4x512x4x3x8x128 : Shape := ⟨6, ![4, 512, 4, 3, 8, 128]⟩
abbrev S4x4x512x3x8x128 : Shape := ⟨6, ![4, 4, 512, 3, 8, 128]⟩
abbrev S4x4x512x1x8x128 : Shape := ⟨6, ![4, 4, 512, 1, 8, 128]⟩
abbrev S4x4x512x8x128 : Shape := ⟨5, ![4, 4, 512, 8, 128]⟩
abbrev S4x4x512x1x128 : Shape := ⟨5, ![4, 4, 512, 1, 128]⟩
abbrev S4x4x512x8x16 : Shape := ⟨5, ![4, 4, 512, 8, 16]⟩
abbrev S4x4x512x8x112 : Shape := ⟨5, ![4, 4, 512, 8, 112]⟩
abbrev S4x4x512x3072 : Shape := ⟨4, ![4, 4, 512, 3072]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x9216, .f32⟩
  | .hbm, ⟨3, _⟩ => ⟨S4x4x512x128, .f32⟩
  | .hbm, ⟨4, _⟩ => ⟨S4x4x512x128, .f32⟩
  | .hbm, ⟨5, _⟩ => ⟨S4x4x512x128, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x3072, .f32⟩
  | .hbm, ⟨23, _⟩ => ⟨S2048x3072, .f32⟩
  | .hbm, ⟨24, _⟩ => ⟨S8192x3072, .f32⟩
  | .hbm, ⟨25, _⟩ => ⟨S4x512x4x3x8x128, .f32⟩
  | .hbm, ⟨26, _⟩ => ⟨S4x4x512x3x8x128, .f32⟩
  | .hbm, ⟨27, _⟩ => ⟨S4x4x512x1x8x128, .f32⟩
  | .hbm, ⟨28, _⟩ => ⟨S4x4x512x8x128, .f32⟩
  | .hbm, ⟨29, _⟩ => ⟨S4x4x512x1x128, .f32⟩
  | .hbm, ⟨30, _⟩ => ⟨S4x4x512x1x128, .f32⟩
  | .hbm, ⟨31, _⟩ => ⟨S4x4x512x1x128, .f32⟩
  | .hbm, ⟨32, _⟩ => ⟨S4x4x512x8x128, .f32⟩
  | .hbm, ⟨33, _⟩ => ⟨S4x4x512x8x128, .f32⟩
  | .hbm, ⟨34, _⟩ => ⟨S4x4x512x8x16, .f32⟩
  | .hbm, ⟨35, _⟩ => ⟨S4x4x512x8x112, .f32⟩
  | .hbm, ⟨36, _⟩ => ⟨S4x4x512x8x128, .f32⟩
  | .hbm, ⟨37, _⟩ => ⟨S4x4x512x8x128, .f32⟩
  | .hbm, ⟨38, _⟩ => ⟨S4x4x512x8x128, .f32⟩
  | .hbm, ⟨39, _⟩ => ⟨S4x4x512x8x128, .f32⟩
  | .hbm, ⟨40, _⟩ => ⟨S4x4x512x8x112, .f32⟩
  | .hbm, ⟨41, _⟩ => ⟨S4x4x512x8x16, .f32⟩
  | .hbm, ⟨42, _⟩ => ⟨S4x4x512x8x128, .f32⟩
  | .hbm, ⟨43, _⟩ => ⟨S4x4x512x8x128, .f32⟩
  | .hbm, ⟨44, _⟩ => ⟨S4x4x512x8x128, .f32⟩
  | .hbm, ⟨45, _⟩ => ⟨S4x4x512x8x128, .f32⟩
  | .hbm, ⟨46, _⟩ => ⟨S_, .f32⟩
  | .hbm, ⟨47, _⟩ => ⟨S4x4x512x8x128, .f32⟩
  | .hbm, ⟨48, _⟩ => ⟨S4x4x512x8x128, .f32⟩
  | .hbm, ⟨49, _⟩ => ⟨S4x4x512x1x8x128, .f32⟩
  | .hbm, ⟨50, _⟩ => ⟨S4x4x512x8x128, .f32⟩
  | .hbm, ⟨51, _⟩ => ⟨S4x4x512x1x128, .f32⟩
  | .hbm, ⟨52, _⟩ => ⟨S4x4x512x1x128, .f32⟩
  | .hbm, ⟨53, _⟩ => ⟨S4x4x512x1x128, .f32⟩
  | .hbm, ⟨54, _⟩ => ⟨S4x4x512x8x128, .f32⟩
  | .hbm, ⟨55, _⟩ => ⟨S4x4x512x8x128, .f32⟩
  | .hbm, ⟨56, _⟩ => ⟨S4x4x512x8x16, .f32⟩
  | .hbm, ⟨57, _⟩ => ⟨S4x4x512x8x112, .f32⟩
  | .hbm, ⟨58, _⟩ => ⟨S4x4x512x8x128, .f32⟩
  | .hbm, ⟨59, _⟩ => ⟨S4x4x512x8x128, .f32⟩
  | .hbm, ⟨60, _⟩ => ⟨S4x4x512x8x128, .f32⟩
  | .hbm, ⟨61, _⟩ => ⟨S4x4x512x8x128, .f32⟩
  | .hbm, ⟨62, _⟩ => ⟨S4x4x512x8x112, .f32⟩
  | .hbm, ⟨63, _⟩ => ⟨S4x4x512x8x16, .f32⟩
  | .hbm, ⟨64, _⟩ => ⟨S4x4x512x8x128, .f32⟩
  | .hbm, ⟨65, _⟩ => ⟨S4x4x512x8x128, .f32⟩
  | .hbm, ⟨66, _⟩ => ⟨S4x4x512x8x128, .f32⟩
  | .hbm, ⟨67, _⟩ => ⟨S4x4x512x8x128, .f32⟩
  | .hbm, ⟨68, _⟩ => ⟨S4x4x512x1x8x128, .f32⟩
  | .hbm, ⟨69, _⟩ => ⟨S4x4x512x8x128, .f32⟩
  | .hbm, ⟨70, _⟩ => ⟨S4x4x512x1x8x128, .f32⟩
  | .hbm, ⟨71, _⟩ => ⟨S4x4x512x1x8x128, .f32⟩
  | .hbm, ⟨72, _⟩ => ⟨S4x4x512x1x8x128, .f32⟩
  | .hbm, ⟨73, _⟩ => ⟨S4x4x512x3x8x128, .f32⟩
  | .hbm, ⟨74, _⟩ => ⟨S4x4x512x3072, .f32⟩
  | .hbm, ⟨75, _⟩ => ⟨S4x4x512x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call2_v0 : Ref sig .tc := ⟨.hbm, 56, rfl⟩
abbrev main_call2_v1 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_v0 : Ref sig .tc := ⟨.hbm, 62, rfl⟩
abbrev main_call3_v1 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S2x2048x9216 : Shape := ⟨3, ![2, 2048, 9216]⟩
abbrev S4x16x128x128 : Shape := ⟨4, ![4, 16, 128, 128]⟩
abbrev S1x2048 : Shape := ⟨2, ![1, 2048]⟩
abbrev S4x16x128x3072 : Shape := ⟨4, ![4, 16, 128, 3072]⟩
abbrev S256x2048 : Shape := ⟨2, ![256, 2048]⟩
abbrev S1x2048x3072 : Shape := ⟨3, ![1, 2048, 3072]⟩
abbrev S1x16x16x128 : Shape := ⟨4, ![1, 16, 16, 128]⟩
abbrev S1x16x16x3072 : Shape := ⟨4, ![1, 16, 16, 3072]⟩
abbrev S2048x3072 : Shape := ⟨2, ![2048, 3072]⟩
abbrev S16x256x128 : Shape := ⟨3, ![16, 256, 128]⟩
abbrev S1x128x3072 : Shape := ⟨3, ![1, 128, 3072]⟩
abbrev S128x3072 : Shape := ⟨2, ![128, 3072]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩
abbrev S256x3072 : Shape := ⟨2, ![256, 3072]⟩
abbrev S16x16x128 : Shape := ⟨3, ![16, 16, 128]⟩
abbrev S1x1x16x128 : Shape := ⟨4, ![1, 1, 16, 128]⟩
abbrev S256x1024 : Shape := ⟨2, ![256, 1024]⟩
abbrev S16x1024 : Shape := ⟨2, ![16, 1024]⟩
abbrev S1x1x16x1024 : Shape := ⟨4, ![1, 1, 16, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x9216, .f32⟩
  | .hbm, ⟨3, _⟩ => ⟨S4x16x128x128, .f32⟩
  | .hbm, ⟨4, _⟩ => ⟨S4x16x128x128, .f32⟩
  | .hbm, ⟨5, _⟩ => ⟨S4x16x128x128, .f32⟩
  | .hbm, ⟨6, _⟩ => ⟨S1x2048, .f32⟩
  | .hbm, ⟨7, _⟩ => ⟨S4x16x128x3072, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x3072, .f32⟩
  | .local _ .vmem, ⟨4, _⟩ => ⟨S1x16x16x128, .f32⟩
  | .local _ .vmem, ⟨5, _⟩ => ⟨S1x16x16x128, .f32⟩
  | .local _ .vmem, ⟨6, _⟩ => ⟨S1x16x16x128, .f32⟩
  | .local _ .vmem, ⟨7, _⟩ => ⟨S1x16x16x128, .f32⟩
  | .local _ .vmem, ⟨8, _⟩ => ⟨S1x16x16x128, .f32⟩
  | .local _ .vmem, ⟨9, _⟩ => ⟨S1x16x16x128, .f32⟩
  | .local _ .vmem, ⟨10, _⟩ => ⟨S1x16x16x3072, .bf16⟩
  | .local _ .vmem, ⟨11, _⟩ => ⟨S1x16x16x3072, .bf16⟩
  | .local _ .vmem, ⟨12, _⟩ => ⟨S2048x3072, .bf16⟩
  | .local _ .vmem, ⟨13, _⟩ => ⟨S256x2048, .bf16⟩
  | .local _ .vmem, ⟨14, _⟩ => ⟨S16x256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_2431 : BitVec 32 := 0#32
  let c16_i32_2432 : BitVec 32 := 16#32
  let v3133 : BitVec 32 := Scalar.addi c0_i32_2431 c16_i32_2432
  let c1_i32 : BitVec 32 := 1#32
  ⟨c0_i32_2431, v3133, c1_i32⟩
def k0_mult1 (k0_t1 : Fin k0_t1_loop.trips) : BitVec 32 :=
  let c0_i32_2431 : BitVec 32 := 0#32
  let c1_i32 : BitVec 32 := 1#32
  let arg12 : BitVec 32 := Scf.iv c0_i32_2431 c1_i32 k0_t1
  let c128_i32 : BitVec 32 := 128#32
  let v3134 : BitVec 32 := Scalar.muli arg12 c128_i32
  v3134
def k0_off1 (k0_t1 : Fin k0_t1_loop.trips) : Fin 3 → Nat :=
  let c0_2434 : Index := 0#32
  let c0_i32_2431 : BitVec 32 := 0#32
  let c1_i32 : BitVec 32 := 1#32
  let arg12 : BitVec 32 := Scf.iv c0_i32_2431 c1_i32 k0_t1
  let c128_i32 : BitVec 32 := 128#32
  let v3134 : BitVec 32 := Scalar.muli arg12 c128_i32
  let v3135 : BitVec 32 := v3134
  let v3136 : Index := Scalar.indexCast v3135
  let c0_2435 : Index := 0#32
  ![0, v3136.toNat, 0]
def k0_off2 (k0_t1 : Fin k0_t1_loop.trips) : Fin 2 → Nat :=
  let c0_i32_2431 : BitVec 32 := 0#32
  let c1_i32 : BitVec 32 := 1#32
  let arg12 : BitVec 32 := Scf.iv c0_i32_2431 c1_i32 k0_t1
  let c128_i32 : BitVec 32 := 128#32
  let v3134 : BitVec 32 := Scalar.muli arg12 c128_i32
  let v3135 : BitVec 32 := v3134
  let v3140 : Index := Scalar.indexCast v3135
  let c0_2436 : Index := 0#32
  ![v3140.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x16x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8192x2048 : Shape := ⟨2, ![8192, 2048]⟩
abbrev S2048 : Shape := ⟨1, ![2048]⟩
abbrev S2x2048x9216 : Shape := ⟨3, ![2, 2048, 9216]⟩
abbrev S4x16x128x128 : Shape := ⟨4, ![4, 16, 128, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x3072 : Shape := ⟨3, ![1, 2048, 3072]⟩
abbrev S2048x3072 : Shape := ⟨2, ![2048, 3072]⟩
abbrev S8192x3072 : Shape := ⟨2, ![8192, 3072]⟩
abbrev S4x128x16x3x8x128 : Shape := ⟨6, ![4, 128, 16, 3, 8, 128]⟩
abbrev S4x16x128x3x8x128 : Shape := ⟨6, ![4, 16, 128, 3, 8, 128]⟩
abbrev S4x16x128x1x8x128 : Shape := ⟨6, ![4, 16, 128, 1, 8, 128]⟩
abbrev S4x16x128x8x128 : Shape := ⟨5, ![4, 16, 128, 8, 128]⟩
abbrev S4x16x128x1x128 : Shape := ⟨5, ![4, 16, 128, 1, 128]⟩
abbrev S4x16x128x8x16 : Shape := ⟨5, ![4, 16, 128, 8, 16]⟩
abbrev S4x16x128x8x112 : Shape := ⟨5, ![4, 16, 128, 8, 112]⟩
abbrev S4x16x128x3072 : Shape := ⟨4, ![4, 16, 128, 3072]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x9216, .f32⟩
  | .hbm, ⟨3, _⟩ => ⟨S4x16x128x128, .f32⟩
  | .hbm, ⟨4, _⟩ => ⟨S4x16x128x128, .f32⟩
  | .hbm, ⟨5, _⟩ => ⟨S4x16x128x128, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x3072, .f32⟩
  | .hbm, ⟨23, _⟩ => ⟨S2048x3072, .f32⟩
  | .hbm, ⟨24, _⟩ => ⟨S8192x3072, .f32⟩
  | .hbm, ⟨25, _⟩ => ⟨S4x128x16x3x8x128, .f32⟩
  | .hbm, ⟨26, _⟩ => ⟨S4x16x128x3x8x128, .f32⟩
  | .hbm, ⟨27, _⟩ => ⟨S4x16x128x1x8x128, .f32⟩
  | .hbm, ⟨28, _⟩ => ⟨S4x16x128x8x128, .f32⟩
  | .hbm, ⟨29, _⟩ => ⟨S4x16x128x1x128, .f32⟩
  | .hbm, ⟨30, _⟩ => ⟨S4x16x128x1x128, .f32⟩
  | .hbm, ⟨31, _⟩ => ⟨S4x16x128x1x128, .f32⟩
  | .hbm, ⟨32, _⟩ => ⟨S4x16x128x8x128, .f32⟩
  | .hbm, ⟨33, _⟩ => ⟨S4x16x128x8x128, .f32⟩
  | .hbm, ⟨34, _⟩ => ⟨S4x16x128x8x16, .f32⟩
  | .hbm, ⟨35, _⟩ => ⟨S4x16x128x8x112, .f32⟩
  | .hbm, ⟨36, _⟩ => ⟨S4x16x128x8x128, .f32⟩
  | .hbm, ⟨37, _⟩ => ⟨S4x16x128x8x128, .f32⟩
  | .hbm, ⟨38, _⟩ => ⟨S4x16x128x8x128, .f32⟩
  | .hbm, ⟨39, _⟩ => ⟨S4x16x128x8x128, .f32⟩
  | .hbm, ⟨40, _⟩ => ⟨S4x16x128x8x112, .f32⟩
  | .hbm, ⟨41, _⟩ => ⟨S4x16x128x8x16, .f32⟩
  | .hbm, ⟨42, _⟩ => ⟨S4x16x128x8x128, .f32⟩
  | .hbm, ⟨43, _⟩ => ⟨S4x16x128x8x128, .f32⟩
  | .hbm, ⟨44, _⟩ => ⟨S4x16x128x8x128, .f32⟩
  | .hbm, ⟨45, _⟩ => ⟨S4x16x128x8x128, .f32⟩
  | .hbm, ⟨46, _⟩ => ⟨S_, .f32⟩
  | .hbm, ⟨47, _⟩ => ⟨S4x16x128x8x128, .f32⟩
  | .hbm, ⟨48, _⟩ => ⟨S4x16x128x8x128, .f32⟩
  | .hbm, ⟨49, _⟩ => ⟨S4x16x128x1x8x128, .f32⟩
  | .hbm, ⟨50, _⟩ => ⟨S4x16x128x8x128, .f32⟩
  | .hbm, ⟨51, _⟩ => ⟨S4x16x128x1x128, .f32⟩
  | .hbm, ⟨52, _⟩ => ⟨S4x16x128x1x128, .f32⟩
  | .hbm, ⟨53, _⟩ => ⟨S4x16x128x1x128, .f32⟩
  | .hbm, ⟨54, _⟩ => ⟨S4x16x128x8x128, .f32⟩
  | .hbm, ⟨55, _⟩ => ⟨S4x16x128x8x128, .f32⟩
  | .hbm, ⟨56, _⟩ => ⟨S4x16x128x8x16, .f32⟩
  | .hbm, ⟨57, _⟩ => ⟨S4x16x128x8x112, .f32⟩
  | .hbm, ⟨58, _⟩ => ⟨S4x16x128x8x128, .f32⟩
  | .hbm, ⟨59, _⟩ => ⟨S4x16x128x8x128, .f32⟩
  | .hbm, ⟨60, _⟩ => ⟨S4x16x128x8x128, .f32⟩
  | .hbm, ⟨61, _⟩ => ⟨S4x16x128x8x128, .f32⟩
  | .hbm, ⟨62, _⟩ => ⟨S4x16x128x8x112, .f32⟩
  | .hbm, ⟨63, _⟩ => ⟨S4x16x128x8x16, .f32⟩
  | .hbm, ⟨64, _⟩ => ⟨S4x16x128x8x128, .f32⟩
  | .hbm, ⟨65, _⟩ => ⟨S4x16x128x8x128, .f32⟩
  | .hbm, ⟨66, _⟩ => ⟨S4x16x128x8x128, .f32⟩
  | .hbm, ⟨67, _⟩ => ⟨S4x16x128x8x128, .f32⟩
  | .hbm, ⟨68, _⟩ => ⟨S4x16x128x1x8x128, .f32⟩
  | .hbm, ⟨69, _⟩ => ⟨S4x16x128x8x128, .f32⟩
  | .hbm, ⟨70, _⟩ => ⟨S4x16x128x1x8x128, .f32⟩
  | .hbm, ⟨71, _⟩ => ⟨S4x16x128x1x8x128, .f32⟩
  | .hbm, ⟨72, _⟩ => ⟨S4x16x128x1x8x128, .f32⟩
  | .hbm, ⟨73, _⟩ => ⟨S4x16x128x3x8x128, .f32⟩
  | .hbm, ⟨74, _⟩ => ⟨S4x16x128x3072, .f32⟩
  | .hbm, ⟨75, _⟩ => ⟨S4x16x128x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call2_v0 : Ref sig .tc := ⟨.hbm, 56, rfl⟩
abbrev main_call2_v1 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_v0 : Ref sig .tc := ⟨.hbm, 62, rfl⟩
abbrev main_call3_v1 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel8.lean ====
abbrev S4x1x2048x1024 : Shape := ⟨4, ![4, 1, 2048, 1024]⟩
abbrev S4x4x512x1024 : Shape := ⟨4, ![4, 4, 512, 1024]⟩
abbrev S4x16x128x1024 : Shape := ⟨4, ![4, 16, 128, 1024]⟩
abbrev S4x1x2048x128 : Shape := ⟨4, ![4, 1, 2048, 128]⟩
abbrev S4x4x512x128 : Shape := ⟨4, ![4, 4, 512, 128]⟩
abbrev S4x16x128x128 : Shape := ⟨4, ![4, 16, 128, 128]⟩
abbrev S8192x2048 : Shape := ⟨2, ![8192, 2048]⟩
abbrev S2048 : Shape := ⟨1, ![2048]⟩
abbrev S2x1024x2048 : Shape := ⟨3, ![2, 1024, 2048]⟩
abbrev S1x2048 : Shape := ⟨2, ![1, 2048]⟩
abbrev S1x1x512x1024 : Shape := ⟨4, ![1, 1, 512, 1024]⟩
abbrev S1x4x128x1024 : Shape := ⟨4, ![1, 4, 128, 1024]⟩
abbrev S1x16x32x1024 : Shape := ⟨4, ![1, 16, 32, 1024]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S512x2048 : Shape := ⟨2, ![512, 2048]⟩
abbrev S1x1024x2048 : Shape := ⟨3, ![1, 1024, 2048]⟩
abbrev S1024x2048 : Shape := ⟨2, ![1024, 2048]⟩
abbrev S2x8x512x128 : Shape := ⟨4, ![2, 8, 512, 128]⟩
abbrev S2x512x128 : Shape := ⟨3, ![2, 512, 128]⟩
abbrev S512x1024 : Shape := ⟨2, ![512, 1024]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S512x128 : Shape := ⟨2, ![512, 128]⟩
abbrev S1x512x128 : Shape := ⟨3, ![1, 512, 128]⟩
abbrev S512x1 : Shape := ⟨2, ![512, 1]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 22
  | .smem => 0
  | _ => 0

abbrev bufTy : (tb : Table) → Fin (tcTables nBuf tb) → BufTy
  | .hbm, ⟨0, _⟩ => ⟨S4x1x2048x1024, .bf16⟩
  | .hbm, ⟨1, _⟩ => ⟨S4x4x512x1024, .bf16⟩
  | .hbm, ⟨2, _⟩ => ⟨S4x16x128x1024, .bf16⟩
  | .hbm, ⟨3, _⟩ => ⟨S4x1x2048x128, .f32⟩
  | .hbm, ⟨4, _⟩ => ⟨S4x4x512x128, .f32⟩
  | .hbm, ⟨5, _⟩ => ⟨S4x16x128x128, .f32⟩
  | .hbm, ⟨6, _⟩ => ⟨S8192x2048, .f32⟩
  | .hbm, ⟨7, _⟩ => ⟨S2048, .f32⟩
  | .hbm, ⟨8, _⟩ => ⟨S2x1024x2048, .f32⟩
  | .hbm, ⟨9, _⟩ => ⟨S1x2048, .f32⟩
  | .hbm, ⟨10, _⟩ => ⟨S8192x2048, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x4x128x1024, .bf16⟩
  | .local _ .vmem, ⟨3, _⟩ => ⟨S1x4x128x1024, .bf16⟩
  | .local _ .vmem, ⟨4, _⟩ => ⟨S1x16x32x1024, .bf16⟩
  | .local _ .vmem, ⟨5, _⟩ => ⟨S1x16x32x1024, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x4x128x128, .f32⟩
  | .local _ .vmem, ⟨9, _⟩ => ⟨S1x4x128x128, .f32⟩
  | .local _ .vmem, ⟨10, _⟩ => ⟨S1x16x32x128, .f32⟩
  | .local _ .vmem, ⟨11, _⟩ => ⟨S1x16x32x128, .f32⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x1024x2048, .f32⟩
  | .local _ .vmem, ⟨16, _⟩ => ⟨S512x2048, .f32⟩
  | .local _ .vmem, ⟨17, _⟩ => ⟨S512x2048, .f32⟩
  | .local _ .vmem, ⟨18, _⟩ => ⟨S1024x2048, .bf16⟩
  | .local _ .vmem, ⟨19, _⟩ => ⟨S2x8x512x128, .f32⟩
  | .local _ .vmem, ⟨20, _⟩ => ⟨S2x512x128, .f32⟩
  | .local _ .vmem, ⟨21, _⟩ => ⟨S512x1024, .bf16⟩
  | _, _ => ⟨S4x1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S4x1x2048x1024 : Shape := ⟨4, ![4, 1, 2048, 1024]⟩
abbrev S4x4x512x1024 : Shape := ⟨4, ![4, 4, 512, 1024]⟩
abbrev S4x16x128x1024 : Shape := ⟨4, ![4, 16, 128, 1024]⟩
abbrev S4x1x2048x128 : Shape := ⟨4, ![4, 1, 2048, 128]⟩
abbrev S4x4x512x128 : Shape := ⟨4, ![4, 4, 512, 128]⟩
abbrev S4x16x128x128 : Shape := ⟨4, ![4, 16, 128, 128]⟩
abbrev S8192x2048 : Shape := ⟨2, ![8192, 2048]⟩
abbrev S2048 : Shape := ⟨1, ![2048]⟩
abbrev S2x1024x2048 : Shape := ⟨3, ![2, 1024, 2048]⟩
abbrev S4x2048x1x1024 : Shape := ⟨4, ![4, 2048, 1, 1024]⟩
abbrev S4x2048x8x128 : Shape := ⟨4, ![4, 2048, 8, 128]⟩
abbrev S4x512x4x1024 : Shape := ⟨4, ![4, 512, 4, 1024]⟩
abbrev S4x128x16x1024 : Shape := ⟨4, ![4, 128, 16, 1024]⟩
abbrev S4x2048x1x128 : Shape := ⟨4, ![4, 2048, 1, 128]⟩
abbrev S4x2048x128 : Shape := ⟨3, ![4, 2048, 128]⟩
abbrev S4x2048x8 : Shape := ⟨3, ![4, 2048, 8]⟩
abbrev S4x512x4x128 : Shape := ⟨4, ![4, 512, 4, 128]⟩
abbrev S4x128x16x128 : Shape := ⟨4, ![4, 128, 16, 128]⟩
abbrev S1x4x2048x8 : Shape := ⟨4, ![1, 4, 2048, 8]⟩
abbrev S3x4x2048x8 : Shape := ⟨4, ![3, 4, 2048, 8]⟩
abbrev S_ : Shape := ⟨0, ![]⟩
abbrev S3x4x2048x8x1 : Shape := ⟨5, ![3, 4, 2048, 8, 1]⟩
abbrev S1x4x2048x8x128 : Shape := ⟨5, ![1, 4, 2048, 8, 128]⟩
abbrev S3x4x2048x8x128 : Shape := ⟨5, ![3, 4, 2048, 8, 128]⟩
abbrev S8192x1024 : Shape := ⟨2, ![8192, 1024]⟩
abbrev S1x1024x2048 : Shape := ⟨3, ![1, 1024, 2048]⟩
abbrev S1024x2048 : Shape := ⟨2, ![1024, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4x1x2048x1024, .bf16⟩
  | .hbm, ⟨1, _⟩ => ⟨S4x4x512x1024, .bf16⟩
  | .hbm, ⟨2, _⟩ => ⟨S4x16x128x1024, .bf16⟩
  | .hbm, ⟨3, _⟩ => ⟨S4x1x2048x128, .f32⟩
  | .hbm, ⟨4, _⟩ => ⟨S4x4x512x128, .f32⟩
  | .hbm, ⟨5, _⟩ => ⟨S4x16x128x128, .f32⟩
  | .hbm, ⟨6, _⟩ => ⟨S8192x2048, .f32⟩
  | .hbm, ⟨7, _⟩ => ⟨S2048, .f32⟩
  | .hbm, ⟨8, _⟩ => ⟨S2x1024x2048, .f32⟩
  | .hbm, ⟨9, _⟩ => ⟨S4x1x2048x1024, .f32⟩
  | .hbm, ⟨10, _⟩ => ⟨S4x2048x1x1024, .f32⟩
  | .hbm, ⟨11, _⟩ => ⟨S4x2048x8x128, .f32⟩
  | .hbm, ⟨12, _⟩ => ⟨S4x4x512x1024, .f32⟩
  | .hbm, ⟨13, _⟩ => ⟨S4x512x4x1024, .f32⟩
  | .hbm, ⟨14, _⟩ => ⟨S4x2048x8x128, .f32⟩
  | .hbm, ⟨15, _⟩ => ⟨S4x16x128x1024, .f32⟩
  | .hbm, ⟨16, _⟩ => ⟨S4x128x16x1024, .f32⟩
  | .hbm, ⟨17, _⟩ => ⟨S4x2048x8x128, .f32⟩
  | .hbm, ⟨18, _⟩ => ⟨S4x2048x1x128, .f32⟩
  | .hbm, ⟨19, _⟩ => ⟨S4x2048x128, .f32⟩
  | .hbm, ⟨20, _⟩ => ⟨S4x2048x8, .f32⟩
  | .hbm, ⟨21, _⟩ => ⟨S4x512x4x128, .f32⟩
  | .hbm, ⟨22, _⟩ => ⟨S4x2048x128, .f32⟩
  | .hbm, ⟨23, _⟩ => ⟨S4x2048x8, .f32⟩
  | .hbm, ⟨24, _⟩ => ⟨S4x128x16x128, .f32⟩
  | .hbm, ⟨25, _⟩ => ⟨S4x2048x128, .f32⟩
  | .hbm, ⟨26, _⟩ => ⟨S4x2048x8, .f32⟩
  | .hbm, ⟨27, _⟩ => ⟨S1x4x2048x8, .f32⟩
  | .hbm, ⟨28, _⟩ => ⟨S1x4x2048x8, .f32⟩
  | .hbm, ⟨29, _⟩ => ⟨S1x4x2048x8, .f32⟩
  | .hbm, ⟨30, _⟩ => ⟨S3x4x2048x8, .f32⟩
  | .hbm, ⟨31, _⟩ => ⟨S_, .f32⟩
  | .hbm, ⟨32, _⟩ => ⟨S4x2048x8, .f32⟩
  | .hbm, ⟨33, _⟩ => ⟨S_, .f32⟩
  | .hbm, ⟨34, _⟩ => ⟨S4x2048x8, .f32⟩
  | .hbm, ⟨35, _⟩ => ⟨S4x2048x8, .f32⟩
  | .hbm, ⟨36, _⟩ => ⟨S1x4x2048x8, .f32⟩
  | .hbm, ⟨37, _⟩ => ⟨S3x4x2048x8, .f32⟩
  | .hbm, ⟨38, _⟩ => ⟨S3x4x2048x8, .f32⟩
  | .hbm, ⟨39, _⟩ => ⟨S3x4x2048x8, .f32⟩
  | .hbm, ⟨40, _⟩ => ⟨S_, .f32⟩
  | .hbm, ⟨41, _⟩ => ⟨S4x2048x8, .f32⟩
  | .hbm, ⟨42, _⟩ => ⟨S1x4x2048x8, .f32⟩
  | .hbm, ⟨43, _⟩ => ⟨S3x4x2048x8, .f32⟩
  | .hbm, ⟨44, _⟩ => ⟨S3x4x2048x8, .f32⟩
  | .hbm, ⟨45, _⟩ => ⟨S3x4x2048x8x1, .f32⟩
  | .hbm, ⟨46, _⟩ => ⟨S1x4x2048x8x128, .f32⟩
  | .hbm, ⟨47, _⟩ => ⟨S1x4x2048x8x128, .f32⟩
  | .hbm, ⟨48, _⟩ => ⟨S1x4x2048x8x128, .f32⟩
  | .hbm, ⟨49, _⟩ => ⟨S3x4x2048x8x128, .f32⟩
  | .hbm, ⟨50, _⟩ => ⟨S3x4x2048x8x128, .f32⟩
  | .hbm, ⟨51, _⟩ => ⟨S3x4x2048x8x128, .f32⟩
  | .hbm, ⟨52, _⟩ => ⟨S_, .f32⟩
  | .hbm, ⟨53, _⟩ => ⟨S4x2048x8x128, .f32⟩
  | .hbm, ⟨54, _⟩ => ⟨S8192x1024, .f32⟩
  | .hbm, ⟨55, _⟩ => ⟨S1x1024x2048, .f32⟩
  | .hbm, ⟨56, _⟩ => ⟨S1024x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | _, _ => ⟨S4x1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel9.lean ====
abbrev S8192x2048 : Shape := ⟨2, ![8192, 2048]⟩
abbrev S2048 : Shape := ⟨1, ![2048]⟩
abbrev S2x2048x8192 : Shape := ⟨3, ![2, 2048, 8192]⟩
abbrev S2x2048 : Shape := ⟨2, ![2, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S1x128x2048 : Shape := ⟨3, ![1, 128, 2048]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S2x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .f32⟩
  | .local _ .vmem, ⟨4, _⟩ => ⟨S2x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_44 : BitVec 32 := 0#32
  let c16_i32 : BitVec 32 := 16#32
  let v116 : BitVec 32 := Scalar.addi c0_i32_44 c16_i32
  let c1_i32 : BitVec 32 := 1#32
  ⟨c0_i32_44, v116, c1_i32⟩
def k0_mult1 (k0_t1 : Fin k0_t1_loop.trips) : BitVec 32 :=
  let c0_i32_44 : BitVec 32 := 0#32
  let c1_i32 : BitVec 32 := 1#32
  let arg8 : BitVec 32 := Scf.iv c0_i32_44 c1_i32 k0_t1
  let c128_i32 : BitVec 32 := 128#32
  let v117 : BitVec 32 := Scalar.muli arg8 c128_i32
  v117
def k0_off1 (k0_t1 : Fin k0_t1_loop.trips) : Fin 3 → Nat :=
  let c0_46 : Index := 0#32
  let c0_i32_44 : BitVec 32 := 0#32
  let c1_i32 : BitVec 32 := 1#32
  let arg8 : BitVec 32 := Scf.iv c0_i32_44 c1_i32 k0_t1
  let c128_i32 : BitVec 32 := 128#32
  let v117 : BitVec 32 := Scalar.muli arg8 c128_i32
  let v118 : BitVec 32 := v117
  let v119 : Index := Scalar.indexCast v118
  let c0_47 : Index := 0#32
  ![0, v119.toNat, 0]
def k0_off2 (k0_t1 : Fin k0_t1_loop.trips) : Fin 2 → Nat :=
  let c0_i32_44 : BitVec 32 := 0#32
  let c1_i32 : BitVec 32 := 1#32
  let arg8 : BitVec 32 := Scf.iv c0_i32_44 c1_i32 k0_t1
  let c128_i32 : BitVec 32 := 128#32
  let v117 : BitVec 32 := Scalar.muli arg8 c128_i32
  let v118 : BitVec 32 := v117
  let v123 : Index := Scalar.indexCast v118
  let c0_48 : Index := 0#32
  ![v123.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x2048 : Shape := ⟨2, ![8192, 2048]⟩
abbrev S2048 : Shape := ⟨1, ![2048]⟩
abbrev S2x2048x8192 : Shape := ⟨3, ![2, 2048, 8192]⟩
abbrev S2x2048 : Shape := ⟨2, ![2, 2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x8192, .f32⟩
  | .hbm, ⟨3, _⟩ => ⟨S2x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048x2048, .f32⟩
  | .hbm, ⟨43, _⟩ => ⟨S2048x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .i1⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .i1⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S_, .f32⟩
  | .hbm, ⟨86, _⟩ => ⟨S8192x2048, .f32⟩
  | .hbm, ⟨87, _⟩ => ⟨S8192x2048, .f32⟩
  | .hbm, ⟨88, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_6 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== Proof.AttnSpec.lean ====
module

public import Idealize.ShloMosaic.Lib.Pipeline.ValueKit

/-! # Attention of one query to the 256 keys of its block and of the block before it -/

@[expose] public section

noncomputable section

open Idealize.ShloMosaic

namespace Cert.Attn

/-- A score where the key may be seen, the mask's large negative number elsewhere. -/
def msk (ok : BitVec 1) (x : EReal) : EReal := if ok = 1#1 then x else Ideal.ofBits .f32 0xF149F2CA#32

/-- The largest of the scores. -/
def mx (s : Fin 256 → EReal) : EReal := Finset.univ.fold max (Ideal.ofBits .f32 0xFF800000#32) s

/-- The weight of a key, before it is divided by the sum of the weights. -/
def wt (s : Fin 256 → EReal) (k : Fin 256) : EReal := Ideal.exp (s k - mx s)

/-- The sum of the weights. -/
def tot (s : Fin 256 → EReal) : EReal := ∑ k, wt s k

/-- The logarithm of the sum of the exponentials of the scores. -/
def lse (s : Fin 256 → EReal) : EReal := mx s + Ideal.log (tot s)

/-- The kernel's order: the weighted sum of the values, then one division. -/
def out (s v : Fin 256 → EReal) : EReal := Ideal.div (∑ k, wt s k * v k) (tot s)

/-- The reference's order: every weight is divided first. -/
def outR (s v : Fin 256 → EReal) : EReal := ∑ k, Ideal.div (wt s k) (tot s) * v k

/-- Whether row `i` of a sequence may see key `k` of the 256 keys that end with its own block of 128. -/
def ok (i k : ℕ) : BitVec 1 := if (i % 128 ≤ k ∧ k ≤ i % 128 + 128) ∧ (128 ≤ i ∨ 128 ≤ k) then 1#1 else 0#1

/-- A sequence with 128 rows of zeros in front. -/
def padded (X : ℕ → ℕ → EReal) (p c : ℕ) : EReal := if 128 ≤ p then X (p - 128) c else 0

/-- The masked scores of row `i` in head `h`: queries in columns below 1024, keys in the next 1024. -/
def score (X : ℕ → ℕ → EReal) (i h : ℕ) (k : Fin 256) : EReal :=
  msk (ok i k) (∑ e : Fin 128, X i (128 * h + e) * padded X (128 * (i / 128) + k) (1024 + (128 * h + e)))

/-- The values row `i` sees in column `c` of the heads. -/
def value (X : ℕ → ℕ → EReal) (i c : ℕ) (k : Fin 256) : EReal :=
  padded X (128 * (i / 128) + k) (2048 + c)

/-- The number that row `i` holds in lane `l` beside its output: one head's `lse` in each of the first 8 lanes. -/
def lane (X : ℕ → ℕ → EReal) (i l : ℕ) : EReal := if l < 8 then lse (score X i l) else 0

/-- Two lists of 128, one after the other. -/
def halves (a b : Fin 128 → EReal) (k : Fin 256) : EReal :=
  if h : k.val < 128 then a ⟨k, h⟩ else b ⟨k - 128, by omega⟩

theorem halves_lo (a b : Fin 128 → EReal) (j : Fin 128) (h : j.val < 256) : halves a b ⟨j, h⟩ = a j :=
  dif_pos j.isLt

theorem halves_hi (a b : Fin 128 → EReal) (j : Fin 128) (h : 128 + j.val < 256) : halves a b ⟨128 + j, h⟩ = b j := by
  refine (dif_neg (show ¬ 128 + j.val < 128 by omega)).trans (congrArg b (Fin.ext ?_))
  show 128 + j.val - 128 = j.val
  omega

theorem halves_eq (a b : Fin 128 → EReal) (f : Fin 256 → EReal) (ha : ∀ j : Fin 128, a j = f ⟨j, by omega⟩)
    (hb : ∀ j : Fin 128, b j = f ⟨128 + j, by omega⟩) : halves a b = f := by
  funext k
  unfold halves
  split_ifs with h
  · exact ha _
  · refine (hb _).trans (congrArg f (Fin.ext ?_))
    show 128 + (k.val - 128) = k.val
    omega

/-- A sum over 256 as a sum over each half. -/
theorem sum_halves (f : Fin 256 → EReal) :
    ∑ k, f k = (∑ j : Fin 128, f ⟨j, by omega⟩) + ∑ j : Fin 128, f ⟨128 + j, by omega⟩ :=
  Fin.sum_univ_add (a := 128) (b := 128) f

end Cert.Attn
-- ==== Proof.AttnBlock.lean ====
module

public import proofs.«01_k».proof.Proof.Gen.KernelIdeal.Value
public import Idealize.ShloMosaic.Lib.Pipeline.ValueKit
public import Idealize.ShloMosaic.Lib.Pipeline.ReadBack
public import proofs.«01_k».proof.Proof.AttnSpec

/-! # One head of one group of 128 query rows, as the kernel computes it -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The masked scores of 128 queries against 128 earlier and 128 own keys. -/
abbrev scores (mk : IVec S128x256 1) (q : Vec Ideal S1x1x128x128 .bf16) (kp : FVec Ideal S128x128 .bf16)
    (kc : Vec Ideal S1x1x128x128 .bf16) : FVec Ideal S128x256 .f32 :=
  select mk (matmul dot_S128x128_S256x128_S128x256_1_1_0_0_n_n none
      (shapeCast S128x128 q shapeCasts_S1x1x128x128_S128x128 : FVec Ideal S128x128 .bf16)
      (concatenate S256x128 0 [⟨S128x128, kp⟩, ⟨S128x128, (shapeCast S128x128 kc shapeCasts_S1x1x128x128_S128x128 : FVec Ideal S128x128 .bf16)⟩]
        concatenates_S128x128_S128x128_S256x128_d0) (constant S128x256 .f32 0x00000000#32))
    (broadcast S128x256 (Scalar.ofBits .f32 0xF149F2CA#32))

/-- The largest score of every row. -/
abbrev rowMax (s : FVec Ideal S128x256 .f32) : FVec Ideal S128x1 .f32 :=
  shapeCast S128x1 (multiReduction .maximumf [1] S128 s 0xFF800000#32 reduces_S128x256_S128 (.inl rfl) rfl)
    shapeCasts_S128_S128x1

/-- The weights `exp (score - max)`, not yet divided by their sum. -/
abbrev weights (s : FVec Ideal S128x256 .f32) : FVec Ideal S128x256 .f32 :=
  exp (subf (shapeCast S128x256 (shapeCast S1x128x256 s shapeCasts_S128x256_S1x128x256) shapeCasts_S1x128x256_S128x256)
    (broadcastTo S128x256 (rowMax s) broadcasts_S128x1_S128x256))

/-- The sum of the weights of every row. -/
abbrev rowSum (s : FVec Ideal S128x256 .f32) : FVec Ideal S128x1 .f32 :=
  shapeCast S128x1 (multiReduction .add [1] S128 (weights s) 0x00000000#32 reduces_S128x256_S128 (.inl rfl) rfl)
    shapeCasts_S128_S128x1

/-- The weighted sum of the values, divided by the sum of the weights. -/
abbrev headOf (s : FVec Ideal S128x256 .f32) (vp : FVec Ideal S128x128 .bf16) (vc : Vec Ideal S1x1x128x128 .bf16) :
    Vec Ideal S1x1x128x128 .bf16 :=
  shapeCast S1x1x128x128
    (truncf .bf16 (divf (matmul dot_S128x256_S256x128_S128x128_1_0_0_1_n_n none
        (truncf .bf16 (weights s) bitsLt_bf16_f32)
        (concatenate S256x128 0 [⟨S128x128, vp⟩, ⟨S128x128, (shapeCast S128x128 vc shapeCasts_S1x1x128x128_S128x128 : FVec Ideal S128x128 .bf16)⟩]
          concatenates_S128x128_S128x128_S256x128_d0) (constant S128x128 .f32 0x00000000#32))
      (broadcastTo S128x128 (rowSum s) broadcasts_S128x1_S128x128)) bitsLt_bf16_f32)
    shapeCasts_S128x128_S1x1x128x128

/-- The output of a head from its queries, its keys and its values. -/
abbrev headPiece (mk : IVec S128x256 1) (q : Vec Ideal S1x1x128x128 .bf16) (kp : FVec Ideal S128x128 .bf16)
    (kc : Vec Ideal S1x1x128x128 .bf16) (vp : FVec Ideal S128x128 .bf16) (vc : Vec Ideal S1x1x128x128 .bf16) :
    Vec Ideal S1x1x128x128 .bf16 := headOf (scores mk q kp kc) vp vc

theorem scores_at (mk : IVec S128x256 1) (q : Vec Ideal S1x1x128x128 .bf16) (kp : FVec Ideal S128x128 .bf16)
    (kc : Vec Ideal S1x1x128x128 .bf16) (r : Fin 128) (k : Fin 256) :
    scores mk q kp kc (ix2 r k) = Attn.msk (mk (ix2 r k)) (∑ e : Fin 128, q (ix4 0 0 r e) *
      Attn.halves (fun j => kp (ix2 j e)) (fun j => kc (ix4 0 0 j e)) k) := by
  pointwise [scores]
  rfl

theorem head_at (s : FVec Ideal S128x256 .f32) (vp : FVec Ideal S128x128 .bf16) (vc : Vec Ideal S1x1x128x128 .bf16) (r d : Fin 128) :
    headOf s vp vc (ix4 0 0 r d) = Attn.out (fun k => s (ix2 r k))
      (Attn.halves (fun j => vp (ix2 j d)) (fun j => vc (ix4 0 0 j d))) := by
  pointwise [headOf, weights, rowMax, rowSum]
  refine congrArg₂ Ideal.div ?_ rfl
  rw [Attn.sum_halves]
  simp only [Attn.halves_lo, Attn.halves_hi]
  rfl

/-- One lane of the numbers beside the output, written over the lanes before it. -/
abbrev lseStep (n : ℕ) (s : FVec Ideal S128x256 .f32) (acc : FVec Ideal S128x128 .f32) : FVec Ideal S128x128 .f32 :=
  select (cmpi .eq (iota .tc S128x128 32 [1] iota_S128x128_d1_w32) (broadcast S128x128 (BitVec.ofNat 32 n)))
    (broadcastTo S128x128 (shapeCast S128x1 (addf (rowMax s) (log (rowSum s))) shapeCasts_S128x1_S128x1) broadcasts_S128x1_S128x128) acc

theorem lseStep_at (n : ℕ) (hn : n < 128) (s : FVec Ideal S128x256 .f32) (acc : FVec Ideal S128x128 .f32) (r l : Fin 128) :
    lseStep n s acc (ix2 r l) = if l.val = n then Attn.lse (fun k => s (ix2 r k)) else acc (ix2 r l) := by
  pointwise [lseStep, weights, rowMax, rowSum]
  rw [Idealize.ShloMosaic.WordCmp.cmpi_eq_ofNat (by omega) (by omega)]
  by_cases h : l.val = n
  · rw [if_pos h, decide_eq_true h]; rfl
  · rw [if_neg h, decide_eq_false h]; rfl

/-- The numbers beside the output of 128 rows, from the scores of the eight heads. -/
abbrev lsePiece (s0 s1 s2 s3 s4 s5 s6 s7 : FVec Ideal S128x256 .f32) : Vec Ideal S1x1x128x128 .f32 :=
  shapeCast S1x1x128x128 (lseStep 7 s7 (lseStep 6 s6 (lseStep 5 s5 (lseStep 4 s4 (lseStep 3 s3 (lseStep 2 s2
    (lseStep 1 s1 (lseStep 0 s0 (broadcast S128x128 (Scalar.ofBits .f32 0x00000000#32)))))))))) shapeCasts_S128x128_S1x1x128x128

theorem lsePiece_at (s0 s1 s2 s3 s4 s5 s6 s7 : FVec Ideal S128x256 .f32) (Y : ℕ → ℕ → EReal) (i : ℕ) (r l : Fin 128)
    (h0 : (fun k => s0 (ix2 r k)) = Attn.score Y i 0) (h1 : (fun k => s1 (ix2 r k)) = Attn.score Y i 1)
    (h2 : (fun k => s2 (ix2 r k)) = Attn.score Y i 2) (h3 : (fun k => s3 (ix2 r k)) = Attn.score Y i 3)
    (h4 : (fun k => s4 (ix2 r k)) = Attn.score Y i 4) (h5 : (fun k => s5 (ix2 r k)) = Attn.score Y i 5)
    (h6 : (fun k => s6 (ix2 r k)) = Attn.score Y i 6) (h7 : (fun k => s7 (ix2 r k)) = Attn.score Y i 7) :
    lsePiece s0 s1 s2 s3 s4 s5 s6 s7 (ix4 0 0 r l) = Attn.lane Y i l := by
  have hcast : ∀ W : FVec Ideal S128x128 .f32,
      (shapeCast S1x1x128x128 W shapeCasts_S128x128_S1x1x128x128 : Vec Ideal S1x1x128x128 .f32) (ix4 0 0 r l) = W (ix2 r l) := by
    intro W; pointwise
  have hz : (broadcast S128x128 (Scalar.ofBits .f32 0x00000000#32) : FVec Ideal S128x128 .f32) (ix2 r l) = (0 : EReal) := by pointwise
  refine (hcast _).trans ?_
  rw [lseStep_at 7 (by omega), lseStep_at 6 (by omega), lseStep_at 5 (by omega), lseStep_at 4 (by omega), lseStep_at 3 (by omega),
    lseStep_at 2 (by omega), lseStep_at 1 (by omega), lseStep_at 0 (by omega), h0, h1, h2, h3, h4, h5, h6, h7, hz, Attn.lane]
  generalize l.val = n
  by_cases h : n < 8
  · rw [if_pos h]
    interval_cases n <;> rfl
  · rw [if_neg h, if_neg (by omega), if_neg (by omega), if_neg (by omega), if_neg (by omega), if_neg (by omega), if_neg (by omega),
      if_neg (by omega), if_neg (by omega)]

theorem mask_at (r : Fin 128) (k : Fin 256) :
    k0_pay4 (ix2 r k) = if r.val ≤ k.val ∧ k.val ≤ r.val + 128 then 1#1 else 0#1 := by
  pointwise [k0_pay4]
  have h1 : IntOp.addi (BitVec.ofNat 32 r.val) 128#32 = BitVec.ofNat 32 (r.val + 128) := (BitVec.ofNat_add ..).symm
  rw [h1, Idealize.ShloMosaic.WordCmp.cmpi_sge_ofNat (by omega) (by omega), Idealize.ShloMosaic.WordCmp.cmpi_sle_ofNat (by omega) (by omega)]
  by_cases ha : r.val ≤ k.val <;> by_cases hb : k.val ≤ r.val + 128 <;> simp [ha, hb, IntOp.andi]

theorem mask_first_at (i : grid0.Coords) (r : Fin 128) (k : Fin 256) :
    k0_pay5 i (ix2 r k) = if (r.val ≤ k.val ∧ k.val ≤ r.val + 128) ∧ ((i 2).val ≠ 0 ∨ 128 ≤ k.val) then 1#1 else 0#1 := by
  pointwise [k0_pay5]
  rw [mask_at]
  have h2 : (i 2).val < 4 := (i 2).isLt
  generalize (i 2).val = n at h2 ⊢
  have hk : IntOp.cmpi CmpIPredicate.sge (BitVec.ofNat 32 k.val) 128#32 = if 128 ≤ k.val then 1#1 else 0#1 := by
    revert k; decide +kernel
  have hn : Scalar.xori (Scalar.cmpi CmpIPredicate.eq (BitVec.ofNat 32 n) 0#32) 1#1 = if n ≠ 0 then 1#1 else 0#1 := by
    have h : ∀ n : Fin 4, Scalar.xori (Scalar.cmpi CmpIPredicate.eq (BitVec.ofNat 32 n.val) 0#32) 1#1 = if n.val ≠ 0 then 1#1 else 0#1 := by
      decide
    exact h ⟨n, h2⟩
  rw [hk, hn]
  by_cases ha : r.val ≤ k.val ∧ k.val ≤ r.val + 128 <;> by_cases hb : 128 ≤ k.val <;> by_cases hc : n = 0 <;>
    simp [ha, hb, hc, IntOp.andi, IntOp.ori]

variable (m : (ℓ : Loc nD τ sig) → Buf (Elt Ideal) ℓ)

/-- The argument's rows of batch `b`, by natural numbers. -/
def X (c : Dev nD) (b i j : ℕ) : EReal :=
  if h : b < 4 ∧ i < 2048 ∧ j < 3072 then m (c.tc.loc main_arg0) (ix4 ⟨b, h.1⟩ 0 ⟨i, h.2.1⟩ ⟨j, h.2.2⟩) else 0

theorem idx0 : ∀ t : Fin cfg0.N, win0_0.index t = ![t.val / 4, 0, t.val % 4, 0] := (by decide +kernel : ∀ t : Fin grid0.N, _)
theorem idx1 : ∀ t : Fin cfg0.N, win0_1.index t = ![t.val / 4, 0, t.val % 4, 1] := (by decide +kernel : ∀ t : Fin grid0.N, _)
theorem idx2 : ∀ t : Fin cfg0.N, win0_2.index t = ![t.val / 4, 0, t.val % 4, 2] := (by decide +kernel : ∀ t : Fin grid0.N, _)
theorem idx3 : ∀ t : Fin cfg0.N, win0_3.index t = ![t.val / 4, 0, t.val % 4, 0] := (by decide +kernel : ∀ t : Fin grid0.N, _)
theorem idx4 : ∀ t : Fin cfg0.N, win0_4.index t = ![t.val / 4, 0, t.val % 4, 0] := (by decide +kernel : ∀ t : Fin grid0.N, _)

theorem blk0_at (c : Dev nD) (t : Fin cfg0.N) (i : Fin 512) (j : Fin 1024) :
    iblk m c 0 t (ix4 0 0 i j) = X m c (t.val / 4) (512 * (t.val % 4) + i) j := by
  have hN : t.val < 16 := t.isLt
  rw [X, dif_pos ⟨by omega, by omega, by omega⟩]
  blk_point [iblk, V, idx0 t]

theorem blk1_at (c : Dev nD) (t : Fin cfg0.N) (i : Fin 512) (j : Fin 1024) :
    iblk m c 1 t (ix4 0 0 i j) = X m c (t.val / 4) (512 * (t.val % 4) + i) (1024 + j) := by
  have hN : t.val < 16 := t.isLt
  rw [X, dif_pos ⟨by omega, by omega, by omega⟩]
  blk_point [iblk, V, idx1 t]

theorem blk2_at (c : Dev nD) (t : Fin cfg0.N) (i : Fin 512) (j : Fin 1024) :
    iblk m c 2 t (ix4 0 0 i j) = X m c (t.val / 4) (512 * (t.val % 4) + i) (2048 + j) := by
  have hN : t.val < 16 := t.isLt
  rw [X, dif_pos ⟨by omega, by omega, by omega⟩]
  blk_point [iblk, V, idx2 t]

theorem ld_at (w : Vec Ideal S1x1x512x1024 .bf16) (row col : ℕ) (h : ∀ d, (![0, 0, row, col] : Fin 4 → ℕ) d + (![1, 1, 128, 128] : Fin 4 → ℕ) d ≤ S1x1x512x1024.size d)
   (r e : Fin 128) (hr : row + 128 ≤ 512) (hc : col + 128 ≤ 1024) :
   (View.ld w (Rect.unit ![0, 0, row, col] ![1, 1, 128, 128] h) : Vec Ideal S1x1x128x128 .bf16) (ix4 0 0 r e) = w (ix4 0 0 ⟨row + r, by omega⟩ ⟨col + e, by omega⟩) := by
  pointwise

end Cert.KernelIdeal.Value
-- ==== Proof.AttnKernel.lean ====
module

public import proofs.«01_k».proof.Proof.AttnBlock

/-! # What the attention kernel leaves in its output windows -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- Rows `i0, …, i0 + 127` and head `h`: the scores, once every operand is read off the sequence `Y`. -/
theorem scores_eq (Y : ℕ → ℕ → EReal) (mk : IVec S128x256 1) (q : Vec Ideal S1x1x128x128 .bf16) (kp : FVec Ideal S128x128 .bf16)
    (kc : Vec Ideal S1x1x128x128 .bf16) (i0 h : ℕ) (hi0 : i0 % 128 = 0)
    (hmk : ∀ r k, mk (ix2 r k) = Attn.ok (i0 + r.val) k.val)
    (hq : ∀ r e, q (ix4 0 0 r e) = Y (i0 + r.val) (128 * h + e.val))
    (hkp : ∀ j e, kp (ix2 j e) = Attn.padded Y (i0 + j.val) (1024 + (128 * h + e.val)))
    (hkc : ∀ j e, kc (ix4 0 0 j e) = Y (i0 + j.val) (1024 + (128 * h + e.val))) (r : Fin 128) :
    (fun k => scores mk q kp kc (ix2 r k)) = Attn.score Y (i0 + r.val) h := by
  funext k
  refine (scores_at mk q kp kc r k).trans ?_
  rw [hmk]
  refine congrArg (Attn.msk _) (Finset.sum_congr rfl fun e _ => ?_)
  rw [hq]
  refine congrArg (_ * ·) ?_
  have e1 : 128 * ((i0 + r.val) / 128) = i0 := by omega
  rw [e1]
  exact congrFun (Attn.halves_eq _ _ (fun k => Attn.padded Y (i0 + k.val) (1024 + (128 * h + e.val)))
    (fun j => hkp j e)
    (fun j => by
      rw [hkc, Attn.padded, if_pos (by show 128 ≤ i0 + (128 + j.val); omega)]
      refine congrArg (Y · _) ?_
      show i0 + j.val = i0 + (128 + j.val) - 128
      omega)) k

/-- The same for the output of the head. -/
theorem head_eq (Y : ℕ → ℕ → EReal) (mk : IVec S128x256 1) (q : Vec Ideal S1x1x128x128 .bf16) (kp : FVec Ideal S128x128 .bf16)
    (kc : Vec Ideal S1x1x128x128 .bf16) (vp : FVec Ideal S128x128 .bf16) (vc : Vec Ideal S1x1x128x128 .bf16)
    (i0 h : ℕ) (hi0 : i0 % 128 = 0)
    (hmk : ∀ r k, mk (ix2 r k) = Attn.ok (i0 + r.val) k.val)
    (hq : ∀ r e, q (ix4 0 0 r e) = Y (i0 + r.val) (128 * h + e.val))
    (hkp : ∀ j e, kp (ix2 j e) = Attn.padded Y (i0 + j.val) (1024 + (128 * h + e.val)))
    (hkc : ∀ j e, kc (ix4 0 0 j e) = Y (i0 + j.val) (1024 + (128 * h + e.val)))
    (hvp : ∀ j e, vp (ix2 j e) = Attn.padded Y (i0 + j.val) (2048 + (128 * h + e.val)))
    (hvc : ∀ j e, vc (ix4 0 0 j e) = Y (i0 + j.val) (2048 + (128 * h + e.val))) (r d : Fin 128) :
    headPiece mk q kp kc vp vc (ix4 0 0 r d)
      = Attn.out (Attn.score Y (i0 + r.val) h) (Attn.value Y (i0 + r.val) (128 * h + d.val)) := by
  refine (head_at _ vp vc r d).trans ?_
  refine congrArg₂ Attn.out (scores_eq Y mk q kp kc i0 h hi0 hmk hq hkp hkc r) ?_
  have e1 : 128 * ((i0 + r.val) / 128) = i0 := by omega
  refine Attn.halves_eq _ _ _ (fun j => ?_) (fun j => ?_)
  · rw [hvp, Attn.value, e1]
  · rw [hvc, Attn.value, e1, Attn.padded, if_pos (by show 128 ≤ i0 + (128 + j.val); omega)]
    refine congrArg (Y · _) ?_
    show i0 + j.val = i0 + (128 + j.val) - 128
    omega

variable (m : (ℓ : Loc nD τ sig) → Buf (Elt Ideal) ℓ)

/-- What the point's output window holds at an index. -/
def outAt (c : Dev nD) (t : Fin cfg0.N) (y : S1x1x512x1024.Idx) : EReal :=
  Attn.out (Attn.score (X m c (t.val / 4)) (512 * (t.val % 4) + (y 2).val) ((y 3).val / 128))
    (Attn.value (X m c (t.val / 4)) (512 * (t.val % 4) + (y 2).val) (y 3).val)

/-- A block of 128 rows and one head lies in a window, and in the scratch. -/
abbrev Fits (row col : ℕ) : Prop :=
  ∀ d, (![0, 0, row, col] : Fin 4 → ℕ) d + (![1, 1, 128, 128] : Fin 4 → ℕ) d ≤ S1x1x512x1024.size d

abbrev FitsPrev (p col : ℕ) : Prop :=
  ∀ d, (![p, 0, col] : Fin 3 → ℕ) d + (![1, 128, 128] : Fin 3 → ℕ) d ≤ S2x128x1024.size d

/-- A block of 128 rows and one head, read out of a window. -/
abbrev cutAt (w : Vec Ideal S1x1x512x1024 .bf16) (row col : ℕ)
    (h : Fits row col) :
    Vec Ideal S1x1x128x128 .bf16 :=
  View.ld w (Rect.unit ![0, 0, row, col] ![1, 1, 128, 128] h)

theorem cut_at (w : Vec Ideal S1x1x512x1024 .bf16) (row col : ℕ)
    (h : Fits row col)
    (r e : Fin 128) (hr : row + 128 ≤ 512) (hc : col + 128 ≤ 1024) :
    cutAt w row col h (ix4 0 0 r e) = w (ix4 0 0 ⟨row + r, by omega⟩ ⟨col + e, by omega⟩) :=
  ld_at w row col h r e hr hc

/-- The same block without its two axes of extent one. -/
abbrev cut2 (w : Vec Ideal S1x1x512x1024 .bf16) (row col : ℕ)
    (h : Fits row col) :
    FVec Ideal S128x128 .bf16 := shapeCast S128x128 (cutAt w row col h) shapeCasts_S1x1x128x128_S128x128

theorem cut2_at (w : Vec Ideal S1x1x512x1024 .bf16) (row col : ℕ)
    (h : Fits row col)
    (r e : Fin 128) (hr : row + 128 ≤ 512) (hc : col + 128 ≤ 1024) :
    cut2 w row col h (ix2 r e) = w (ix4 0 0 ⟨row + r, by omega⟩ ⟨col + e, by omega⟩) := by
  pointwise
  exact ld_at w row col h r e hr hc

/-- One head of the block before, out of the scratch that carries the keys (`p = 0`) and the values (`p = 1`). -/
abbrev cutPrev (P : Vec Ideal S2x128x1024 .bf16) (p col : ℕ)
    (h : FitsPrev p col) :
    FVec Ideal S128x128 .bf16 :=
  shapeCast S128x128 (View.ld P (Rect.unit ![p, 0, col] ![1, 128, 128] h) : Vec Ideal S1x128x128 .bf16) shapeCasts_S1x128x128_S128x128

theorem cutPrev_at (P : Vec Ideal S2x128x1024 .bf16) (p col : ℕ)
    (h : FitsPrev p col)
    (r e : Fin 128) (hp : p < 2) (hc : col + 128 ≤ 1024) :
    cutPrev P p col h (ix2 r e) = P (ix3 ⟨p, hp⟩ r ⟨col + e, by omega⟩) := by
  have hcast : ∀ W : Vec Ideal S1x128x128 .bf16,
      (shapeCast S128x128 W shapeCasts_S1x128x128_S128x128 : FVec Ideal S128x128 .bf16) (ix2 r e) = W (ix3 0 r e) := by
    intro W; pointwise
  refine (hcast _).trans (View.ld_unit_apply_of P _ _ h _ _ fun a => ?_)
  fin_cases a
  · rfl
  · exact (Nat.zero_add _).symm
  · rfl

variable (c : Dev nD) (t : Fin cfg0.N)

/-- The scores of the block at `row`, `col`: the keys before it are named by what they hold. -/
theorem piece_scores (mk : IVec S128x256 1) (kp : FVec Ideal S128x128 .bf16) (row col : ℕ) (h1)
    (hr : row + 128 ≤ 512) (hr0 : row % 128 = 0) (hc : col + 128 ≤ 1024) (hc0 : col % 128 = 0)
    (hmk : ∀ r k, mk (ix2 r k) = Attn.ok (512 * (t.val % 4) + row + r.val) k.val)
    (hkp : ∀ j e, kp (ix2 j e) = Attn.padded (X m c (t.val / 4)) (512 * (t.val % 4) + row + j.val) (1024 + (col + e.val)))
    (r : Fin 128) :
    (fun k => scores mk (cutAt (iblk m c 0 t) row col h1) kp (cutAt (iblk m c 1 t) row col h1) (ix2 r k))
      = Attn.score (X m c (t.val / 4)) (512 * (t.val % 4) + row + r.val) (col / 128) := by
  have ec : 128 * (col / 128) = col := by omega
  refine scores_eq _ _ _ _ _ _ _ (by omega) hmk (fun r e => ?_) (fun j e => ?_) (fun r e => ?_) r
  · rw [cut_at _ _ _ h1 r e hr hc, blk0_at, ec, Nat.add_assoc]
  · rw [hkp, ec]
  · rw [cut_at _ _ _ h1 r e hr hc, blk1_at, ec, Nat.add_assoc]

/-- The output of the block at `row`, `col`. -/
theorem piece (mk : IVec S128x256 1) (kp vp : FVec Ideal S128x128 .bf16) (row col : ℕ) (h1)
    (hr : row + 128 ≤ 512) (hr0 : row % 128 = 0) (hc : col + 128 ≤ 1024) (hc0 : col % 128 = 0)
    (hmk : ∀ r k, mk (ix2 r k) = Attn.ok (512 * (t.val % 4) + row + r.val) k.val)
    (hkp : ∀ j e, kp (ix2 j e) = Attn.padded (X m c (t.val / 4)) (512 * (t.val % 4) + row + j.val) (1024 + (col + e.val)))
    (hvp : ∀ j e, vp (ix2 j e) = Attn.padded (X m c (t.val / 4)) (512 * (t.val % 4) + row + j.val) (2048 + (col + e.val)))
    (y : S1x1x512x1024.Idx) (x : S1x1x128x128.Idx) (hy2 : (y 2).val = row + (x 2).val) (hy3 : (y 3).val = col + (x 3).val) :
    headPiece mk (cutAt (iblk m c 0 t) row col h1) kp (cutAt (iblk m c 1 t) row col h1) vp (cutAt (iblk m c 2 t) row col h1) x
      = outAt m c t y := by
  obtain ⟨r, d, rfl⟩ : ∃ (r d : Fin 128), x = ix4 0 0 r d :=
    ⟨x 2, x 3, by funext k; fin_cases k <;> first | rfl | exact Subsingleton.elim (α := Fin 1) _ _⟩
  change (y 2).val = row + r.val at hy2
  change (y 3).val = col + d.val at hy3
  have e3 : (y 3).val / 128 = col / 128 := by omega
  have ec : 128 * (col / 128) = col := by omega
  rw [outAt, e3, hy2, hy3, ← Nat.add_assoc (512 * (t.val % 4))]
  refine (head_eq (X m c (t.val / 4)) mk _ kp _ vp _ (512 * (t.val % 4) + row) (col / 128) (by omega) hmk
    (fun r e => ?_) (fun j e => ?_) (fun r e => ?_) (fun j e => ?_) (fun r e => ?_) r d).trans (by rw [ec])
  · rw [cut_at _ _ _ h1 r e hr hc, blk0_at, ec, Nat.add_assoc]
  · rw [hkp, ec]
  · rw [cut_at _ _ _ h1 r e hr hc, blk1_at, ec, Nat.add_assoc]
  · rw [hvp, ec]
  · rw [cut_at _ _ _ h1 r e hr hc, blk2_at, ec, Nat.add_assoc]

/-- The mask of a block of rows that has another block before it. -/
theorem mask_inner (row : ℕ) (hr : 128 ≤ row) (hr0 : row % 128 = 0) (r : Fin 128) (k : Fin 256) :
    k0_pay4 (ix2 r k) = Attn.ok (512 * (t.val % 4) + row + r.val) k.val := by
  rw [mask_at, Attn.ok]
  have : (512 * (t.val % 4) + row + r.val) % 128 = r.val := by omega
  rw [this]
  exact if_congr ⟨fun h => ⟨h, .inl (by omega)⟩, fun h => h.1⟩ rfl rfl

theorem coord2 : ∀ t : Fin cfg0.N, ((grid0.coords t) 2).val = t.val % 4 := (by decide +kernel : ∀ t : Fin grid0.N, _)

/-- The mask of the first block of rows of a window. -/
theorem mask_first (r : Fin 128) (k : Fin 256) :
    k0_pay5 (grid0.coords t) (ix2 r k) = Attn.ok (512 * (t.val % 4) + 0 + r.val) k.val := by
  rw [mask_first_at, Attn.ok, coord2]
  have : (512 * (t.val % 4) + 0 + r.val) % 128 = r.val := by omega
  rw [this]
  exact if_congr (and_congr_right fun _ => or_congr_left ⟨fun h => by omega, fun h => by omega⟩) rfl rfl

/-- The keys and the values before a block that has another block before it in the window. -/
theorem keys_inner (row r0 col : ℕ) (h2) (hrow : row = r0 + 128) (hr : row + 128 ≤ 512) (hc : col + 128 ≤ 1024) (j e : Fin 128) :
    cut2 (iblk m c 1 t) r0 col h2 (ix2 j e)
      = Attn.padded (X m c (t.val / 4)) (512 * (t.val % 4) + row + j.val) (1024 + (col + e.val)) := by
  rw [cut2_at _ _ _ h2 j e (by omega) hc, blk1_at, Attn.padded, if_pos (by omega)]
  refine congrArg (fun i => X m c (t.val / 4) i (1024 + (col + e.val))) ?_
  show 512 * (t.val % 4) + (r0 + j.val) = _
  omega

theorem values_inner (row r0 col : ℕ) (h2) (hrow : row = r0 + 128) (hr : row + 128 ≤ 512) (hc : col + 128 ≤ 1024) (j e : Fin 128) :
    cut2 (iblk m c 2 t) r0 col h2 (ix2 j e)
      = Attn.padded (X m c (t.val / 4)) (512 * (t.val % 4) + row + j.val) (2048 + (col + e.val)) := by
  rw [cut2_at _ _ _ h2 j e (by omega) hc, blk2_at, Attn.padded, if_pos (by omega)]
  refine congrArg (fun i => X m c (t.val / 4) i (2048 + (col + e.val))) ?_
  show 512 * (t.val % 4) + (r0 + j.val) = _
  omega

/-- The scratch holds the 128 rows before the window: zeros before the first row of the sequence. -/
def Carries (P : Vec Ideal S2x128x1024 .bf16) : Prop :=
  ∀ (p : Fin 2) (j : Fin 128) (e : Fin 1024),
    P (ix3 p j e) = Attn.padded (X m c (t.val / 4)) (512 * (t.val % 4) + j.val) (1024 * (p.val + 1) + e.val)

variable {m c t}

theorem keys_first {P : Vec Ideal S2x128x1024 .bf16} (hP : Carries m c t P) (col : ℕ) (h) (hc : col + 128 ≤ 1024) (j e : Fin 128) :
    cutPrev P 0 col h (ix2 j e) = Attn.padded (X m c (t.val / 4)) (512 * (t.val % 4) + 0 + j.val) (1024 + (col + e.val)) :=
  (cutPrev_at P 0 col h j e (by omega) hc).trans (hP _ _ _)

theorem values_first {P : Vec Ideal S2x128x1024 .bf16} (hP : Carries m c t P) (col : ℕ) (h) (hc : col + 128 ≤ 1024) (j e : Fin 128) :
    cutPrev P 1 col h (ix2 j e) = Attn.padded (X m c (t.val / 4)) (512 * (t.val % 4) + 0 + j.val) (2048 + (col + e.val)) :=
  (cutPrev_at P 1 col h j e (by omega) hc).trans (hP _ _ _)

/-- The output of a block of rows that has another block before it in the window. -/
theorem piece_inner (row r0 col : ℕ) (h1 h2) (y : S1x1x512x1024.Idx) (x : S1x1x128x128.Idx)
    (hy2 : (y 2).val = row + (x 2).val) (hy3 : (y 3).val = col + (x 3).val)
    (hrow : row = r0 + 128) (hr : row + 128 ≤ 512) (hr0 : row % 128 = 0) (hc : col + 128 ≤ 1024) (hc0 : col % 128 = 0) :
    headPiece k0_pay4 (cutAt (iblk m c 0 t) row col h1) (cut2 (iblk m c 1 t) r0 col h2) (cutAt (iblk m c 1 t) row col h1)
      (cut2 (iblk m c 2 t) r0 col h2) (cutAt (iblk m c 2 t) row col h1) x = outAt m c t y :=
  piece m c t _ _ _ row col h1 hr hr0 hc hc0 (mask_inner t row (by omega) hr0) (keys_inner m c t row r0 col h2 hrow hr hc)
    (values_inner m c t row r0 col h2 hrow hr hc) y x hy2 hy3

/-- The output of the first block of rows of a window. -/
theorem piece_first {P : Vec Ideal S2x128x1024 .bf16} (hP : Carries m c t P) (col : ℕ) (h1 h2 h3) (y : S1x1x512x1024.Idx) (x : S1x1x128x128.Idx)
    (hy2 : (y 2).val = 0 + (x 2).val) (hy3 : (y 3).val = col + (x 3).val) (hc : col + 128 ≤ 1024) (hc0 : col % 128 = 0) :
    headPiece (k0_pay5 (grid0.coords t)) (cutAt (iblk m c 0 t) 0 col h1) (cutPrev P 0 col h2) (cutAt (iblk m c 1 t) 0 col h1)
      (cutPrev P 1 col h3) (cutAt (iblk m c 2 t) 0 col h1) x = outAt m c t y :=
  piece m c t _ _ _ 0 col h1 (by omega) rfl hc hc0 (mask_first t) (keys_first hP col h2 hc)
    (values_first hP col h3 hc) y x hy2 hy3

/-- The scores of one head: of a block of rows with another block before it, and of the first block of rows of a window. -/
abbrev scoresInner (m : (ℓ : Loc nD τ sig) → Buf (Elt Ideal) ℓ) (c : Dev nD) (t : Fin cfg0.N) (row r0 col : ℕ)
    (h1 : Fits row col) (h2 : Fits r0 col) : FVec Ideal S128x256 .f32 :=
  scores k0_pay4 (cutAt (iblk m c 0 t) row col h1) (cut2 (iblk m c 1 t) r0 col h2) (cutAt (iblk m c 1 t) row col h1)

abbrev scoresFirst (m : (ℓ : Loc nD τ sig) → Buf (Elt Ideal) ℓ) (c : Dev nD) (t : Fin cfg0.N) (P : Vec Ideal S2x128x1024 .bf16) (col : ℕ)
    (h1 : Fits 0 col) (h2 : FitsPrev 0 col) :
    FVec Ideal S128x256 .f32 :=
  scores (k0_pay5 (grid0.coords t)) (cutAt (iblk m c 0 t) 0 col h1) (cutPrev P 0 col h2) (cutAt (iblk m c 1 t) 0 col h1)

/-- What the point's second output window holds at an index. -/
def lseAt (m : (ℓ : Loc nD τ sig) → Buf (Elt Ideal) ℓ) (c : Dev nD) (t : Fin cfg0.N) (y : S1x1x512x128.Idx) : EReal :=
  Attn.lane (X m c (t.val / 4)) (512 * (t.val % 4) + (y 2).val) (y 3).val

theorem lse_at (s0 s1 s2 s3 s4 s5 s6 s7 : FVec Ideal S128x256 .f32) (row : ℕ) (y : S1x1x512x128.Idx) (x : S1x1x128x128.Idx)
    (h0 : ∀ r : Fin 128, (fun k => s0 (ix2 r k)) = Attn.score (X m c (t.val / 4)) (512 * (t.val % 4) + row + r.val) 0)
    (h1 : ∀ r : Fin 128, (fun k => s1 (ix2 r k)) = Attn.score (X m c (t.val / 4)) (512 * (t.val % 4) + row + r.val) 1)
    (h2 : ∀ r : Fin 128, (fun k => s2 (ix2 r k)) = Attn.score (X m c (t.val / 4)) (512 * (t.val % 4) + row + r.val) 2)
    (h3 : ∀ r : Fin 128, (fun k => s3 (ix2 r k)) = Attn.score (X m c (t.val / 4)) (512 * (t.val % 4) + row + r.val) 3)
    (h4 : ∀ r : Fin 128, (fun k => s4 (ix2 r k)) = Attn.score (X m c (t.val / 4)) (512 * (t.val % 4) + row + r.val) 4)
    (h5 : ∀ r : Fin 128, (fun k => s5 (ix2 r k)) = Attn.score (X m c (t.val / 4)) (512 * (t.val % 4) + row + r.val) 5)
    (h6 : ∀ r : Fin 128, (fun k => s6 (ix2 r k)) = Attn.score (X m c (t.val / 4)) (512 * (t.val % 4) + row + r.val) 6)
    (h7 : ∀ r : Fin 128, (fun k => s7 (ix2 r k)) = Attn.score (X m c (t.val / 4)) (512 * (t.val % 4) + row + r.val) 7)
    (hy2 : (y 2).val = row + (x 2).val) (hy3 : (y 3).val = (x 3).val) :
    lsePiece s0 s1 s2 s3 s4 s5 s6 s7 x = lseAt m c t y := by
  obtain ⟨r, d, rfl⟩ : ∃ (r d : Fin 128), x = ix4 0 0 r d :=
    ⟨x 2, x 3, by funext k; fin_cases k <;> first | rfl | exact Subsingleton.elim (α := Fin 1) _ _⟩
  change (y 2).val = row + r.val at hy2
  change (y 3).val = d.val at hy3
  rw [lseAt, hy2, hy3, ← Nat.add_assoc (512 * (t.val % 4))]
  exact lsePiece_at _ _ _ _ _ _ _ _ _ _ r d (h0 r) (h1 r) (h2 r) (h3 r) (h4 r) (h5 r) (h6 r) (h7 r)

theorem scoresInner_eq (row r0 col h : ℕ) (h1 h2) (hrow : row = r0 + 128) (hr : row + 128 ≤ 512) (hr0 : row % 128 = 0)
    (hc : col + 128 ≤ 1024) (hh : col = 128 * h) (r : Fin 128) :
    (fun k => scoresInner m c t row r0 col h1 h2 (ix2 r k)) = Attn.score (X m c (t.val / 4)) (512 * (t.val % 4) + row + r.val) h := by
  have e : h = col / 128 := by omega
  rw [e]
  exact piece_scores m c t _ _ row col h1 hr hr0 hc (by omega) (mask_inner t row (by omega) hr0)
    (keys_inner m c t row r0 col h2 hrow hr hc) r

theorem scoresFirst_eq {P : Vec Ideal S2x128x1024 .bf16} (hP : Carries m c t P) (col h : ℕ) (h1 h2)
    (hc : col + 128 ≤ 1024) (hh : col = 128 * h) (r : Fin 128) :
    (fun k => scoresFirst m c t P col h1 h2 (ix2 r k)) = Attn.score (X m c (t.val / 4)) (512 * (t.val % 4) + 0 + r.val) h := by
  have e : h = col / 128 := by omega
  rw [e]
  exact piece_scores m c t _ _ 0 col h1 (by omega) rfl hc (by omega) (mask_first t) (keys_first hP col h2 hc) r

/-- The second output of a block of rows with another block before it. -/
theorem lse_inner (row r0 : ℕ) (a0 a1 a2 a3 a4 a5 a6 a7 b0 b1 b2 b3 b4 b5 b6 b7) (y : S1x1x512x128.Idx) (x : S1x1x128x128.Idx)
    (hy2 : (y 2).val = row + (x 2).val) (hy3 : (y 3).val = (x 3).val)
    (hrow : row = r0 + 128) (hr : row + 128 ≤ 512) (hr0 : row % 128 = 0) :
    lsePiece (scoresInner m c t row r0 0 a0 b0) (scoresInner m c t row r0 128 a1 b1) (scoresInner m c t row r0 256 a2 b2)
      (scoresInner m c t row r0 384 a3 b3) (scoresInner m c t row r0 512 a4 b4) (scoresInner m c t row r0 640 a5 b5)
      (scoresInner m c t row r0 768 a6 b6) (scoresInner m c t row r0 896 a7 b7) x = lseAt m c t y :=
  lse_at _ _ _ _ _ _ _ _ row y x
    (scoresInner_eq row r0 0 0 a0 b0 hrow hr hr0 (by decide) rfl) (scoresInner_eq row r0 128 1 a1 b1 hrow hr hr0 (by decide) rfl)
    (scoresInner_eq row r0 256 2 a2 b2 hrow hr hr0 (by decide) rfl) (scoresInner_eq row r0 384 3 a3 b3 hrow hr hr0 (by decide) rfl)
    (scoresInner_eq row r0 512 4 a4 b4 hrow hr hr0 (by decide) rfl) (scoresInner_eq row r0 640 5 a5 b5 hrow hr hr0 (by decide) rfl)
    (scoresInner_eq row r0 768 6 a6 b6 hrow hr hr0 (by decide) rfl) (scoresInner_eq row r0 896 7 a7 b7 hrow hr hr0 (by decide) rfl) hy2 hy3

/-- The second output of the first block of rows. -/
theorem lse_first {P : Vec Ideal S2x128x1024 .bf16} (hP : Carries m c t P) (a0 a1 a2 a3 a4 a5 a6 a7 b0 b1 b2 b3 b4 b5 b6 b7)
    (y : S1x1x512x128.Idx) (x : S1x1x128x128.Idx) (hy2 : (y 2).val = 0 + (x 2).val) (hy3 : (y 3).val = (x 3).val) :
    lsePiece (scoresFirst m c t P 0 a0 b0) (scoresFirst m c t P 128 a1 b1) (scoresFirst m c t P 256 a2 b2)
      (scoresFirst m c t P 384 a3 b3) (scoresFirst m c t P 512 a4 b4) (scoresFirst m c t P 640 a5 b5)
      (scoresFirst m c t P 768 a6 b6) (scoresFirst m c t P 896 a7 b7) x = lseAt m c t y :=
  lse_at _ _ _ _ _ _ _ _ 0 y x
    (scoresFirst_eq hP 0 0 a0 b0 (by decide) rfl) (scoresFirst_eq hP 128 1 a1 b1 (by decide) rfl)
    (scoresFirst_eq hP 256 2 a2 b2 (by decide) rfl) (scoresFirst_eq hP 384 3 a3 b3 (by decide) rfl)
    (scoresFirst_eq hP 512 4 a4 b4 (by decide) rfl) (scoresFirst_eq hP 640 5 a5 b5 (by decide) rfl)
    (scoresFirst_eq hP 768 6 a6 b6 (by decide) rfl) (scoresFirst_eq hP 896 7 a7 b7 (by decide) rfl) hy2 hy3

end Cert.KernelIdeal.Value
-- ==== Proof.AttnRun.lean ====
module

public import proofs.«01_k».proof.Proof.AttnKernel

/-! # What each grid point of the attention kernel leaves, and the arrays after the run -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (c : Dev nD) (t : Fin cfg0.N)

/-- Before the first row of a sequence there are zeros. -/
theorem carries_zero (h0 : t.val % 4 = 0) : Carries m c t (k0_pay3 (F := Ideal)) := by
  intro p j e
  rw [Attn.padded, if_neg (by omega)]
  pointwise [k0_pay3]

set_option maxHeartbeats 400000 in
theorem out_B (h0 : ¬ t.val % 4 = 0) (hP : Carries m c t (outsAt0 m c (t.val - 1) (by omega)).2.2) (y : S1x1x512x1024.Idx) :
    (outsAt0 m c t.val t.isLt).1 y = outAt m c t y := by
  rw [outsAt0_B m c t h0]; frame_open
  simp (disch := decide) only [↓View.readCov_skip, ↓View.readCov_cons_toLoadRect, ↓View.readCov_fill]
  frame_out
  simp only [read_unread_whole]
  generalize (outsAt0 m c (t.val - 1) _).2.2 = P at hP ⊢
  canon_tiles x h
  all_goals
    open_payloads
    first
      | (have hy : (y 2).val = 0 + (x 2).val := by omega
         exact piece_first hP _ _ _ _ y x hy (by omega) (by decide) rfl)
      | exact piece_inner _ _ _ _ _ y x (by omega) (by omega) rfl (by decide) rfl (by decide) rfl

set_option maxHeartbeats 400000 in
theorem lse_B (h0 : ¬ t.val % 4 = 0) (hP : Carries m c t (outsAt0 m c (t.val - 1) (by omega)).2.2) (y : S1x1x512x128.Idx) :
    (outsAt0 m c t.val t.isLt).2.1 y = lseAt m c t y := by
  rw [outsAt0_B m c t h0]; frame_open
  simp (disch := decide) only [↓View.readCov_skip, ↓View.readCov_cons_toLoadRect, ↓View.readCov_fill]
  frame_out
  simp only [read_unread_whole]
  generalize (outsAt0 m c (t.val - 1) _).2.2 = P at hP ⊢
  canon_tiles x h
  all_goals
    open_payloads
    first
      | (have hy : (y 2).val = 0 + (x 2).val := by omega
         exact lse_first hP _ _ _ _ _ _ _ _ _ _ _ _ _ _ _ _ y x hy (by omega))
      | exact lse_inner _ _ _ _ _ _ _ _ _ _ _ _ _ _ _ _ _ _ y x (by omega) (by omega) rfl (by decide) rfl

/-- The last 128 rows of the point's keys and values. -/
def tail : Vec Ideal S2x128x1024 .bf16 := fun y =>
  X m c (t.val / 4) (512 * (t.val % 4) + 384 + (y 1).val) (1024 * ((y 0).val + 1) + (y 2).val)

theorem tail_piece (W : Vec Ideal S1x1x512x1024 .bf16) (p : ℕ) (hp : p < 2)
    (hW : ∀ (i : Fin 512) (j : Fin 1024), W (ix4 0 0 i j) = X m c (t.val / 4) (512 * (t.val % 4) + i) (1024 * (p + 1) + j)) (h h')
    (x : S1x128x1024.Idx) :
    (shapeCast S1x128x1024
      (shapeCast S128x1024 (View.ld W (Rect.unit ![0, 0, 384, 0] ![1, 1, 128, 1024] h) : Vec Ideal S1x1x128x1024 .bf16)
        shapeCasts_S1x1x128x1024_S128x1024 : FVec Ideal S128x1024 .bf16)
      shapeCasts_S128x1024_S1x128x1024 : FVec Ideal S1x128x1024 .bf16) x
      = tail m c t ((Rect.unit (s := S2x128x1024) ![p, 0, 0] ![1, 128, 1024] h').emb x) := by
  obtain ⟨r, d, rfl⟩ : ∃ (r : Fin 128) (d : Fin 1024), x = ix3 0 r d :=
    ⟨x 1, x 2, by funext k; fin_cases k <;> first | rfl | exact Subsingleton.elim (α := Fin 1) _ _⟩
  have hcast : ∀ V : Vec Ideal S1x1x128x1024 .bf16,
      (shapeCast S1x128x1024 (shapeCast S128x1024 V shapeCasts_S1x1x128x1024_S128x1024 : FVec Ideal S128x1024 .bf16)
        shapeCasts_S128x1024_S1x128x1024 : FVec Ideal S1x128x1024 .bf16) (ix3 0 r d) = V (ix4 0 0 r d) := by
    intro V; pointwise
  refine (hcast _).trans ((View.ld_unit_apply_of W _ _ h _ (ix4 0 0 ⟨384 + r.val, by omega⟩ d) fun a => ?_).trans ((hW _ _).trans ?_))
  · fin_cases a
    · rfl
    · rfl
    · rfl
    · exact (Nat.zero_add _).symm
  · show X m c (t.val / 4) (512 * (t.val % 4) + (384 + r.val)) (1024 * (p + 1) + d.val) =
      X m c (t.val / 4) (512 * (t.val % 4) + 384 + (0 + 1 * r.val)) (1024 * (p + 1 * 0 + 1) + (0 + 1 * d.val))
    congr 1 <;> omega

theorem carry_B (h0 : ¬ t.val % 4 = 0) (y : S2x128x1024.Idx) :
    (outsAt0 m c t.val t.isLt).2.2 y = tail m c t y := by
  rw [outsAt0_B m c t h0]; frame_open
  simp (disch := decide) only [↓View.readCov_skip, ↓View.readCov_cons_toLoadRect, ↓View.readCov_fill]
  frame_out
  refine View.canon_append_of_piecesOf (tail m c t) [] [_, _] ⟨fun x => ?_, fun x => ?_, trivial⟩ y ?_
  · exact tail_piece m c t _ 1 (by omega) (blk2_at m c t) _ inb_S2x128x1024_S1x128x1024_1_0_0 x
  · exact tail_piece m c t _ 0 (by omega) (blk1_at m c t) _ inb_S2x128x1024_S1x128x1024_0_0_0 x
  · exact View.cover_of_tiled_head _ _ _ (by rfl) y

theorem carry_A (h0 : t.val % 4 = 0) (y : S2x128x1024.Idx) :
    (outsAt0 m c t.val t.isLt).2.2 y = tail m c t y := by
  rw [outsAt0_A m c t h0]; frame_open
  simp (disch := decide) only [↓View.readCov_skip, ↓View.readCov_cons_toLoadRect, ↓View.readCov_fill]
  frame_out
  refine View.canon_append_of_piecesOf (tail m c t) [_] [_, _] ⟨fun x => ?_, fun x => ?_, trivial⟩ y ?_
  · exact tail_piece m c t _ 1 (by omega) (blk2_at m c t) _ inb_S2x128x1024_S1x128x1024_1_0_0 x
  · exact tail_piece m c t _ 0 (by omega) (blk1_at m c t) _ inb_S2x128x1024_S1x128x1024_0_0_0 x
  · exact View.cover_of_tiled_head _ _ _ (by rfl) y

set_option maxHeartbeats 400000 in
theorem out_A (h0 : t.val % 4 = 0) (y : S1x1x512x1024.Idx) : (outsAt0 m c t.val t.isLt).1 y = outAt m c t y := by
  rw [outsAt0_A m c t h0]; frame_open
  simp (disch := decide) only [↓View.readCov_skip, ↓View.readCov_cons_toLoadRect, ↓View.readCov_fill]
  frame_out
  have hP := carries_zero m c t h0
  generalize (k0_pay3 (F := Ideal)) = P at hP ⊢
  canon_tiles x h
  all_goals
    open_payloads
    first
      | (have hy : (y 2).val = 0 + (x 2).val := by omega
         exact piece_first hP _ _ _ _ y x hy (by omega) (by decide) rfl)
      | exact piece_inner _ _ _ _ _ y x (by omega) (by omega) rfl (by decide) rfl (by decide) rfl

set_option maxHeartbeats 400000 in
theorem lse_A (h0 : t.val % 4 = 0) (y : S1x1x512x128.Idx) : (outsAt0 m c t.val t.isLt).2.1 y = lseAt m c t y := by
  rw [outsAt0_A m c t h0]; frame_open
  simp (disch := decide) only [↓View.readCov_skip, ↓View.readCov_cons_toLoadRect, ↓View.readCov_fill]
  frame_out
  have hP := carries_zero m c t h0
  generalize (k0_pay3 (F := Ideal)) = P at hP ⊢
  canon_tiles x h
  all_goals
    open_payloads
    first
      | (have hy : (y 2).val = 0 + (x 2).val := by omega
         exact lse_first hP _ _ _ _ _ _ _ _ _ _ _ _ _ _ _ _ y x hy (by omega))
      | exact lse_inner _ _ _ _ _ _ _ _ _ _ _ _ _ _ _ _ _ _ y x (by omega) (by omega) rfl (by decide) rfl

/-- What every point leaves in the carried scratch. -/
theorem carry (y : S2x128x1024.Idx) : (outsAt0 m c t.val t.isLt).2.2 y = tail m c t y := by
  by_cases h0 : t.val % 4 = 0
  · exact carry_A m c t h0 y
  · exact carry_B m c t h0 y

/-- The scratch a later window of the same sequence reads. -/
theorem carries_prev (h0 : ¬ t.val % 4 = 0) : Carries m c t (outsAt0 m c (t.val - 1) (by omega)).2.2 := by
  intro p j e
  refine (carry m c ⟨t.val - 1, by omega⟩ _).trans ?_
  show X m c ((t.val - 1) / 4) (512 * ((t.val - 1) % 4) + 384 + j.val) _ = _
  rw [Attn.padded, if_pos (by omega)]
  have e1 : (t.val - 1) / 4 = t.val / 4 := by omega
  have e2 : 512 * ((t.val - 1) % 4) + 384 + j.val = 512 * (t.val % 4) + j.val - 128 := by omega
  rw [e1, e2]
  rfl

theorem out_at (y : S1x1x512x1024.Idx) : (outsAt0 m c t.val t.isLt).1 y = outAt m c t y := by
  by_cases h0 : t.val % 4 = 0
  · exact out_A m c t h0 y
  · exact out_B m c t h0 (carries_prev m c t h0) y

theorem lse_at' (y : S1x1x512x128.Idx) : (outsAt0 m c t.val t.isLt).2.1 y = lseAt m c t y := by
  by_cases h0 : t.val % 4 = 0
  · exact lse_A m c t h0 y
  · exact lse_B m c t h0 (carries_prev m c t h0) y

/-- The first result: the attention's output. -/
def result0 : Vec Ideal S4x1x2048x1024 .bf16 := fun y =>
  Attn.out (Attn.score (X m c (y 0).val) (y 2).val ((y 3).val / 128)) (Attn.value (X m c (y 0).val) (y 2).val (y 3).val)

/-- The second result: every head's logarithm of the sum of the exponentials. -/
def result1 : Vec Ideal S4x1x2048x128 .f32 := fun y => Attn.lane (X m c (y 0).val) (y 2).val (y 3).val

theorem final0 : (dats m 0 c).arrAt 3 cfg0.N = result0 m c := by
  refine (dats m 0 c).arrAt_eq_of_covers 3 _ (by decide +kernel) fun t hf y => ?_
  have hN : t.val < 16 := lt_of_lt_of_eq t.isLt N_0
  obtain ⟨a, b, rfl⟩ : ∃ (a : Fin 512) (b : Fin 1024), y = ix4 0 0 a b :=
    ⟨y 2, y 3, by funext k; fin_cases k <;> first | rfl | exact Subsingleton.elim (α := Fin 1) _ _⟩
  blk_simp
  rw [after0_3]
  have he : (win0_3.blk t).view.emb (ix4 0 0 a b) = ix4 (⟨t.val / 4, by omega⟩ : Fin 4) 0 (⟨512 * (t.val % 4) + a.val, by omega⟩ : Fin 2048) b := by
    blk_ext [idx3 t]
  rw [he, out_at]
  rfl

theorem final1 : (dats m 0 c).arrAt 4 cfg0.N = result1 m c := by
  refine (dats m 0 c).arrAt_eq_of_covers 4 _ (by decide +kernel) fun t hf y => ?_
  have hN : t.val < 16 := lt_of_lt_of_eq t.isLt N_0
  obtain ⟨a, b, rfl⟩ : ∃ (a : Fin 512) (b : Fin 128), y = ix4 0 0 a b :=
    ⟨y 2, y 3, by funext k; fin_cases k <;> first | rfl | exact Subsingleton.elim (α := Fin 1) _ _⟩
  blk_simp
  rw [after0_4]
  have he : (win0_4.blk t).view.emb (ix4 0 0 a b) = ix4 (⟨t.val / 4, by omega⟩ : Fin 4) 0 (⟨512 * (t.val % 4) + a.val, by omega⟩ : Fin 2048) b := by
    blk_ext [idx4 t]
  rw [he, lse_at']
  rfl

/-- The run, read: both result arrays, the argument as it was. -/
theorem run_result (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_arg0) = m ((c.tc : Thread nD τ).loc main_arg0) :=
  (θ_run defs _ _).mono (fun _ h c => ⟨(h c).1.trans (final0 m c), (h c).2.1.trans (final1 m c), (h c).2.2⟩) (run_blocks m ρ)

end Cert.KernelIdeal.Value
-- ==== Proof.AttnRef.lean ====
module

public import proofs.«01_k».proof.Proof.Gen.ReferenceIdeal.Run
public import Idealize.ShloMosaic.Lib.Pipeline.ValueKit
public import Idealize.ShloMosaic.Lib.KernelVsHost
public import Idealize.ShloMosaic.Lib.WordCmp
public import proofs.«01_k».proof.Proof.AttnSpec

/-! # The reference attention at an index -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

variable (m : (ℓ : Loc nD τ sig) → Buf (Elt Ideal) ℓ)

variable (c : Dev nD)

/-- The argument as blocks of 128 rows, the queries, keys and values of every head apart. -/
def blocks : FVec Ideal S4x16x128x3x8x128 .f32 :=
  shapeCast _ (extf .f32 (m ((c.tc : Thread nD τ).loc main_arg0)) bitsLt_bf16_f32) shapeCasts_S4x1x2048x3072_S4x16x128x3x8x128

/-- The queries, the keys and the values of every block. -/
def qb : FVec Ideal S4x16x128x8x128 .f32 := shapeCast _ (extractStridedSlice S4x16x128x1x8x128 ![0, 0, 0, 0, 0, 0] (blocks m c) slices_S4x16x128x3x8x128_S4x16x128x1x8x128_0_0_0_0_0_0) shapeCasts_S4x16x128x1x8x128_S4x16x128x8x128
def kb : FVec Ideal S4x16x128x8x128 .f32 := shapeCast _ (extractStridedSlice S4x16x128x1x8x128 ![0, 0, 0, 1, 0, 0] (blocks m c) slices_S4x16x128x3x8x128_S4x16x128x1x8x128_0_0_0_1_0_0) shapeCasts_S4x16x128x1x8x128_S4x16x128x8x128
def vb : FVec Ideal S4x16x128x8x128 .f32 := shapeCast _ (extractStridedSlice S4x16x128x1x8x128 ![0, 0, 0, 2, 0, 0] (blocks m c) slices_S4x16x128x3x8x128_S4x16x128x1x8x128_0_0_0_2_0_0) shapeCasts_S4x16x128x1x8x128_S4x16x128x8x128

/-- Every block with the block before it in front, zeros before the first. -/
def withPrev (a : FVec Ideal S4x16x128x8x128 .f32) : FVec Ideal S4x16x256x8x128 .f32 :=
  concatenate S4x16x256x8x128 2 [⟨S4x16x128x8x128, (concatenate S4x16x128x8x128 1 [⟨S4x1x128x8x128, (broadcastInDim S4x1x128x8x128 ![] bcast_S_S4x1x128x8x128 (constant S_ .f32 0x00000000#32))⟩, ⟨S4x15x128x8x128, (extractStridedSlice S4x15x128x8x128 ![0, 0, 0, 0, 0] a slices_S4x16x128x8x128_S4x15x128x8x128_0_0_0_0_0)⟩] concatenates_S4x1x128x8x128_S4x15x128x8x128_S4x16x128x8x128_d1)⟩, ⟨S4x16x128x8x128, a⟩] concatenates_S4x16x128x8x128_S4x16x128x8x128_S4x16x256x8x128_d2

/-- Which of the 256 keys a row may see. -/
def mask : IVec S16x128x256 1 :=
  andi (broadcastInDim S16x128x256 ![0, 1, 2] bcast_S1x128x256_S16x128x256_0_1_2 (andi (cmpi .sge (subi (broadcastInDim S1x128x256 ![0, 1, 2] bcast_S1x128x1_S1x128x256_0_1_2 (addi (broadcastInDim S1x128x1 ![1] bcast_S128_S1x128x1_1 (iotaInDim S128 32 0)) (broadcastInDim S1x128x1 ![] bcast_S_S1x128x1 (constantI S_ 32 128#32)))) (broadcastInDim S1x128x256 ![0, 1, 2] bcast_S1x1x256_S1x128x256_0_1_2 (broadcastInDim S1x1x256 ![2] bcast_S256_S1x1x256_2 (iotaInDim S256 32 0)))) (broadcastInDim S1x128x256 ![] bcast_S_S1x128x256 (constantI S_ 32 0#32))) (cmpi .sle (subi (broadcastInDim S1x128x256 ![0, 1, 2] bcast_S1x128x1_S1x128x256_0_1_2 (addi (broadcastInDim S1x128x1 ![1] bcast_S128_S1x128x1_1 (iotaInDim S128 32 0)) (broadcastInDim S1x128x1 ![] bcast_S_S1x128x1 (constantI S_ 32 128#32)))) (broadcastInDim S1x128x256 ![0, 1, 2] bcast_S1x1x256_S1x128x256_0_1_2 (broadcastInDim S1x1x256 ![2] bcast_S256_S1x1x256_2 (iotaInDim S256 32 0)))) (broadcastInDim S1x128x256 ![] bcast_S_S1x128x256 (constantI S_ 32 128#32))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (cmpi .sge (broadcastInDim S1x1x256 ![2] bcast_S256_S1x1x256_2 (iotaInDim S256 32 0)) (broadcastInDim S1x1x256 ![] bcast_S_S1x1x256 (constantI S_ 32 128#32))))))

/-- The masked scores. -/
def sc : FVec Ideal S4x16x8x128x256 .f32 :=
  select (broadcastInDim S4x16x8x128x256 ![0, 1, 2, 3, 4] bcast_S1x16x1x128x256_S4x16x8x128x256_0_1_2_3_4 (broadcastInDim S1x16x1x128x256 ![1, 3, 4] bcast_S16x128x256_S1x16x1x128x256_1_3_4 mask)) (Host.dotGeneral dot_S4x16x128x8x128_S4x16x256x8x128_S4x16x8x128x256_4_4_2_2_013_013 none (qb m c) (withPrev (kb m c))) (broadcastInDim S4x16x8x128x256 ![] bcast_S_S4x16x8x128x256 (id (constant S_ .f32 0xF149F2CA#32)))

/-- The largest score of every row. -/
def top (s : FVec Ideal S4x16x8x128x256 .f32) : FVec Ideal S4x16x8x128x1 .f32 := broadcastInDim S4x16x8x128x1 ![0, 1, 2, 3] bcast_S4x16x8x128_S4x16x8x128x1_0_1_2_3 (Host.reduce FloatOps.maximumf s (constant S_ .f32 0xFF800000#32) reducesTo_S4x16x8x128x256_S4x16x8x128_d4 h_S_)

/-- The weights before they are divided. -/
def wts (s : FVec Ideal S4x16x8x128x256 .f32) : FVec Ideal S4x16x8x128x256 .f32 := Host.exp (subf s (broadcastInDim S4x16x8x128x256 ![0, 1, 2, 3, 4] bcast_S4x16x8x128x1_S4x16x8x128x256_0_1_2_3_4 (top s)))

/-- Their sum over every row. -/
def sums (s : FVec Ideal S4x16x8x128x256 .f32) : FVec Ideal S4x16x8x128x1 .f32 :=
  broadcastInDim S4x16x8x128x1 ![0, 1, 2, 3] bcast_S4x16x8x128_S4x16x8x128x1_0_1_2_3 (Host.reduceAdd (wts s) (constant S_ .f32 0x00000000#32) reducesTo_S4x16x8x128x256_S4x16x8x128_d4 h_S_)

/-- The output from the scores and the values. -/
def outOf (s : FVec Ideal S4x16x8x128x256 .f32) (v : FVec Ideal S4x16x256x8x128 .f32) : FVec Ideal S4x1x2048x1024 .bf16 :=
  truncf .bf16 (shapeCast _ (transpose S4x16x128x8x128 [0, 1, 4, 2, 3] (Host.dotGeneral dot_S4x16x256x8x128_S4x16x8x128x256_S4x16x8x128x128_2_4_4_3_013_012 none v (Host.divf (wts s) (broadcastInDim S4x16x8x128x256 ![0, 1, 2, 3, 4] bcast_S4x16x8x128x1_S4x16x8x128x256_0_1_2_3_4 (sums s)))) transposes_S4x16x8x128x128_S4x16x128x8x128_0_1_4_2_3) shapeCasts_S4x16x128x8x128_S4x1x2048x1024) bitsLt_bf16_f32

/-- The second result from the scores. -/
def lseOf (s : FVec Ideal S4x16x8x128x256 .f32) : FVec Ideal S4x1x2048x128 .f32 :=
  pad S4x1x2048x128 ![0, 0, 0, 0] ![0, 0, 0, 120] ![0, 0, 0, 0] (shapeCast _ (transpose S4x16x128x8 [0, 1, 3, 2] (shapeCast _ (addf (top s) (Host.log (sums s))) shapeCasts_S4x16x8x128x1_S4x16x8x128) transposes_S4x16x8x128_S4x16x128x8_0_1_3_2) shapeCasts_S4x16x128x8_S4x1x2048x8) (sitofp .f32 (constantI S_ 32 0#32)) pads_S4x1x2048x8_S4x1x2048x128_000_000_000_01200 h_S_

theorem out_eq : res_out0 m c = outOf (sc m c) (withPrev (vb m c)) := rfl
theorem lse_eq : res_out1 m c = lseOf (sc m c) := rfl

/-- The argument's rows of batch `b`, by natural numbers. -/
def X (b i j : ℕ) : EReal :=
  if h : b < 4 ∧ i < 2048 ∧ j < 3072 then m (c.tc.loc main_arg0) (ix4 ⟨b, h.1⟩ 0 ⟨i, h.2.1⟩ ⟨j, h.2.2⟩) else 0

theorem blocks_at (b : Fin 4) (n : Fin 16) (r : Fin 128) (p : Fin 3) (h : Fin 8) (d : Fin 128) :
    blocks m c (ix6 b n r p h d) = X m c b.val (128 * n.val + r.val) (1024 * p.val + (128 * h.val + d.val)) := by
  rw [X, dif_pos ⟨b.isLt, by omega, by omega⟩]
  refine shapeCast_apply _ _ _ (ix4 b 0 ⟨128 * n.val + r.val, by omega⟩ ⟨1024 * p.val + (128 * h.val + d.val), by omega⟩) ?_
  refine (rowMajor_val4 _ (2048 * 3072) (2048 * 3072) 3072 rfl rfl rfl).trans
    (Eq.trans ?_ (rowMajor_val6 _ (16 * (128 * 3072)) (128 * 3072) 3072 1024 128 rfl rfl rfl rfl rfl).symm)
  simp
  omega

theorem qb_at (b : Fin 4) (n : Fin 16) (r : Fin 128) (h : Fin 8) (d : Fin 128) :
    qb m c (ix5 b n r h d) = X m c b.val (128 * n.val + r.val) (128 * h.val + d.val) := by
  pointwise [qb]
  refine (blocks_at m c b n r 0 h d).trans (congrArg (X m c _ _) ?_)
  show 1024 * 0 + _ = _
  omega

theorem kb_at (b : Fin 4) (n : Fin 16) (r : Fin 128) (h : Fin 8) (d : Fin 128) :
    kb m c (ix5 b n r h d) = X m c b.val (128 * n.val + r.val) (1024 + (128 * h.val + d.val)) := by
  pointwise [kb]
  exact blocks_at m c b n r 1 h d

theorem vb_at (b : Fin 4) (n : Fin 16) (r : Fin 128) (h : Fin 8) (d : Fin 128) :
    vb m c (ix5 b n r h d) = X m c b.val (128 * n.val + r.val) (2048 + (128 * h.val + d.val)) := by
  pointwise [vb]
  exact blocks_at m c b n r 2 h d

/-- A block with the block before it is a run of 256 rows of the padded sequence. -/
theorem withPrev_at (a : FVec Ideal S4x16x128x8x128 .f32) (b : Fin 4) (Y : ℕ → ℕ → EReal) (o : ℕ)
    (ha : ∀ (n : Fin 16) (r : Fin 128) (h : Fin 8) (d : Fin 128), a (ix5 b n r h d) = Y (128 * n.val + r.val) (o + (128 * h.val + d.val)))
    (n : Fin 16) (k : Fin 256) (h : Fin 8) (d : Fin 128) :
    withPrev a (ix5 b n k h d) = Attn.padded Y (128 * n.val + k.val) (o + (128 * h.val + d.val)) := by
  pointwise [withPrev]
  unfold Attn.padded
  by_cases hk : k.val < 128
  · rw [dif_pos hk]
    by_cases hn : n.val < 1
    · rw [dif_pos hn, if_neg (by omega)]
    · rw [dif_neg hn]
      refine (ha _ _ _ _).trans ?_
      rw [if_pos (show 128 ≤ 128 * n.val + k.val by omega)]
      refine congrArg (Y · _) ?_
      show 128 * (n.val - 1) + k.val = _
      omega
  · rw [dif_neg hk]
    refine (ha _ _ _ _).trans ?_
    rw [if_pos (show 128 ≤ 128 * n.val + k.val by omega)]
    refine congrArg (Y · _) ?_
    show 128 * n.val + (k.val - 128) = _
    omega

theorem mask_at (n : Fin 16) (r : Fin 128) (k : Fin 256) : mask (ix3 n r k) = Attn.ok (128 * n.val + r.val) k.val := by
  pointwise [mask]
  have h1 : IntOp.addi (BitVec.ofNat 32 r.val) 128#32 = BitVec.ofNat 32 (r.val + 128) := (BitVec.ofNat_add ..).symm
  have hs : (IntOp.subi (BitVec.ofNat 32 (r.val + 128)) (BitVec.ofNat 32 k.val)).toInt = ((r.val : ℤ) + 128 - k.val) := by
    have hr : r.val < 128 := r.isLt
    have hk : k.val < 256 := k.isLt
    show (BitVec.ofNat 32 (r.val + 128) - BitVec.ofNat 32 k.val).toInt = _
    rw [BitVec.toInt_sub, BitVec.toInt_ofNat', BitVec.toInt_ofNat', Int.bmod_def, Int.bmod_def, Int.bmod_def]
    norm_num
    omega
  have e0 : (0#32 : BitVec 32).toInt = 0 := by decide
  have e128 : (128#32 : BitVec 32).toInt = 128 := by decide
  rw [h1, Idealize.ShloMosaic.WordCmp.cmpi_sge_eq, Idealize.ShloMosaic.WordCmp.cmpi_sle_eq, hs, e0, e128,
    Idealize.ShloMosaic.WordCmp.cmpi_sgt_ofNat (by omega) (by omega), Idealize.ShloMosaic.WordCmp.cmpi_sge_ofNat (by omega) (by omega), Attn.ok]
  have e : (128 * n.val + r.val) % 128 = r.val := by omega
  have hn : (128 ≤ 128 * n.val + r.val) ↔ 0 < n.val := by omega
  have ha : (0 ≤ (r.val : ℤ) + 128 - k.val) ↔ k.val ≤ r.val + 128 := by omega
  have hb : ((r.val : ℤ) + 128 - k.val ≤ 128) ↔ r.val ≤ k.val := by omega
  rw [e]
  simp only [hn, ha, hb]
  by_cases h1 : r.val ≤ k.val <;> by_cases h2 : k.val ≤ r.val + 128 <;> by_cases h3 : 0 < n.val <;> by_cases h4 : 128 ≤ k.val <;>
    simp only [h1, h2, h3, h4] <;> rfl

theorem sc_at (b : Fin 4) (n : Fin 16) (h : Fin 8) (r : Fin 128) (k : Fin 256) :
    sc m c (ix5 b n h r k) = Attn.score (X m c b.val) (128 * n.val + r.val) h.val k := by
  pointwise [sc]
  rw [mask_at]
  refine congrArg (Attn.msk _) (Finset.sum_congr rfl fun e _ => ?_)
  have e1 : 128 * ((128 * n.val + r.val) / 128) = 128 * n.val := by omega
  rw [qb_at, withPrev_at (kb m c) b (X m c b.val) 1024 (fun n r h d => kb_at m c b n r h d), e1]

theorem outOf_at (s : FVec Ideal S4x16x8x128x256 .f32) (v : FVec Ideal S4x16x256x8x128 .f32) (b : Fin 4) (i : Fin 2048) (j : Fin 1024) :
    outOf s v (ix4 b 0 i j) = Attn.outR (fun k => s (ix5 b ⟨i.val / 128, by omega⟩ ⟨j.val / 128, by omega⟩ ⟨i.val % 128, by omega⟩ k))
      (fun k => v (ix5 b ⟨i.val / 128, by omega⟩ k ⟨j.val / 128, by omega⟩ ⟨j.val % 128, by omega⟩)) := by
  pointwise [outOf, sums, wts, top]
  exact Finset.sum_congr rfl fun k _ => mul_comm _ _

theorem top_at (s : FVec Ideal S4x16x8x128x256 .f32) (b : Fin 4) (n : Fin 16) (h : Fin 8) (r : Fin 128) :
    top s (ix5 b n h r 0) = Attn.mx (fun k => s (ix5 b n h r k)) := by
  pointwise [top]
  rfl

theorem wts_at (s : FVec Ideal S4x16x8x128x256 .f32) (b : Fin 4) (n : Fin 16) (h : Fin 8) (r : Fin 128) (k : Fin 256) :
    wts s (ix5 b n h r k) = Attn.wt (fun k => s (ix5 b n h r k)) k := by
  generalize hT : top s = T
  have hT' := fun b n h r => (congrFun hT (ix5 b n h r 0)).symm.trans (top_at s b n h r)
  unfold wts
  rw [hT]
  pointwise
  rw [hT']
  rfl

theorem sums_at (s : FVec Ideal S4x16x8x128x256 .f32) (b : Fin 4) (n : Fin 16) (h : Fin 8) (r : Fin 128) :
    sums s (ix5 b n h r 0) = Attn.tot (fun k => s (ix5 b n h r k)) := by
  generalize hT : wts s = T
  have hT' := fun b n h r k => (congrFun hT (ix5 b n h r k)).symm.trans (wts_at s b n h r k)
  unfold sums
  rw [hT]
  pointwise
  exact Finset.sum_congr rfl fun k _ => hT' b n h r k

theorem addLog_at (T U : FVec Ideal S4x16x8x128x1 .f32) (y : S4x16x8x128x1.Idx) :
    (addf T (Host.log U) : FVec Ideal S4x16x8x128x1 .f32) y = ((T y : EReal) + Ideal.log (U y) : EReal) := rfl

theorem lseRow_at (s : FVec Ideal S4x16x8x128x256 .f32) (b : Fin 4) (n : Fin 16) (h : Fin 8) (r : Fin 128) :
    (addf (top s) (Host.log (sums s)) : FVec Ideal S4x16x8x128x1 .f32) (ix5 b n h r 0) = Attn.lse (fun k => s (ix5 b n h r k)) := by
  rw [addLog_at, top_at, sums_at]
  rfl

theorem padLanes_at (w : FVec Ideal S4x1x2048x8 .f32) (b : Fin 4) (i : Fin 2048) (j : Fin 128) :
    (pad S4x1x2048x128 ![0, 0, 0, 0] ![0, 0, 0, 120] ![0, 0, 0, 0] w (sitofp .f32 (constantI S_ 32 0#32) : FVec Ideal S_ .f32) pads_S4x1x2048x8_S4x1x2048x128_000_000_000_01200 h_S_ : FVec Ideal S4x1x2048x128 .f32) (ix4 b 0 i j)
      = if h : j.val < 8 then w (ix4 b 0 i ⟨j, h⟩) else (0 : EReal) := by
  by_cases h : j.val < 8
  · rw [dif_pos h]
    refine pad_apply_of_inside _ _ _ _ _ _ _ _ (ix4 b 0 i ⟨j, h⟩) fun a => ?_
    fin_cases a <;> simp <;> rfl
  · rw [dif_neg h]
    refine (pad_apply_of_not_inside _ _ _ _ _ _ _ _ (3 : Fin 4) fun hn => h ?_).trans ?_
    · have := hn.2.2
      simpa using this
    · exact (sitofp_zero (φ := .f32))

theorem lseOf_at (s : FVec Ideal S4x16x8x128x256 .f32) (b : Fin 4) (i : Fin 2048) (j : Fin 128) :
    lseOf s (ix4 b 0 i j) = if h : j.val < 8 then
      Attn.lse (fun k => s (ix5 b ⟨i.val / 128, by omega⟩ ⟨j, h⟩ ⟨i.val % 128, by omega⟩ k)) else (0 : EReal) := by
  refine (padLanes_at _ b i j).trans ?_
  refine dite_congr rfl (fun h => ?_) (fun _ => rfl)
  generalize hT : (addf (top s) (Host.log (sums s)) : FVec Ideal S4x16x8x128x1 .f32) = T
  have hT' := fun b n h r => (congrFun hT (ix5 b n h r 0)).symm.trans (lseRow_at s b n h r)
  pointwise
  exact hT' _ _ _ _

/-- The first result at an index. -/
theorem out_at (b : Fin 4) (i : Fin 2048) (j : Fin 1024) :
    res_out0 m c (ix4 b 0 i j) = Attn.outR (Attn.score (X m c b.val) i.val (j.val / 128)) (Attn.value (X m c b.val) i.val j.val) := by
  rw [out_eq]
  refine (outOf_at _ _ b i j).trans (congrArg₂ Attn.outR (funext fun k => ?_) (funext fun k => ?_))
  · rw [sc_at]
    exact congrArg (Attn.score _ · _ k) (Nat.div_add_mod i.val 128)
  · rw [withPrev_at (vb m c) b (X m c b.val) 2048 (fun n r h d => vb_at m c b n r h d)]
    exact congrArg (fun e => Attn.padded _ _ (2048 + e)) (Nat.div_add_mod j.val 128)

/-- The second result at an index. -/
theorem lane_at (b : Fin 4) (i : Fin 2048) (j : Fin 128) :
    res_out1 m c (ix4 b 0 i j) = Attn.lane (X m c b.val) i.val j.val := by
  rw [lse_eq]
  refine (lseOf_at _ b i j).trans ?_
  unfold Attn.lane
  by_cases h : j.val < 8
  · rw [dif_pos h, if_pos h]
    refine congrArg Attn.lse (funext fun k => ?_)
    rw [sc_at]
    exact congrArg (Attn.score _ · _ k) (Nat.div_add_mod i.val 128)
  · rw [dif_neg h, if_neg h]

end Cert.ReferenceIdeal.Value
-- ==== Proof.AttnFinite.lean ====
module

public import Idealize.ShloMosaic.Lib.Pipeline.ValueKit
public import proofs.«01_k».proof.Proof.AttnSpec

/-! # With real scores both orders of the division agree -/

@[expose] public section

noncomputable section

open Idealize.ShloMosaic

namespace Cert.Attn

/-- An extended real that is a real number. -/
def Fin (x : EReal) : Prop := ∃ r : ℝ, x = r

theorem fin_zero : Fin 0 := ⟨0, rfl⟩

theorem fin_mul {x y : EReal} (hx : Fin x) (hy : Fin y) : Fin (x * y) := by
  obtain ⟨a, rfl⟩ := hx
  obtain ⟨b, rfl⟩ := hy
  exact ⟨a * b, (EReal.coe_mul a b).symm⟩

theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

theorem fin_sum {ι : Type} (t : Finset ι) (f : ι → EReal) (hf : ∀ i, Fin (f i)) : Fin (∑ i ∈ t, f i) := by
  choose g hg using hf
  refine ⟨∑ i ∈ t, g i, ?_⟩
  rw [coe_sum]
  exact Finset.sum_congr rfl fun i _ => hg i

/-- The mask's number is real. -/
theorem fin_mask : Fin (Ideal.ofBits .f32 0xF149F2CA#32) := by
  rw [Ideal.ofBits, Ideal.ieee]
  exact ⟨_, (if_neg (by decide)).trans (if_neg (by decide))⟩

theorem neg_inf : Ideal.ofBits .f32 0xFF800000#32 = ⊥ := by
  rw [Ideal.ofBits, Ideal.ieee]
  exact ((if_pos (by decide)).trans (if_pos (by decide))).trans (if_pos (by decide))

theorem pos_inf : Ideal.ofBits .f32 0x7F800000#32 = ⊤ := by
  rw [Ideal.ofBits, Ideal.ieee]
  exact ((if_pos (by decide)).trans (if_pos (by decide))).trans (if_neg (by decide))

theorem fin_msk (o : BitVec 1) {x : EReal} (hx : Fin x) : Fin (msk o x) := by
  unfold msk
  split
  · exact hx
  · exact fin_mask

theorem fin_mx (s : _root_.Fin 256 → EReal) (hs : ∀ k, Fin (s k)) : Fin (mx s) := by
  classical
  have h : ∀ t : Finset (_root_.Fin 256), t.fold max ⊥ s = ⊥ ∨ Fin (t.fold max ⊥ s) := fun t => by
    induction t using Finset.induction_on with
    | empty => exact Or.inl rfl
    | insert a t ha ih =>
      rw [Finset.fold_insert ha]
      rcases max_choice (s a) (t.fold max ⊥ s) with e | e <;> rw [e]
      · exact Or.inr (hs a)
      · exact ih
  unfold mx
  rw [neg_inf]
  refine (h _).resolve_left fun e => ?_
  have h0 : s 0 ≤ Finset.univ.fold max ⊥ s := (Finset.le_fold_max _).2 (Or.inr ⟨0, Finset.mem_univ _, le_rfl⟩)
  obtain ⟨a, ha⟩ := hs 0
  rw [e, ha, le_bot_iff] at h0
  exact EReal.coe_ne_bot a h0

theorem pos_wt (s : _root_.Fin 256 → EReal) (hs : ∀ k, Fin (s k)) (k : _root_.Fin 256) : ∃ r : ℝ, 0 < r ∧ wt s k = r := by
  obtain ⟨a, ha⟩ := hs k
  obtain ⟨b, hb⟩ := fin_mx s hs
  refine ⟨Real.exp (a - b), Real.exp_pos _, ?_⟩
  rw [wt, ha, hb, ← EReal.coe_sub]
  rfl

theorem pos_tot (s : _root_.Fin 256 → EReal) (hs : ∀ k, Fin (s k)) : ∃ r : ℝ, 0 < r ∧ tot s = r := by
  choose g hg hw using pos_wt s hs
  refine ⟨∑ k, g k, Finset.sum_pos (fun k _ => hg k) ⟨0, Finset.mem_univ _⟩, ?_⟩
  rw [tot, coe_sum]
  exact Finset.sum_congr rfl fun k _ => hw k

/-- A positive real factor moves into a sum, whatever the terms are. -/
theorem sum_mul_real {ι : Type} (t : Finset ι) (f : ι → EReal) (r : ℝ) (hr : 0 < r) : (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.2 hr.le) (EReal.coe_ne_top r) _ _

/-- With real scores the kernel's order of the division and the reference's give the same output, infinite values included. -/
theorem out_eq_outR (s v : _root_.Fin 256 → EReal) (hs : ∀ k, Fin (s k)) : out s v = outR s v := by
  obtain ⟨r, hr, ht⟩ := pos_tot s hs
  have hne : (r : EReal) ≠ 0 := by exact_mod_cast hr.ne'
  have hd : ∀ x : EReal, Ideal.div x (r : EReal) = x * ((r⁻¹ : ℝ) : EReal) := fun x => by
    rw [Ideal.div, if_neg hne, EReal.coe_inv]
  rw [out, outR, ht, hd, sum_mul_real _ _ _ (inv_pos.2 hr)]
  refine Finset.sum_congr rfl fun k _ => ?_
  rw [hd, mul_assoc, mul_comm (v k), ← mul_assoc]

/-- Scores of real queries and keys are real. -/
theorem fin_score (X : ℕ → ℕ → EReal) (hX : ∀ i j, j < 2048 → Fin (X i j)) (i h : ℕ) (hh : h < 8) (k : _root_.Fin 256) : Fin (score X i h k) := by
  refine fin_msk _ (fin_sum _ _ fun e => fin_mul (hX _ _ (by omega)) ?_)
  unfold padded
  split
  · exact hX _ _ (by omega)
  · exact fin_zero

/-- An extended real whose absolute value is below infinity is real. -/
theorem fin_of_abs (x : EReal) (h : (Ideal.cmp .olt (max x (-x)) ⊤) = 1#1) : Fin x := by
  have h' : max x (-x) < ⊤ := by
    by_contra hn
    rw [Ideal.cmp] at h
    simp [hn] at h
  induction x with
  | bot => simp at h'
  | top => simp at h'
  | coe r => exact ⟨r, rfl⟩

end Cert.Attn
-- ==== Proof.Attn.lean ====
module

public import proofs.«01_k».proof.Defs
public import proofs.«01_k».proof.Proof.AttnRun
public import proofs.«01_k».proof.Proof.AttnRef
public import proofs.«01_k».proof.Proof.AttnFinite
public import proofs.«01_k».proof.Proof.Gen.ReferenceIdeal
public import proofs.«01_k».proof.Proof.Gen.Pre_finite_qk

/-! # The attention kernel and the host program compute the same two arrays -/

@[expose] public section

noncomputable section

open Idealize.ShloMosaic Idealize.ShloMosaic.TcCoe Idealize.SL.Sem

namespace Cert.Attn

/-- What the precondition says: every query and every key is a real number. -/
theorem real_of_pre (m : (ℓ : Loc Cert.KernelIdeal.nD Cert.KernelIdeal.τ Cert.KernelIdeal.sig) → Buf (Elt Ideal) ℓ)
    (h : Cert.Pre_KernelIdeal_finite_qk (hPre_finite_qk := Cert.Pre_finite_qk.Gen.facts) m) (c : Dev Cert.KernelIdeal.nD) (b i j : ℕ) (hj : j < 2048) :
    Fin (Cert.KernelIdeal.Value.X m c b i j) := by
  unfold Cert.KernelIdeal.Value.X
  split
  · rename_i hb
    have e := congrFun (h c) (ix4 ⟨b, hb.1⟩ 0 ⟨i, hb.2.1⟩ ⟨j, hj⟩)
    have e2 := extractStridedSlice_apply (t := Cert.Pre_finite_qk.S4x1x2048x2048) ![0, 0, 0, 0]
      (m ((c.tc : Thread Cert.KernelIdeal.nD Cert.KernelIdeal.τ).loc Cert.KernelIdeal.main_arg0) : FVec Ideal Cert.Pre_finite_qk.S4x1x2048x3072 .bf16)
      Cert.Pre_finite_qk.Gen.slices_S4x1x2048x3072_S4x1x2048x2048_0_0_0_0 (ix4 ⟨b, hb.1⟩ 0 ⟨i, hb.2.1⟩ ⟨j, hj⟩) (ix4 ⟨b, hb.1⟩ 0 ⟨i, hb.2.1⟩ ⟨j, hb.2.2⟩)
      (fun a => by fin_cases a <;> exact (Nat.zero_add _).symm)
    refine fin_of_abs _ ?_
    rw [← pos_inf]
    refine (congrArg (fun x : EReal => Ideal.cmp .olt (max x (-x)) (Ideal.ofBits .f32 0x7F800000#32)) e2).symm.trans e
  · exact fin_zero

/-- Both programs read the same array. -/
theorem X_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.X m' c = Cert.KernelIdeal.Value.X m c := by
  funext b i j
  unfold Cert.ReferenceIdeal.Value.X Cert.KernelIdeal.Value.X
  rw [h]

/-- The claim: from equal arguments with real queries and keys both programs leave the same two results, their argument unchanged. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hp hm
  refine ⟨Cert.KernelIdeal.Value.result0 m, Cert.KernelIdeal.Value.result1 m, Cert.KernelIdeal.Value.run_result m g, ?_⟩
  refine (θ_run _ _ _).mono (fun _ h c => ⟨(h c).1.trans ?_, (h c).2.1.trans ?_, (h c).2.2⟩) (Cert.ReferenceIdeal.Value.run m' g')
  · funext y
    obtain ⟨b, i, j, rfl⟩ : ∃ (b : _root_.Fin 4) (i : _root_.Fin 2048) (j : _root_.Fin 1024), y = ix4 b 0 i j :=
      ⟨y 0, y 2, y 3, by funext k; fin_cases k <;> first | rfl | exact Subsingleton.elim (α := _root_.Fin 1) _ _⟩
    refine (Cert.ReferenceIdeal.Value.out_at m' c b i j).trans ?_
    rw [X_eq m m' c (hm c)]
    exact (out_eq_outR _ _ fun k => fin_score _ (fun i j hj => real_of_pre m hp c b.val i j hj) i.val _ (by omega) k).symm
  · funext y
    obtain ⟨b, i, j, rfl⟩ : ∃ (b : _root_.Fin 4) (i : _root_.Fin 2048) (j : _root_.Fin 128), y = ix4 b 0 i j :=
      ⟨y 0, y 2, y 3, by funext k; fin_cases k <;> first | rfl | exact Subsingleton.elim (α := _root_.Fin 1) _ _⟩
    refine (Cert.ReferenceIdeal.Value.lane_at m' c b i j).trans ?_
    rw [X_eq m m' c (hm c)]
    rfl

end Cert.Attn
-- ==== Proof.Rows.lean ====
/-
  The functions of one row that the programs share, over the extended reals: the scaling of a row by the inverse root of
  its mean square, and the sum that a projection takes of a scaled row.
-/
module

public import Idealize.ShloMosaic.Lib.Pipeline.ValueKit
public import Idealize.ShloMosaic.Lib.Pipeline.ValueKit.Held

@[expose] public section

noncomputable section

namespace Cert.Rows

open Idealize.ShloMosaic

/-- The factor of a row of width 2048: the inverse root of its mean square, the small constant added. -/
def invRms (x : Fin 2048 → EReal) : EReal :=
  Ideal.rsqrt (Ideal.div (∑ k, x k * x k) (Ideal.ofBits .f32 0x45000000#32) + Ideal.ofBits .f32 0x358637BD#32)

/-- A row scaled by that factor and by the gain. -/
def rms (x g : Fin 2048 → EReal) (j : Fin 2048) : EReal := x j * invRms x * g j

/-- One entry of a projection of the scaled row: its product with a column of the weights. -/
def proj (x g w : Fin 2048 → EReal) : EReal := ∑ k, rms x g k * w k

end Cert.Rows
-- ==== Proof.MlpSpec.lean ====
/-
  The feed-forward part at an entry: the scaled row, the hidden layer with the squared positive part, its product with
  the second weights, and the residual sum. The host program computes this entry by entry.
-/
module

public import proofs.«01_k».proof.Proof.Rows
public import proofs.«01_k».proof.Proof.Gen.Reference2Ideal.Run

@[expose] public section

set_option maxRecDepth 16384

noncomputable section

open Idealize.ShloMosaic Idealize.ShloMosaic.TcCoe Idealize.SL.Sem

namespace Cert.Mlp

open Cert.Rows

/-- The hidden layer at one feature: the positive part of the projection, squared. -/
def hid (x g w : Fin 2048 → EReal) : EReal := max (proj x g w) 0 * max (proj x g w) 0

/-- The hidden layer times the second weights, at one output feature. -/
def up (x g : Fin 2048 → EReal) (w1 : Fin 2048 → Fin 8192 → EReal) (w2 : Fin 8192 → Fin 2048 → EReal) (j : Fin 2048) :
    EReal :=
  ∑ f, hid x g (fun k => w1 k f) * w2 f j

/-- The result at one entry of a row. -/
def mlp (x g₁ g₂ : Fin 2048 → EReal) (w1 : Fin 2048 → Fin 8192 → EReal) (w2 : Fin 8192 → Fin 2048 → EReal)
    (j : Fin 2048) : EReal :=
  x j + rms (up x g₁ w1 w2) g₂ j

end Cert.Mlp

namespace Cert.Reference2Ideal.Value

open Cert.Reference2Ideal Cert.Reference2Ideal.Gen

/-- The host program's result at an entry. -/
theorem result_at (m : (ℓ : Loc nD τ sig) → Buf (Elt Ideal) ℓ) (c : Dev nD) (i : Fin 8192) (j : Fin 2048) :
    res_out0 m c (ix2 i j) =
      Mlp.mlp (fun k => m (c.tc.loc main_arg0) (ix2 i k)) (fun k => m (c.tc.loc main_arg1) (ix1 k))
        (fun k => m (c.tc.loc main_arg2) (ix1 k)) (fun k f => m (c.tc.loc main_arg3) (ix3 0 k f))
        (fun f k => m (c.tc.loc main_arg4) (ix3 0 f k)) j := by
  unfold res_out0 res_main_v34
  pointwise
  rfl

end Cert.Reference2Ideal.Value
-- ==== Proof.MlpKernel.lean ====
/-
  The feed-forward kernel's result array. Each block of 1024 rows is visited at 16 points, one per tile of 512 hidden
  features: the first stores the scaled rows and clears the block, each adds its tile's product, the last scales the sum
  and adds the block of the input. The sum over tiles and places in a tile is the sum over the hidden features.
-/
module

public import proofs.«01_k».proof.Proof.MlpSpec
public import proofs.«01_k».proof.Proof.Gen.Kernel2Ideal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Rows

variable (m : (ℓ : Loc nD τ sig) → Buf (Elt Ideal) ℓ)

/-! ## The stored values at an entry -/

theorem pay1_at (x : Vec Ideal S1024x2048 .f32) (g : Vec Ideal S1x2048 .f32) (a : Fin 1024) (b : Fin 2048) :
    k0_pay1 x g (ix2 a b) = rms (fun k => x (ix2 a k)) (fun k => g (ix2 0 k)) b := by
  pointwise [k0_pay1]
  rfl

theorem pay2_at (y : S1024x2048.Idx) : k0_pay2 (F := Ideal) y = 0 := by
  pointwise [k0_pay2]

/-- One tile's contribution: the squared positive part of the stored rows' product with the first tile of weights, times
    the second tile. -/
def tile (u : Vec Ideal S1024x2048 .bf16) (w1 : Vec Ideal S1x2048x512 .f32) (w2 : Vec Ideal S1x512x2048 .f32)
    (y : S1024x2048.Idx) : EReal :=
  ∑ f : Fin 512, max (∑ k : Fin 2048, u (ix2 (y 0) k) * w1 (ix3 0 k f)) 0
    * max (∑ k : Fin 2048, u (ix2 (y 0) k) * w1 (ix3 0 k f)) 0 * w2 (ix3 0 f (y 1))

theorem pay3_at (u : Vec Ideal S1024x2048 .bf16) (w1 : Vec Ideal S1x2048x512 .f32) (o : Vec Ideal S1024x2048 .f32)
    (w2 : Vec Ideal S1x512x2048 .f32) (y : S1024x2048.Idx) : k0_pay3 u w1 o w2 y = o y + tile u w1 w2 y := by
  obtain ⟨a, b, rfl⟩ : ∃ a b, y = ix2 a b := ⟨y 0, y 1, by funext k; fin_cases k <;> rfl⟩
  pointwise [k0_pay3]
  rfl

theorem pay4_at (x o : Vec Ideal S1024x2048 .f32) (g : Vec Ideal S1x2048 .f32) (a : Fin 1024) (b : Fin 2048) :
    k0_pay4 x o g (ix2 a b) = x (ix2 a b) + rms (fun k => o (ix2 a k)) (fun k => g (ix2 0 k)) b := by
  pointwise [k0_pay4]
  rfl

/-! ## The carried rows -/

/-- The scaled rows that a point of the run's first kind stores. -/
abbrev stored (c : Dev nD) (t : Fin cfg0.N) : Vec Ideal S1024x2048 .bf16 := k0_pay1 (iblk m c 0 t) (iblk m c 1 t)

/-- At every point the carried scratch holds what the first point of its run stored. -/
theorem held (c : Dev nD) (t : Fin cfg0.N) :
    (outsAt0 m c t.val t.isLt).2 = stored m c ⟨16 * (t.val / 16), Pipeline.run_start_lt t⟩ :=
  Pipeline.eq_of_write_hold (fun n h => (outsAt0 m c n h).2) 16 (stored m c)
    (fun t h0 => by
      have h1 : ¬t.val % 16 = 15 := by omega
      rw [outsAt0_A m c t h0 h1]; frame_out)
    (fun t h0 => by
      by_cases h1 : t.val % 16 = 15
      · rw [outsAt0_C m c t h0 h1]; rfl
      · rw [outsAt0_B m c t h0 h1]; rfl) t

/-! ## The running sum -/

/-- What a point adds to its block. -/
abbrev part (c : Dev nD) (t : Fin cfg0.N) : S1024x2048.Idx → EReal :=
  tile (stored m c ⟨16 * (t.val / 16), Pipeline.run_start_lt t⟩) (iblk m c 3 t) (iblk m c 4 t)

/-- The running sum after a point, before the last point's scaling. -/
def acc (c : Dev nD) (n : ℕ) (h : n < cfg0.N) : S1024x2048.Idx → EReal :=
  if n % 16 = 15 then
    fun y => (outsAt0 m c (n - 1) (Nat.lt_of_le_of_lt (Nat.sub_le _ _) h)).1 y + part m c ⟨n, h⟩ y
  else (outsAt0 m c n h).1

theorem held_pred (c : Dev nD) (t : Fin cfg0.N) (h0 : ¬t.val % 16 = 0) :
    (outsAt0 m c (t.val - 1) (Nat.lt_of_le_of_lt (Nat.sub_le _ _) t.isLt)).2
      = stored m c ⟨16 * (t.val / 16), Pipeline.run_start_lt t⟩ := by
  have h := held m c ⟨t.val - 1, Nat.lt_of_le_of_lt (Nat.sub_le _ _) t.isLt⟩
  have e : (t.val - 1) / 16 = t.val / 16 := by omega
  simp only [e] at h
  exact h

/-- The running sum at the last point of a run is the sum of the 16 points' contributions. -/
theorem acc_eq (c : Dev nD) (t : Fin cfg0.N) (ht : t.val % 16 = 16 - 1) (y : S1024x2048.Idx) :
    acc m c t.val t.isLt y
      = ∑ s : Fin 16, part m c ⟨16 * (t.val / 16) + s.val, by have := t.isLt; have := s.isLt; omega⟩ y := by
  rw [Pipeline.eq_sum_fin_of_reset_step_apply_of_flush (fun n h => acc m c n h) 16 (fun _ => (0 : EReal)) (part m c)
    (fun t h0 y => by
      have h1 : ¬t.val % 16 = 15 := by omega
      dsimp only [acc]
      rw [if_neg h1, outsAt0_A m c t h0 h1]; frame_out
      rw [pay3_at, pay2_at]
      have e : (⟨16 * (t.val / 16), Pipeline.run_start_lt t⟩ : Fin cfg0.N) = t := Fin.ext (by dsimp only; omega)
      rw [part, e])
    (fun t h0 y => by
      dsimp only [acc]
      by_cases h1 : t.val % 16 = 15
      · have h2 : ¬(t.val - 1) % 16 = 15 := by omega
        rw [if_pos h1, if_neg h2]
      · have h2 : ¬(t.val - 1) % 16 = 15 := by omega
        rw [if_neg h1, if_neg h2, outsAt0_B m c t h0 h1]; frame_out
        rw [pay3_at, read_unread_whole, held_pred m c t h0]) t ht y, zero_add]

/-- What the last point of a run leaves: the block of the input plus the scaled sum. -/
theorem last_eq (c : Dev nD) (t : Fin cfg0.N) (ht : t.val % 16 = 15) (a : Fin 1024) (b : Fin 2048) :
    (outsAt0 m c t.val t.isLt).1 (ix2 a b)
      = (show EReal from iblk m c 0 t (ix2 a b)) + rms (fun k => acc m c t.val t.isLt (ix2 a k)) (fun k => iblk m c 2 t (ix2 0 k)) b := by
  have h0 : ¬t.val % 16 = 0 := by omega
  rw [outsAt0_C m c t h0 ht]; frame_out
  rw [pay4_at]
  dsimp only [acc]
  rw [if_pos ht]
  simp only [pay3_at]
  rw [read_unread_whole, held_pred m c t h0]

/-! ## The blocks at coordinates -/

theorem idx0 : ∀ t : Fin cfg0.N, win0_0.index t = ![t.val / 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, t.val % 16] := (by decide +kernel : ∀ t : Fin grid0.N, _)
theorem idx4 : ∀ t : Fin cfg0.N, win0_4.index t = ![0, t.val % 16, 0] := (by decide +kernel : ∀ t : Fin grid0.N, _)
theorem idx5 : ∀ t : Fin cfg0.N, win0_5.index t = ![t.val / 16, 0] := (by decide +kernel : ∀ t : Fin grid0.N, _)

theorem rows_at (c : Dev nD) (t : Fin cfg0.N) (a : Fin 1024) (k : Fin 2048) (i : Fin 8192)
    (hi : i.val = t.val / 16 * 1024 + a.val) :
    iblk m c 0 t (ix2 a k) = m (c.tc.loc main_arg0) (ix2 i k) := by
  blk_point [iblk, V, idx0 t]

theorem gain_in_at (c : Dev nD) (t : Fin cfg0.N) (k : Fin 2048) :
    iblk m c 1 t (ix2 0 k) = m (c.tc.loc main_arg1) (ix1 k) := by
  blk_point [iblk, V, idx1 t]

theorem gain_out_at (c : Dev nD) (t : Fin cfg0.N) (k : Fin 2048) :
    iblk m c 2 t (ix2 0 k) = m (c.tc.loc main_arg2) (ix1 k) := by
  blk_point [iblk, V, idx2 t]

theorem w1_at (c : Dev nD) (t : Fin cfg0.N) (k : Fin 2048) (f : Fin 512) (l : Fin 8192)
    (hl : l.val = t.val % 16 * 512 + f.val) :
    iblk m c 3 t (ix3 0 k f) = m (c.tc.loc main_arg3) (ix3 0 k l) := by
  blk_point [iblk, V, idx3 t]

theorem w2_at (c : Dev nD) (t : Fin cfg0.N) (f : Fin 512) (k : Fin 2048) (l : Fin 8192)
    (hl : l.val = t.val % 16 * 512 + f.val) :
    iblk m c 4 t (ix3 0 f k) = m (c.tc.loc main_arg4) (ix3 0 l k) := by
  blk_point [iblk, V, idx4 t]

/-! ## The result array -/

/-- The array the kernel leaves, entry by entry. -/
def result (c : Dev nD) : Buf (Elt Ideal) ((c : Thread nD τ).loc main_v2) := fun i =>
  Mlp.mlp (fun k => m (c.tc.loc main_arg0) (ix2 (i 0) k)) (fun k => m (c.tc.loc main_arg1) (ix1 k))
    (fun k => m (c.tc.loc main_arg2) (ix1 k)) (fun k f => m (c.tc.loc main_arg3) (ix3 0 k f))
    (fun f k => m (c.tc.loc main_arg4) (ix3 0 f k)) (i 1)

/-- The rows stored at the first point of a run, read at an entry. -/
theorem stored_at (c : Dev nD) (t : Fin cfg0.N) (a : Fin 1024) (k : Fin 2048) (i : Fin 8192)
    (hi : i.val = t.val / 16 * 1024 + a.val) :
    stored m c t (ix2 a k)
      = rms (fun k => m (c.tc.loc main_arg0) (ix2 i k)) (fun k => m (c.tc.loc main_arg1) (ix1 k)) k := by
  rw [stored, pay1_at]
  exact congrArg₂ (fun x g => rms x g k) (funext fun k => rows_at m c t a k i hi) (funext fun k => gain_in_at m c t k)

/-- A tile's contribution, its reads named. -/
theorem tile_eq (u : Vec Ideal S1024x2048 .bf16) (w1 : Vec Ideal S1x2048x512 .f32) (w2 : Vec Ideal S1x512x2048 .f32)
    (a : Fin 1024) (b : Fin 2048) (x g : Fin 2048 → EReal) (W1 : Fin 2048 → Fin 512 → EReal) (W2 : Fin 512 → EReal)
    (hu : ∀ k, u (ix2 a k) = rms x g k) (h1 : ∀ k f, w1 (ix3 0 k f) = W1 k f) (h2 : ∀ f, w2 (ix3 0 f b) = W2 f) :
    tile u w1 w2 (ix2 a b) = ∑ f : Fin 512, Mlp.hid x g (fun k => W1 k f) * W2 f := by
  have e : ∀ f, (∑ k : Fin 2048, u (ix2 a k) * w1 (ix3 0 k f)) = proj x g fun k => W1 k f := fun f =>
    Finset.sum_congr rfl fun k _ => by rw [hu, h1]
  refine Finset.sum_congr rfl fun f _ => ?_
  show max (∑ k : Fin 2048, u (ix2 a k) * w1 (ix3 0 k f)) 0 * max (∑ k : Fin 2048, u (ix2 a k) * w1 (ix3 0 k f)) 0
    * w2 (ix3 0 f b) = _
  rw [e, h2]
  rfl

/-- A point's contribution at an entry of its block, over the argument arrays. -/
theorem part_at (c : Dev nD) (t : Fin cfg0.N) (s : Fin 16) (hs : t.val % 16 = s.val) (a : Fin 1024) (b : Fin 2048)
    (i : Fin 8192) (hi : i.val = t.val / 16 * 1024 + a.val) :
    part m c t (ix2 a b) = ∑ f : Fin 512,
      Mlp.hid (fun k => m (c.tc.loc main_arg0) (ix2 i k)) (fun k => m (c.tc.loc main_arg1) (ix1 k))
        (fun k => m (c.tc.loc main_arg3) (ix3 0 k ⟨s.val * 512 + f.val, by omega⟩))
        * m (c.tc.loc main_arg4) (ix3 0 ⟨s.val * 512 + f.val, by omega⟩ b) :=
  tile_eq _ _ _ a b _ _ (fun k f => m (c.tc.loc main_arg3) (ix3 0 k ⟨s.val * 512 + f.val, by omega⟩))
    (fun f => m (c.tc.loc main_arg4) (ix3 0 ⟨s.val * 512 + f.val, by omega⟩ b))
    (fun k => stored_at m c _ a k i (by dsimp only; omega))
    (fun k f => w1_at m c t k f _ (by dsimp only; rw [hs]))
    (fun f => w2_at m c t f b _ (by dsimp only; rw [hs]))

/-- The running sum at the last point of a run is the whole product with the second weights. -/
theorem acc_up (c : Dev nD) (t : Fin cfg0.N) (ht : t.val % 16 = 15) (a : Fin 1024) (b : Fin 2048) (i : Fin 8192)
    (hi : i.val = t.val / 16 * 1024 + a.val) :
    acc m c t.val t.isLt (ix2 a b)
      = Mlp.up (fun k => m (c.tc.loc main_arg0) (ix2 i k)) (fun k => m (c.tc.loc main_arg1) (ix1 k))
          (fun k f => m (c.tc.loc main_arg3) (ix3 0 k f)) (fun f k => m (c.tc.loc main_arg4) (ix3 0 f k)) b := by
  rw [acc_eq m c t ht]
  rw [Finset.sum_congr rfl fun s _ => part_at m c ⟨16 * (t.val / 16) + s.val, by have := t.isLt; omega⟩ s
    (by dsimp only; omega) a b i (by dsimp only; omega)]
  exact Fin.sum_mul_add_fin (S := 16) (n := 512) (L := 8192) fun l =>
    Mlp.hid (fun k => m (c.tc.loc main_arg0) (ix2 i k)) (fun k => m (c.tc.loc main_arg1) (ix1 k))
        (fun k => m (c.tc.loc main_arg3) (ix3 0 k l)) * m (c.tc.loc main_arg4) (ix3 0 l b)

theorem final (c : Dev nD) : (dats m 0 c).arrAt 5 cfg0.N = result m c := by
  refine (dats m 0 c).arrAt_eq_of_covers 5 _ (by decide +kernel) fun t hf y => ?_
  have ht : t.val % 16 = 15 := (flush0_5 t).mp hf
  have hN : t.val < 128 := lt_of_lt_of_eq t.isLt N_0
  obtain ⟨a, b, rfl⟩ : ∃ (a : Fin 1024) (b : Fin 2048), y = ix2 a b := ⟨y 0, y 1, by funext k; fin_cases k <;> rfl⟩
  blk_simp
  rw [after0_5]
  have he : (win0_5.blk t).view.emb (ix2 a b) = ix2 (⟨t.val / 16 * 1024 + a.val, by omega⟩ : Fin 8192) b := by
    blk_ext [idx5 t]
  have hi : (⟨t.val / 16 * 1024 + a.val, by omega⟩ : Fin 8192).val = t.val / 16 * 1024 + a.val := rfl
  rw [he, last_eq m c t ht, rows_at m c t a b _ hi]
  exact congrArg₂ (fun (z g : Fin 2048 → EReal) => _ + rms z g b) (funext fun k => acc_up m c t ht a k _ hi)
    (funext fun k => gain_out_at m c t k)

/-- The run, read: the result array, the arguments as they were. -/
theorem run_result (ρ : Dev nD → PrngReg) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Kernel2Ideal.Value
-- ==== Proof.Mlp.lean ====
/-
  The feed-forward kernel and the host program compute the same array.
-/
module

public import proofs.«01_k».proof.Defs
public import proofs.«01_k».proof.Proof.MlpKernel
public import proofs.«01_k».proof.Proof.Gen.Reference2Ideal

@[expose] public section

noncomputable section

open Idealize.ShloMosaic Idealize.ShloMosaic.TcCoe Idealize.SL.Sem

namespace Cert.Mlp

/-- The claim: from equal arguments both programs leave the same result, their arguments unchanged. -/
theorem algebraic : Cert.algebraic_Kernel2Ideal_Reference2Ideal (hKernel2Ideal := Cert.Kernel2Ideal.Gen.facts)
    (hReference2Ideal := Cert.Reference2Ideal.Gen.facts) := by
  intro m g m' g' _ hm
  refine ⟨Cert.Kernel2Ideal.Value.result m, Cert.Kernel2Ideal.Value.run_result m g, ?_⟩
  refine (θ_run _ _ _).mono (fun _ h c => ⟨(h c).1.trans ?_, (h c).2⟩) (Cert.Reference2Ideal.Value.run m' g')
  obtain ⟨h0, h1, h2, h3, h4⟩ := hm c
  funext i
  obtain ⟨a, b, rfl⟩ : ∃ (a : Fin 8192) (b : Fin 2048), i = ix2 a b := ⟨i 0, i 1, by funext k; fin_cases k <;> rfl⟩
  refine (Cert.Reference2Ideal.Value.result_at m' c a b).trans ?_
  rw [h0, h1, h2, h3, h4]
  rfl

end Cert.Mlp
-- ==== Proof.PartSpec.lean ====
/-
  The part projection at an entry: a row scaled by the inverse root of its mean square and by the gain, times a column of
  the weights. The host program computes this entry by entry.
-/
module

public import proofs.«01_k».proof.Proof.Rows
public import proofs.«01_k».proof.Proof.Gen.Reference3Ideal.Run

@[expose] public section

set_option maxRecDepth 16384

noncomputable section

open Idealize.ShloMosaic Idealize.ShloMosaic.TcCoe Idealize.SL.Sem

namespace Cert.PartProj

open Cert.Rows

/-- The block of columns of the weights that a part takes: the parts are blocks 0, 2 and 3 of the four. -/
def block (p : Fin 3) : ℕ := if p.val = 0 then 0 else p.val + 1

theorem block_le (p : Fin 3) : block p ≤ 3 := by
  unfold block; split <;> omega

/-- A column of a part, among all columns of the weights. -/
def col (p : Fin 3) (j : Fin 2048) : Fin 8192 := ⟨block p * 2048 + j.val, by have := block_le p; omega⟩

theorem eq_col (p : Fin 3) (j : Fin 2048) (n : Fin 8192) (h : n.val = block p * 2048 + j.val) : n = col p j := Fin.ext h

end Cert.PartProj

namespace Cert.Reference3Ideal.Value

open Cert.Reference3Ideal Cert.Reference3Ideal.Gen

/-- The host program's result at an entry. -/
def result (m : (ℓ : Loc nD τ sig) → Buf (Elt Ideal) ℓ) (c : Dev nD) : Buf (Elt Ideal) ((c.tc : Thread nD τ).loc main_v23) := fun i =>
  Rows.proj (fun k => m (c.tc.loc main_arg0) (ix2 (i 1) k)) (fun k => m (c.tc.loc main_arg1) (ix1 k))
    (fun k => m (c.tc.loc main_arg2) (ix3 0 k (PartProj.col (i 0) (i 2))))

theorem entry_eq (m : (ℓ : Loc nD τ sig) → Buf (Elt Ideal) ℓ) (c : Dev nD) (p : Fin 3) (a : Fin 8192) (b : Fin 2048)
    (n : Fin 8192) (h : n.val = PartProj.block p * 2048 + b.val) :
    Rows.proj (fun k => m (c.tc.loc main_arg0) (ix2 a k)) (fun k => m (c.tc.loc main_arg1) (ix1 k))
      (fun k => m (c.tc.loc main_arg2) (ix3 0 k n)) = result m c (ix3 p a b) := by
  rw [PartProj.eq_col p b n h]
  rfl

/-- The run of the host program, its result read entry by entry. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun _ h c => ⟨(h c).1.trans ?_, (h c).2⟩) (run m ρ)
  funext i
  obtain ⟨p, a, b, rfl⟩ : ∃ (p : Fin 3) (a : Fin 8192) (b : Fin 2048), i = ix3 p a b :=
    ⟨i 0, i 1, i 2, by funext k; fin_cases k <;> rfl⟩
  fin_cases p
  · pointwise
    exact entry_eq m c 0 a b ⟨b.val, by omega⟩ (Nat.zero_add _).symm
  · pointwise
    exact entry_eq m c 1 a b ⟨4096 + b.val, by omega⟩ rfl
  · pointwise
    exact entry_eq m c 2 a b ⟨6144 + b.val, by omega⟩ rfl

end Cert.Reference3Ideal.Value
-- ==== Proof.PartKernel.lean ====
/-
  The part projection kernel's result array. A point takes one part and 512 rows, in two halves of 256; the first point
  of a part stores that part's weights, 128 rows at a time, and the part's other points read them.
-/
module

public import proofs.«01_k».proof.Proof.PartSpec
public import proofs.«01_k».proof.Proof.Gen.Kernel3Ideal.Frame
public import Idealize.ShloMosaic.Lib.Pipeline.ReadBack
public import Idealize.ShloMosaic.Lib.WordArith.Masks

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Rows

variable (m : (ℓ : Loc nD τ sig) → Buf (Elt Ideal) ℓ)

/-! ## The stored values at an entry -/

theorem pay2_at (w : Vec Ideal S1x128x2048 .f32) (k : Fin 128) (n : Fin 2048) : k0_pay2 w (ix2 k n) = w (ix3 0 k n) := by
  pointwise [k0_pay2]

theorem pay3_at (X : Vec Ideal S256x2048 .f32) (G : Vec Ideal S1x2048 .f32) (W : Vec Ideal S2048x2048 .bf16)
    (a : Fin 256) (b : Fin 2048) :
    k0_pay3 X G W (ix3 0 a b) = proj (fun k => X (ix2 a k)) (fun k => G (ix2 0 k)) (fun k => W (ix2 k b)) := by
  pointwise [k0_pay3]
  rfl

theorem pay1_at (X : Vec Ideal S256x2048 .f32) (G : Vec Ideal S1x2048 .f32) (W : Vec Ideal S2048x2048 .bf16)
    (a : Fin 256) (b : Fin 2048) :
    k0_pay1 X (k0_pay4 G) (k0_pay5 X) (k0_pay6 (F := Ideal)) W (ix3 0 a b)
      = proj (fun k => X (ix2 a k)) (fun k => G (ix2 0 k)) (fun k => W (ix2 k b)) := by
  pointwise [k0_pay1, k0_pay4, k0_pay5, k0_pay6]
  rfl

/-! ## The weights, stored row block by row block -/

/-- A part's weights as the scratch holds them. -/
def weights (X : Vec Ideal S1x2048x2048 .f32) : Vec Ideal S2048x2048 .bf16 := fun y => X (ix3 0 (y 0) (y 1))

theorem trips_eq : k0_t1_loop.trips = 16 := by decide +kernel

theorem off1_eq (k : Fin k0_t1_loop.trips) : k0_off1 k = ![0, k.val * 128, 0] :=
  (by decide +kernel : ∀ k : Fin k0_t1_loop.trips, k0_off1 k = ![0, k.val * 128, 0]) k
theorem off2_eq (k : Fin k0_t1_loop.trips) : k0_off2 k = ![k.val * 128, 0] :=
  (by decide +kernel : ∀ k : Fin k0_t1_loop.trips, k0_off2 k = ![k.val * 128, 0]) k

/-- One trip's stored rows are those rows of the weights. -/
theorem row_at {arg4 : Memref sig .tc .vmem S1x2048x2048 .f32} (harg4 : arg4.IsWhole) (X : Vec Ideal S1x2048x2048 .f32)
    (n : Fin k0_t1_loop.trips) (h h') (k : Fin 128) (j : Fin 2048) :
    k0_pay2 (View.readAt (Elt Ideal) arg4.view (Rect.unit (s := S1x2048x2048) (k0_off1 n) S1x128x2048.size h).toLoadRect (harg4.unread X)) (ix2 k j)
      = weights X ((Rect.unit (s := S2048x2048) (k0_off2 n) S128x2048.size h').emb (ix2 k j)) := by
  rw [View.readAt_eq_ld, harg4.read_unread, pay2_at]
  refine View.ld_unit_apply_of X _ _ h _ _ fun d => ?_
  have e1 := off1_eq n
  have e2 := off2_eq n
  fin_cases d
  · show 0 = k0_off1 n 0 + 0
    rw [e1]; rfl
  · show k0_off2 n 0 + 1 * k.val = k0_off1 n 1 + k.val
    rw [e1, e2, Nat.one_mul]; rfl
  · show k0_off2 n 1 + 1 * j.val = k0_off1 n 2 + j.val
    rw [e1, e2, Nat.one_mul]; rfl

/-- Every piece that the loop stores is that part of the weights. -/
theorem pieces (𝒱 : Variants) (c : Dev nD) (bd : Option 𝒱.V) (i : grid0.Coords) (arg2 : Memref sig .tc .vmem S512x2048 .f32) (harg2 : arg2.IsWhole)
    (arg3 : Memref sig .tc .vmem S1x2048 .f32) (harg3 : arg3.IsWhole) (arg4 : Memref sig .tc .vmem S1x2048x2048 .f32) (harg4 : arg4.IsWhole)
    (arg5 : Memref sig .tc .vmem S1x512x2048 .bf16) (harg5 : arg5.IsWhole) (arg6 : Memref sig .tc .vmem S2048x2048 .bf16) (harg6 : arg6.IsWhole)
    (h1 : k0_cond1 i = 1#1) (X : Vec Ideal S1x2048x2048 .f32) (n : ℕ) :
    ∀ p ∈ pb_k0_t1 𝒱 c bd i arg2 harg2 arg3 harg3 arg4 harg4 arg5 harg5 arg6 harg6 h1 (harg4.unread X) n,
      ∀ x, p.2 x = weights X (p.1.emb x) := by
  induction n with
  | zero => intro p hp; cases hp
  | succ n ih =>
    intro p hp
    rw [pb_k0_t1.eq_2] at hp
    unfold pb_k0_t1Step at hp
    split at hp
    · rcases List.mem_append.1 hp with hp | hp
      · unfold tripL_k0_t1 trip_k0_t1 at hp
        obtain rfl := List.mem_singleton.1 hp
        intro x
        obtain ⟨k, j, rfl⟩ : ∃ (k : Fin 128) (j : Fin 2048), x = ix2 k j := ⟨x 0, x 1, by funext k; fin_cases k <;> rfl⟩
        exact row_at harg4 X ⟨n, by assumption⟩ (k0_off1_inb i _ h1) (k0_off2_inb i _ h1) k j
      · exact ih p hp
    · exact ih p hp

/-- What the loop leaves: the part's weights. -/
theorem loop_read (𝒱 : Variants) (c : Dev nD) (bd : Option 𝒱.V) (i : grid0.Coords) (arg2 : Memref sig .tc .vmem S512x2048 .f32) (harg2 : arg2.IsWhole)
    (arg3 : Memref sig .tc .vmem S1x2048 .f32) (harg3 : arg3.IsWhole) (arg4 : Memref sig .tc .vmem S1x2048x2048 .f32) (harg4 : arg4.IsWhole)
    (arg5 : Memref sig .tc .vmem S1x512x2048 .bf16) (harg5 : arg5.IsWhole) (arg6 : Memref sig .tc .vmem S2048x2048 .bf16) (harg6 : arg6.IsWhole)
    (h1 : k0_cond1 i = 1#1) (X : Vec Ideal S1x2048x2048 .f32) :
    View.canon (pb_k0_t1 𝒱 c bd i arg2 harg2 arg3 harg3 arg4 harg4 arg5 harg5 arg6 harg6 h1 (harg4.unread X)
      (Scf.trips k0_t1_loop.lb k0_t1_loop.ub k0_t1_loop.st)) = weights X :=
  funext fun y => View.canon_apply_of_pieces (weights X) _ (pieces 𝒱 c bd i arg2 harg2 arg3 harg3 arg4 harg4 arg5 harg5 arg6 harg6 h1 X _) y
    (View.cover_of_tiledL (s := S2048x2048) _ S128x2048.size (by sl_kernel_rfl) y)

theorem loop_load (𝒱 : Variants) (c : Dev nD) (bd : Option 𝒱.V) (i : grid0.Coords) (arg2 : Memref sig .tc .vmem S512x2048 .f32) (harg2 : arg2.IsWhole)
    (arg3 : Memref sig .tc .vmem S1x2048 .f32) (harg3 : arg3.IsWhole) (arg4 : Memref sig .tc .vmem S1x2048x2048 .f32) (harg4 : arg4.IsWhole)
    (arg5 : Memref sig .tc .vmem S1x512x2048 .bf16) (harg5 : arg5.IsWhole) (arg6 : Memref sig .tc .vmem S2048x2048 .bf16) (harg6 : arg6.IsWhole)
    (h1 : k0_cond1 i = 1#1) (X : Vec Ideal S1x2048x2048 .f32) (v : View sig .tc .vmem S2048x2048 .bf16) (r : Rect S2048x2048) :
    v.readCov (pb_k0_t1 𝒱 c bd i arg2 harg2 arg3 harg3 arg4 harg4 arg5 harg5 arg6 harg6 h1 (harg4.unread X)
      (Scf.trips k0_t1_loop.lb k0_t1_loop.ub k0_t1_loop.st)) r.toLoadRect = View.ld (weights X) r :=
  (View.readCov_eq_canon' v _ _).trans (by rw [loop_read])

/-- What a point leaves in its block, from its blocks and the weights it reads. -/
def block (X : Vec Ideal S512x2048 .f32) (G : Vec Ideal S1x2048 .f32) (W : Vec Ideal S2048x2048 .bf16) (y : S1x512x2048.Idx) : EReal :=
  proj (fun k => X (ix2 (y 1) k)) (fun k => G (ix2 0 k)) (fun k => W (ix2 k (y 2)))

/-- Rows cut out of a block, read at an entry. -/
theorem cut_at {e : EltTy} (X : Vec Ideal S512x2048 e) (off : ℕ) (h) (a : Fin 256) (k : Fin 2048) (i : Fin 512)
    (hi : i.val = off + a.val) :
    (View.ld X (Rect.unit ![off, 0] ![256, 2048] h) : Vec Ideal S256x2048 e) (ix2 a k) = X (ix2 i k) :=
  View.ld_unit_apply_of X _ _ h _ _ fun d => by
    fin_cases d
    · exact hi
    · exact (Nat.zero_add _).symm

theorem first_piece (X : Vec Ideal S512x2048 .f32) (G : Vec Ideal S1x2048 .f32) (W : Vec Ideal S2048x2048 .bf16) (off : ℕ) (h)
    (y : S1x512x2048.Idx) (x : S1x256x2048.Idx) (h1 : (y 1).val = off + (x 1).val) (h2 : (y 2).val = (x 2).val) :
    k0_pay3 (View.ld X (Rect.unit ![off, 0] ![256, 2048] h)) G W x = block X G W y := by
  obtain ⟨z, a, b, rfl⟩ : ∃ (z : Fin 1) (a : Fin 256) (b : Fin 2048), x = ix3 z a b :=
    ⟨x 0, x 1, x 2, by funext k; fin_cases k <;> rfl⟩
  obtain rfl : z = 0 := Subsingleton.elim _ _
  have hb : y 2 = b := Fin.ext h2
  rw [pay3_at, block, hb]
  simp only [cut_at X off h a _ (y 1) h1]

theorem second_piece (X : Vec Ideal S512x2048 .f32) (G : Vec Ideal S1x2048 .f32) (W : Vec Ideal S2048x2048 .bf16) (off : ℕ) (h h')
    (y : S1x512x2048.Idx) (x : S1x256x2048.Idx) (h1 : (y 1).val = off + (x 1).val) (h2 : (y 2).val = (x 2).val) :
    k0_pay1 (View.ld X (Rect.unit ![off, 0] ![256, 2048] h)) (k0_pay4 G) (k0_pay5 (View.ld X (Rect.unit ![off, 0] ![256, 2048] h')))
      (k0_pay6 (F := Ideal)) W x = block X G W y := by
  obtain ⟨z, a, b, rfl⟩ : ∃ (z : Fin 1) (a : Fin 256) (b : Fin 2048), x = ix3 z a b :=
    ⟨x 0, x 1, x 2, by funext k; fin_cases k <;> rfl⟩
  obtain rfl : z = 0 := Subsingleton.elim _ _
  have hb : y 2 = b := Fin.ext h2
  rw [pay1_at, block, hb]
  simp only [cut_at X off h a _ (y 1) h1]

/-! ## What the points leave -/

/-- The weights that a part's first point stores. -/
abbrev stored (c : Dev nD) (t : Fin cfg0.N) : Vec Ideal S2048x2048 .bf16 := weights (iblk m c 2 t)

theorem held (c : Dev nD) (t : Fin cfg0.N) :
    (outsAt0 m c t.val t.isLt).2 = stored m c ⟨16 * (t.val / 16), Pipeline.run_start_lt t⟩ :=
  Pipeline.eq_of_write_hold (fun n h => (outsAt0 m c n h).2) 16 (stored m c)
    (fun t h0 => by
      rw [outsAt0_A m c t h0]; frame_open
      exact (View.read_writes_junk_eq_canon VS0_0 _).trans (loop_read ..))
    (fun t h0 => by rw [outsAt0_B m c t h0]; rfl) t

theorem out_A (c : Dev nD) (t : Fin cfg0.N) (h0 : t.val % 16 = 0) (y : S1x512x2048.Idx) :
    (outsAt0 m c t.val t.isLt).1 y = block (iblk m c 0 t) (iblk m c 1 t) (stored m c t) y := by
  rw [outsAt0_A m c t h0]; frame_open
  generalize hL : pb_k0_t1 (F := Ideal) _ _ _ _ _ _ _ _ _ _ _ _ _ _ _ _ _ = L
  have hW : ∀ r : Rect S2048x2048, scM0_0.view.readCov L r.toLoadRect = View.ld (stored m c t) r := fun r => by
    rw [← hL]; exact loop_load ..
  clear hL
  simp only [hW]
  frame_out
  canon_tiles x h
  · exact second_piece _ _ _ _ _ _ _ _ (by omega) (by omega)
  · exact first_piece _ _ _ _ _ _ _ (by omega) (by omega)

theorem out_B (c : Dev nD) (t : Fin cfg0.N) (h0 : ¬t.val % 16 = 0) (y : S1x512x2048.Idx) :
    (outsAt0 m c t.val t.isLt).1 y = block (iblk m c 0 t) (iblk m c 1 t) (outsAt0 m c (t.val - 1) (by omega)).2 y := by
  rw [outsAt0_B m c t h0]; frame_open
  frame_out
  simp only [read_unread_whole]
  canon_tiles x h
  · exact second_piece _ _ _ _ _ _ _ _ (by omega) (by omega)
  · exact first_piece _ _ _ _ _ _ _ (by omega) (by omega)

/-! ## The blocks at coordinates -/

theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, if t.val / 16 = 0 then 0 else t.val / 16 + 1] :=
  (by decide +kernel : ∀ t : Fin grid0.N, _)
theorem idx3 : ∀ t : Fin cfg0.N, win0_3.index t = ![t.val / 16, t.val % 16, 0] := (by decide +kernel : ∀ t : Fin grid0.N, _)

/-- The part that a point works on. -/
abbrev partOf (t : Fin cfg0.N) : Fin 3 := ⟨t.val / 16, by have := lt_of_lt_of_eq t.isLt N_0; omega⟩

theorem rows_at (c : Dev nD) (t : Fin cfg0.N) (a : Fin 512) (k : Fin 2048) (i : Fin 8192)
    (hi : i.val = t.val % 16 * 512 + a.val) :
    iblk m c 0 t (ix2 a k) = m (c.tc.loc main_arg0) (ix2 i k) := by
  blk_point [iblk, V, idx0 t]

theorem gain_at (c : Dev nD) (t : Fin cfg0.N) (k : Fin 2048) :
    iblk m c 1 t (ix2 0 k) = m (c.tc.loc main_arg1) (ix1 k) := by
  blk_point [iblk, V, idx1 t]

theorem stored_at (c : Dev nD) (t : Fin cfg0.N) (k n : Fin 2048) :
    stored m c t (ix2 k n) = m (c.tc.loc main_arg2) (ix3 0 k (PartProj.col (partOf t) n)) := by
  show iblk m c 2 t (ix3 0 k n) = _
  blk_point [iblk, V, idx2 t]
  rfl

theorem held_at (c : Dev nD) (t : Fin cfg0.N) (k n : Fin 2048) :
    (outsAt0 m c t.val t.isLt).2 (ix2 k n) = m (c.tc.loc main_arg2) (ix3 0 k (PartProj.col (partOf t) n)) := by
  have hp : partOf ⟨16 * (t.val / 16), Pipeline.run_start_lt t⟩ = partOf t :=
    Fin.ext (by show 16 * (t.val / 16) / 16 = t.val / 16; omega)
  rw [held m c t, ← hp]
  exact stored_at m c _ k n

/-! ## The result array -/

/-- The array the kernel leaves, entry by entry. -/
def result (c : Dev nD) : Buf (Elt Ideal) ((c : Thread nD τ).loc main_v1) := fun i =>
  proj (fun k => m (c.tc.loc main_arg0) (ix2 (i 1) k)) (fun k => m (c.tc.loc main_arg1) (ix1 k))
    (fun k => m (c.tc.loc main_arg2) (ix3 0 k (PartProj.col (i 0) (i 2))))

theorem block_at (c : Dev nD) (t : Fin cfg0.N) (W : Vec Ideal S2048x2048 .bf16)
    (hW : ∀ k n, W (ix2 k n) = m (c.tc.loc main_arg2) (ix3 0 k (PartProj.col (partOf t) n))) (a : Fin 512) (b : Fin 2048)
    (i : Fin 8192) (hi : i.val = t.val % 16 * 512 + a.val) :
    block (iblk m c 0 t) (iblk m c 1 t) W (ix3 0 a b) = result m c (ix3 (partOf t) i b) := by
  have e0 : (fun k => iblk m c 0 t (ix2 a k)) = fun k => m (c.tc.loc main_arg0) (ix2 i k) :=
    funext fun k => rows_at m c t a k i hi
  have e1 : (fun k => iblk m c 1 t (ix2 0 k)) = fun k => m (c.tc.loc main_arg1) (ix1 k) := funext fun k => gain_at m c t k
  have e2 : (fun k => W (ix2 k b)) = fun k => m (c.tc.loc main_arg2) (ix3 0 k (PartProj.col (partOf t) b)) :=
    funext fun k => hW k b
  show proj (fun k => iblk m c 0 t (ix2 a k)) (fun k => iblk m c 1 t (ix2 0 k)) (fun k => W (ix2 k b)) = _
  rw [e0, e1, e2]
  rfl

theorem out_at (c : Dev nD) (t : Fin cfg0.N) (a : Fin 512) (b : Fin 2048) (i : Fin 8192)
    (hi : i.val = t.val % 16 * 512 + a.val) :
    (outsAt0 m c t.val t.isLt).1 (ix3 0 a b) = result m c (ix3 (partOf t) i b) := by
  by_cases h0 : t.val % 16 = 0
  · exact (out_A m c t h0 _).trans (block_at m c t _ (stored_at m c t) a b i hi)
  · have hp : partOf ⟨t.val - 1, by omega⟩ = partOf t := Fin.ext (by show (t.val - 1) / 16 = t.val / 16; omega)
    exact (out_B m c t h0 _).trans (block_at m c t _ (hp ▸ held_at m c ⟨t.val - 1, by omega⟩) a b i hi)

theorem final (c : Dev nD) : (dats m 0 c).arrAt 3 cfg0.N = result m c := by
  refine (dats m 0 c).arrAt_eq_of_covers 3 _ (by decide +kernel) fun t hf y => ?_
  have hN : t.val < 48 := lt_of_lt_of_eq t.isLt N_0
  obtain ⟨z, a, b, rfl⟩ : ∃ (z : Fin 1) (a : Fin 512) (b : Fin 2048), y = ix3 z a b :=
    ⟨y 0, y 1, y 2, by funext k; fin_cases k <;> rfl⟩
  obtain rfl : z = 0 := Subsingleton.elim _ _
  blk_simp
  rw [after0_3]
  have he : (win0_3.blk t).view.emb (ix3 0 a b) = ix3 (partOf t) (⟨t.val % 16 * 512 + a.val, by omega⟩ : Fin 8192) b := by
    blk_ext [idx3 t]
  rw [he]
  exact out_at m c t a b _ rfl

/-- The run of the kernel, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨((h.2 c).1 3).trans (final m c), h.1 c⟩) (θ_run_and (unchanged m ρ) (run_main m ρ))

end Cert.Kernel3Ideal.Value
-- ==== Proof.PartProj.lean ====
/-
  The part projection kernel and the host program compute the same array.
-/
module

public import proofs.«01_k».proof.Defs
public import proofs.«01_k».proof.Proof.PartKernel
public import proofs.«01_k».proof.Proof.Gen.Kernel3Ideal
public import proofs.«01_k».proof.Proof.Gen.Reference3Ideal

@[expose] public section

noncomputable section

open Idealize.ShloMosaic Idealize.ShloMosaic.TcCoe Idealize.SL.Sem

namespace Cert.PartProj

/-- The claim: from equal arguments both programs leave the same result, their arguments unchanged. -/
theorem algebraic : Cert.algebraic_Kernel3Ideal_Reference3Ideal (hKernel3Ideal := Cert.Kernel3Ideal.Gen.facts)
    (hReference3Ideal := Cert.Reference3Ideal.Gen.facts) := by
  intro m g m' g' _ hm
  refine ⟨Cert.Kernel3Ideal.Value.result m, Cert.Kernel3Ideal.Value.run_result m g, ?_⟩
  refine (θ_run _ _ _).mono (fun _ h c => ⟨(h c).1.trans ?_, (h c).2⟩) (Cert.Reference3Ideal.Value.run_result m' g')
  obtain ⟨h0, h1, h2⟩ := hm c
  unfold Cert.Reference3Ideal.Value.result
  rw [h0, h1, h2]
  rfl

end Cert.PartProj
-- ==== Proof.OutSpec.lean ====
/-
  The output projection at an entry: the mixed row times the weights, scaled by the inverse root of its mean square and
  by the gain, added to the row it came from. The host program computes this entry by entry.
-/
module

public import proofs.«01_k».proof.Proof.Rows
public import proofs.«01_k».proof.Proof.Gen.Reference4Ideal.Run

@[expose] public section

set_option maxRecDepth 16384

noncomputable section

open Idealize.ShloMosaic Idealize.ShloMosaic.TcCoe Idealize.SL.Sem

namespace Cert.OutProj

open Cert.Rows

/-- One entry of the result, from a row of the mixed values, a row of the residual, the gain and the weights. -/
def entry (a h g : Fin 2048 → EReal) (w : Fin 2048 → Fin 2048 → EReal) (j : Fin 2048) : EReal :=
  h j + rms (fun n => ∑ k, a k * w k n) g j

end Cert.OutProj

namespace Cert.Reference4Ideal.Value

open Cert.Reference4Ideal Cert.Reference4Ideal.Gen

/-- The host program's result at an entry. -/
def result (m : (ℓ : Loc nD τ sig) → Buf (Elt Ideal) ℓ) (c : Dev nD) : Buf (Elt Ideal) ((c.tc : Thread nD τ).loc main_v17) := fun i =>
  OutProj.entry (fun k => m (c.tc.loc main_arg0) (ix2 (i 0) k)) (fun k => m (c.tc.loc main_arg1) (ix2 (i 0) k))
    (fun k => m (c.tc.loc main_arg2) (ix1 k)) (fun k n => m (c.tc.loc main_arg3) (ix3 0 k n)) (i 1)

/-- The run of the host program, its result read entry by entry. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ⟨(h c).1.trans ?_, (h c).2⟩) (run m ρ)
  funext i
  obtain ⟨a, b, rfl⟩ : ∃ (a : Fin 8192) (b : Fin 2048), i = ix2 a b := ⟨i 0, i 1, by funext k; fin_cases k <;> rfl⟩
  pointwise
  rfl

end Cert.Reference4Ideal.Value
-- ==== Proof.OutKernel.lean ====
/-
  The output projection kernel's result array. Each of the 16 points takes 512 rows, in two halves of 256; the first
  point stores the weights, which every later point reads.
-/
module

public import proofs.«01_k».proof.Proof.OutSpec
public import proofs.«01_k».proof.Proof.Gen.Kernel4Ideal.Frame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

variable (m : (ℓ : Loc nD τ sig) → Buf (Elt Ideal) ℓ)

/-! ## The stored values at an entry -/

theorem pay2_at (w : Vec Ideal S1x2048x2048 .f32) (k n : Fin 2048) : k0_pay2 w (ix2 k n) = w (ix3 0 k n) := by
  pointwise [k0_pay2]

theorem pay3_at (A : Vec Ideal S256x2048 .bf16) (W : Vec Ideal S2048x2048 .bf16) (H : Vec Ideal S256x2048 .f32)
    (G : Vec Ideal S1x2048 .f32) (a : Fin 256) (b : Fin 2048) :
    k0_pay3 A W H G (ix2 a b) = OutProj.entry (fun k => A (ix2 a k)) (fun k => H (ix2 a k)) (fun k => G (ix2 0 k))
      (fun k n => W (ix2 k n)) b := by
  pointwise [k0_pay3]
  rfl

theorem pay1_at (A : Vec Ideal S256x2048 .bf16) (W : Vec Ideal S2048x2048 .bf16) (H : Vec Ideal S256x2048 .f32)
    (G : Vec Ideal S1x2048 .f32) (a : Fin 256) (b : Fin 2048) :
    k0_pay1 (k0_pay4 A W) H (k0_pay5 G) (k0_pay6 A W) (ix2 a b)
      = OutProj.entry (fun k => A (ix2 a k)) (fun k => H (ix2 a k)) (fun k => G (ix2 0 k)) (fun k n => W (ix2 k n)) b := by
  pointwise [k0_pay1, k0_pay4, k0_pay5, k0_pay6]
  rfl

/-- What a point leaves in its block, from its blocks and the weights it reads. -/
def block (A : Vec Ideal S512x2048 .bf16) (H : Vec Ideal S512x2048 .f32) (G : Vec Ideal S1x2048 .f32)
    (W : Vec Ideal S2048x2048 .bf16) (y : S512x2048.Idx) : EReal :=
  OutProj.entry (fun k => A (ix2 (y 0) k)) (fun k => H (ix2 (y 0) k)) (fun k => G (ix2 0 k)) (fun k n => W (ix2 k n)) (y 1)

/-- Rows cut out of a block, read at an entry. -/
theorem cut_at {e : EltTy} (X : Vec Ideal S512x2048 e) (off : ℕ) (h) (a : Fin 256) (k : Fin 2048) (i : Fin 512)
    (hi : i.val = off + a.val) :
    (View.ld X (Rect.unit ![off, 0] ![256, 2048] h) : Vec Ideal S256x2048 e) (ix2 a k) = X (ix2 i k) :=
  View.ld_unit_apply_of X _ _ h _ _ fun d => by
    fin_cases d
    · exact hi
    · exact (Nat.zero_add _).symm

theorem first_piece (A : Vec Ideal S512x2048 .bf16) (H : Vec Ideal S512x2048 .f32) (G : Vec Ideal S1x2048 .f32)
    (W : Vec Ideal S2048x2048 .bf16) (off : ℕ) (h h') (y : S512x2048.Idx) (x : S256x2048.Idx)
    (h0 : (y 0).val = off + (x 0).val) (h1 : (y 1).val = (x 1).val) :
    k0_pay3 (View.ld A (Rect.unit ![off, 0] ![256, 2048] h)) W (View.ld H (Rect.unit ![off, 0] ![256, 2048] h')) G x
      = block A H G W y := by
  obtain ⟨a, b, rfl⟩ : ∃ (a : Fin 256) (b : Fin 2048), x = ix2 a b := ⟨x 0, x 1, by funext k; fin_cases k <;> rfl⟩
  have hb : y 1 = b := Fin.ext h1
  rw [pay3_at, block, hb]
  simp only [cut_at A off h a _ (y 0) h0, cut_at H off h' a _ (y 0) h0]

theorem second_piece (A : Vec Ideal S512x2048 .bf16) (H : Vec Ideal S512x2048 .f32) (G : Vec Ideal S1x2048 .f32)
    (W : Vec Ideal S2048x2048 .bf16) (off : ℕ) (h h' h'') (y : S512x2048.Idx) (x : S256x2048.Idx)
    (h0 : (y 0).val = off + (x 0).val) (h1 : (y 1).val = (x 1).val) :
    k0_pay1 (k0_pay4 (View.ld A (Rect.unit ![off, 0] ![256, 2048] h)) W) (View.ld H (Rect.unit ![off, 0] ![256, 2048] h'))
      (k0_pay5 G) (k0_pay6 (View.ld A (Rect.unit ![off, 0] ![256, 2048] h'')) W) x = block A H G W y := by
  obtain ⟨a, b, rfl⟩ : ∃ (a : Fin 256) (b : Fin 2048), x = ix2 a b := ⟨x 0, x 1, by funext k; fin_cases k <;> rfl⟩
  have hb : y 1 = b := Fin.ext h1
  rw [pay1_at, block, hb]
  simp only [cut_at A off h a _ (y 0) h0, cut_at H off h' a _ (y 0) h0]

/-! ## What the points leave -/

/-- The weights that the first point stores. -/
abbrev stored (c : Dev nD) (t : Fin cfg0.N) : Vec Ideal S2048x2048 .bf16 := k0_pay2 (iblk m c 3 t)

theorem held (c : Dev nD) (t : Fin cfg0.N) :
    (outsAt0 m c t.val t.isLt).2 = stored m c ⟨16 * (t.val / 16), Pipeline.run_start_lt t⟩ :=
  Pipeline.eq_of_write_hold (fun n h => (outsAt0 m c n h).2) 16 (stored m c)
    (fun t h0 => by rw [outsAt0_A m c t h0]; frame_out)
    (fun t h0 => by rw [outsAt0_B m c t h0]; rfl) t

theorem out_A (c : Dev nD) (t : Fin cfg0.N) (h0 : t.val % 16 = 0) (y : S512x2048.Idx) :
    (outsAt0 m c t.val t.isLt).1 y = block (iblk m c 0 t) (iblk m c 1 t) (iblk m c 2 t) (stored m c t) y := by
  rw [outsAt0_A m c t h0]; frame_open
  simp (disch := decide) only [↓View.readCov_skip, ↓View.readCov_cons_toLoadRect, ↓View.readCov_fill]
  frame_out
  canon_tiles x h
  · exact second_piece _ _ _ _ _ _ _ _ _ _ (by omega) (by omega)
  · exact first_piece _ _ _ _ _ _ _ _ _ (by omega) (by omega)

theorem out_B (c : Dev nD) (t : Fin cfg0.N) (h0 : ¬t.val % 16 = 0) (y : S512x2048.Idx) :
    (outsAt0 m c t.val t.isLt).1 y
      = block (iblk m c 0 t) (iblk m c 1 t) (iblk m c 2 t) (outsAt0 m c (t.val - 1) (by omega)).2 y := by
  rw [outsAt0_B m c t h0]; frame_open
  simp (disch := decide) only [↓View.readCov_skip, ↓View.readCov_cons_toLoadRect, ↓View.readCov_fill]
  frame_out
  simp only [read_unread_whole]
  canon_tiles x h
  · exact second_piece _ _ _ _ _ _ _ _ _ _ (by omega) (by omega)
  · exact first_piece _ _ _ _ _ _ _ _ _ (by omega) (by omega)

/-! ## The blocks at coordinates -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)

theorem mixed_at (c : Dev nD) (t : Fin cfg0.N) (a : Fin 512) (k : Fin 2048) (i : Fin 8192)
    (hi : i.val = t.val * 512 + a.val) :
    iblk m c 0 t (ix2 a k) = m (c.tc.loc main_arg0) (ix2 i k) := by
  blk_point [iblk, V, idx0 t]

theorem rows_at (c : Dev nD) (t : Fin cfg0.N) (a : Fin 512) (k : Fin 2048) (i : Fin 8192)
    (hi : i.val = t.val * 512 + a.val) :
    iblk m c 1 t (ix2 a k) = m (c.tc.loc main_arg1) (ix2 i k) := by
  blk_point [iblk, V, idx1 t]

theorem gain_at (c : Dev nD) (t : Fin cfg0.N) (k : Fin 2048) :
    iblk m c 2 t (ix2 0 k) = m (c.tc.loc main_arg2) (ix1 k) := by
  blk_point [iblk, V, idx2 t]

theorem stored_at (c : Dev nD) (t : Fin cfg0.N) (k n : Fin 2048) :
    stored m c t (ix2 k n) = m (c.tc.loc main_arg3) (ix3 0 k n) := by
  refine (pay2_at _ k n).trans ?_
  blk_point [iblk, V, idx3 t]

/-- The weights that every point reads are the argument's. -/
theorem held_at (c : Dev nD) (t : Fin cfg0.N) (k n : Fin 2048) :
    (outsAt0 m c t.val t.isLt).2 (ix2 k n) = m (c.tc.loc main_arg3) (ix3 0 k n) := by
  rw [held m c t]; exact stored_at m c _ k n

/-! ## The result array -/

/-- The array the kernel leaves, entry by entry. -/
def result (c : Dev nD) : Buf (Elt Ideal) ((c : Thread nD τ).loc main_v1) := fun i =>
  OutProj.entry (fun k => m (c.tc.loc main_arg0) (ix2 (i 0) k)) (fun k => m (c.tc.loc main_arg1) (ix2 (i 0) k))
    (fun k => m (c.tc.loc main_arg2) (ix1 k)) (fun k n => m (c.tc.loc main_arg3) (ix3 0 k n)) (i 1)

theorem block_at (c : Dev nD) (t : Fin cfg0.N) (W : Vec Ideal S2048x2048 .bf16)
    (hW : ∀ k n, W (ix2 k n) = m (c.tc.loc main_arg3) (ix3 0 k n)) (a : Fin 512) (b : Fin 2048) (i : Fin 8192)
    (hi : i.val = t.val * 512 + a.val) :
    block (iblk m c 0 t) (iblk m c 1 t) (iblk m c 2 t) W (ix2 a b) = result m c (ix2 i b) := by
  have e0 : (fun k => iblk m c 0 t (ix2 a k)) = fun k => m (c.tc.loc main_arg0) (ix2 i k) :=
    funext fun k => mixed_at m c t a k i hi
  have e1 : (fun k => iblk m c 1 t (ix2 a k)) = fun k => m (c.tc.loc main_arg1) (ix2 i k) :=
    funext fun k => rows_at m c t a k i hi
  have e2 : (fun k => iblk m c 2 t (ix2 0 k)) = fun k => m (c.tc.loc main_arg2) (ix1 k) := funext fun k => gain_at m c t k
  have e3 : (fun k n => W (ix2 k n)) = fun k n => m (c.tc.loc main_arg3) (ix3 0 k n) := funext fun k => funext fun n => hW k n
  show OutProj.entry (fun k => iblk m c 0 t (ix2 a k)) (fun k => iblk m c 1 t (ix2 a k)) (fun k => iblk m c 2 t (ix2 0 k))
    (fun k n => W (ix2 k n)) b = _
  rw [e0, e1, e2, e3]
  rfl

theorem out_at (c : Dev nD) (t : Fin cfg0.N) (a : Fin 512) (b : Fin 2048) (i : Fin 8192)
    (hi : i.val = t.val * 512 + a.val) : (outsAt0 m c t.val t.isLt).1 (ix2 a b) = result m c (ix2 i b) := by
  by_cases h0 : t.val % 16 = 0
  · exact (out_A m c t h0 _).trans (block_at m c t _ (stored_at m c t) a b i hi)
  · exact (out_B m c t h0 _).trans (block_at m c t _ (held_at m c ⟨t.val - 1, by omega⟩) a b i hi)

theorem final (c : Dev nD) : (dats m 0 c).arrAt 4 cfg0.N = result m c := by
  refine (dats m 0 c).arrAt_eq_of_covers 4 _ (by decide +kernel) fun t hf y => ?_
  have hN : t.val < 16 := lt_of_lt_of_eq t.isLt N_0
  obtain ⟨a, b, rfl⟩ : ∃ (a : Fin 512) (b : Fin 2048), y = ix2 a b := ⟨y 0, y 1, by funext k; fin_cases k <;> rfl⟩
  blk_simp
  rw [after0_4]
  have he : (win0_4.blk t).view.emb (ix2 a b) = ix2 (⟨t.val * 512 + a.val, by omega⟩ : Fin 8192) b := by
    blk_ext [idx4 t]
  rw [he]
  exact out_at m c t a b _ rfl

/-- The run of the kernel, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨((h.2 c).1 4).trans (final m c), h.1 c⟩) (θ_run_and (unchanged m ρ) (run_main m ρ))

end Cert.Kernel4Ideal.Value
-- ==== Proof.OutProj.lean ====
/-
  The output projection kernel and the host program compute the same array.
-/
module

public import proofs.«01_k».proof.Defs
public import proofs.«01_k».proof.Proof.OutKernel
public import proofs.«01_k».proof.Proof.Gen.Reference4Ideal

@[expose] public section

noncomputable section

open Idealize.ShloMosaic Idealize.ShloMosaic.TcCoe Idealize.SL.Sem

namespace Cert.OutProj

/-- The claim: from equal arguments both programs leave the same result, their arguments unchanged. -/
theorem algebraic : Cert.algebraic_Kernel4Ideal_Reference4Ideal (hKernel4Ideal := Cert.Kernel4Ideal.Gen.facts)
    (hReference4Ideal := Cert.Reference4Ideal.Gen.facts) := by
  intro m g m' g' _ hm
  refine ⟨Cert.Kernel4Ideal.Value.result m, Cert.Kernel4Ideal.Value.run_result m g, ?_⟩
  refine (θ_run _ _ _).mono (fun _ h c => ⟨(h c).1.trans ?_, (h c).2⟩) (Cert.Reference4Ideal.Value.run_result m' g')
  obtain ⟨h0, h1, h2, h3⟩ := hm c
  unfold Cert.Reference4Ideal.Value.result
  rw [h0, h1, h2, h3]
  rfl

end Cert.OutProj
-- ==== Proof.AttInSpec.lean ====
/-
  The attention's input projection at an entry: a row scaled by the inverse root of its mean square and by the gain,
  times the weights, each head of the first two thirds turned by its position's tables. The host program computes this
  entry by entry.
-/
module

public import proofs.«01_k».proof.Proof.Rows
public import proofs.«01_k».proof.Proof.Gen.Reference5Ideal.Run

@[expose] public section

set_option maxRecDepth 16384

noncomputable section

open Idealize.ShloMosaic Idealize.ShloMosaic.TcCoe Idealize.SL.Sem

namespace Cert.AttIn

/-- A head's lane 16 before, around the head's end. -/
def back (d : Fin 128) : Fin 128 := ⟨(d.val + 112) % 128, by omega⟩

/-- A head's lane 16 after, around the head's end. -/
def fwd (d : Fin 128) : Fin 128 := ⟨(d.val + 16) % 128, by omega⟩

/-- A head's lane turned by its position's tables. -/
def turn (x c a b : Fin 128 → EReal) (d : Fin 128) : EReal := x d * c d + x (back d) * a d + x (fwd d) * b d

/-- A row's lane 16 before, put together from the row's two ends. -/
theorem back_ends (x : Fin 128 → EReal) (d : Fin 128) :
    (if h : d.val < 16 then x ⟨112 + d.val, by omega⟩ else x ⟨d.val - 16, by omega⟩) = x (back d) := by
  split
  · exact congrArg x (Fin.ext (by show 112 + d.val = (d.val + 112) % 128; omega))
  · exact congrArg x (Fin.ext (by show d.val - 16 = (d.val + 112) % 128; omega))

/-- A row's lane 16 after, put together from the row's two ends. -/
theorem fwd_ends (x : Fin 128 → EReal) (d : Fin 128) :
    (if h : d.val < 112 then x ⟨16 + d.val, by omega⟩ else x ⟨d.val - 112, by omega⟩) = x (fwd d) := by
  split
  · exact congrArg x (Fin.ext (by show 16 + d.val = (d.val + 16) % 128; omega))
  · exact congrArg x (Fin.ext (by show d.val - 112 = (d.val + 16) % 128; omega))

/-- The constant by which the queries are scaled. -/
abbrev scale : EReal := Ideal.ofBits .f32 0x3DB504F3#32

/-- A lane of a head of the queries (part 0), the keys (part 1) or the values (part 2). -/
def entry (p : ℕ) (x c a b : Fin 128 → EReal) (d : Fin 128) : EReal :=
  if p = 0 then turn x c a b d * scale else if p = 1 then turn x c a b d else x d

/-- A lane of the whole row, from its head among all 24 and its lane there. -/
def lane (e : Fin 24) (d : Fin 128) : Fin 3072 := ⟨e.val * 128 + d.val, by omega⟩

/-- A lane's head. -/
def headOf (j : Fin 3072) : Fin 24 := ⟨j.val / 128, by omega⟩

/-- A lane's place in its head. -/
def placeOf (j : Fin 3072) : Fin 128 := ⟨j.val % 128, by omega⟩

end Cert.AttIn

namespace Cert.Reference5Ideal.Value

open Cert.Reference5Ideal Cert.Reference5Ideal.Gen Cert.AttIn

variable (m : (ℓ : Loc nD τ sig) → Buf (Elt Ideal) ℓ) (c : Dev nD)

/-- The projection of every row, cut into parts and heads. -/
def parts : FVec Ideal S4x1x2048x3x8x128 .f32 :=
  transpose S4x1x2048x3x8x128 [0, 2, 1, 3, 4, 5] (shapeCast _ (Host.dotGeneral (φ₁ := .f32) (φ₂ := .f32) dot_S8192x2048_S2048x3072_S8192x3072_1_0_0_1_n_n none (mulf (mulf (m ((c.tc : Thread nD τ).loc main_arg0)) (broadcastInDim S8192x2048 ![0, 1] bcast_S8192x1_S8192x2048_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (m ((c.tc : Thread nD τ).loc main_arg1))))) (shapeCast _ (extractStridedSlice S1x2048x3072 ![0, 0, 0] (m ((c.tc : Thread nD τ).loc main_arg2) : FVec Ideal S2x2048x9216 .f32) slices_S2x2048x9216_S1x2048x3072_0_0_0) shapeCasts_S1x2048x3072_S2048x3072)) shapeCasts_S8192x3072_S4x2048x1x3x8x128) transposes_S4x2048x1x3x8x128_S4x1x2048x3x8x128_0_2_1_3_4_5

/-- One part of them. -/
def part (P : FVec Ideal S4x1x2048x3x8x128 .f32) (off : Fin 6 → ℕ) (h : S4x1x2048x3x8x128.Slices off S4x1x2048x1x8x128) :
    FVec Ideal S4x1x2048x8x128 .f32 :=
  shapeCast _ (extractStridedSlice S4x1x2048x1x8x128 off P h) shapeCasts_S4x1x2048x1x8x128_S4x1x2048x8x128

/-- A table, given to every head. -/
def table (T : FVec Ideal S4x1x2048x128 .f32) : FVec Ideal S4x1x2048x8x128 .f32 :=
  broadcastInDim S4x1x2048x8x128 ![0, 1, 2, 3, 4] bcast_S4x1x2048x1x128_S4x1x2048x8x128_0_1_2_3_4 (broadcastInDim S4x1x2048x1x128 ![0, 1, 2, 4] bcast_S4x1x2048x128_S4x1x2048x1x128_0_1_2_4 T)

/-- A part turned by the tables. -/
def turned (x : FVec Ideal S4x1x2048x8x128 .f32) (C A B : FVec Ideal S4x1x2048x128 .f32) : FVec Ideal S4x1x2048x8x128 .f32 :=
  addf (addf (mulf x (table C))
    (mulf (concatenate S4x1x2048x8x128 4 [⟨S4x1x2048x8x16, extractStridedSlice S4x1x2048x8x16 ![0, 0, 0, 0, 112] x slices_S4x1x2048x8x128_S4x1x2048x8x16_0_0_0_0_112⟩,
      ⟨S4x1x2048x8x112, extractStridedSlice S4x1x2048x8x112 ![0, 0, 0, 0, 0] x slices_S4x1x2048x8x128_S4x1x2048x8x112_0_0_0_0_0⟩]
      concatenates_S4x1x2048x8x16_S4x1x2048x8x112_S4x1x2048x8x128_d4) (table A)))
    (mulf (concatenate S4x1x2048x8x128 4 [⟨S4x1x2048x8x112, extractStridedSlice S4x1x2048x8x112 ![0, 0, 0, 0, 16] x slices_S4x1x2048x8x128_S4x1x2048x8x112_0_0_0_0_16⟩,
      ⟨S4x1x2048x8x16, extractStridedSlice S4x1x2048x8x16 ![0, 0, 0, 0, 0] x slices_S4x1x2048x8x128_S4x1x2048x8x16_0_0_0_0_0⟩]
      concatenates_S4x1x2048x8x112_S4x1x2048x8x16_S4x1x2048x8x128_d4) (table B))

/-- The queries scaled. -/
def scaled (x : FVec Ideal S4x1x2048x8x128 .f32) : FVec Ideal S4x1x2048x8x128 .f32 :=
  mulf x (broadcastInDim S4x1x2048x8x128 ![] bcast_S_S4x1x2048x8x128 (constant S_ .f32 0x3DB504F3#32))

/-- The three parts side by side. -/
def joined (q k v : FVec Ideal S4x1x2048x8x128 .f32) : FVec Ideal S4x1x2048x3x8x128 .f32 :=
  concatenate S4x1x2048x3x8x128 3
    [⟨S4x1x2048x1x8x128, broadcastInDim S4x1x2048x1x8x128 ![0, 1, 2, 4, 5] bcast_S4x1x2048x8x128_S4x1x2048x1x8x128_0_1_2_4_5 q⟩,
      ⟨S4x1x2048x1x8x128, broadcastInDim S4x1x2048x1x8x128 ![0, 1, 2, 4, 5] bcast_S4x1x2048x8x128_S4x1x2048x1x8x128_0_1_2_4_5 k⟩,
      ⟨S4x1x2048x1x8x128, broadcastInDim S4x1x2048x1x8x128 ![0, 1, 2, 4, 5] bcast_S4x1x2048x8x128_S4x1x2048x1x8x128_0_1_2_4_5 v⟩]
    concatenates_S4x1x2048x1x8x128_S4x1x2048x1x8x128_S4x1x2048x1x8x128_S4x1x2048x3x8x128_d3

/-- The heads of a row laid out in a line. -/
def flat (x : FVec Ideal S4x1x2048x3x8x128 .f32) : FVec Ideal S4x1x2048x3072 .bf16 :=
  truncf .bf16 (shapeCast _ x shapeCasts_S4x1x2048x3x8x128_S4x1x2048x3072) bitsLt_bf16_f32

theorem res_eq : res_main_v57 m c = flat (joined
    (scaled (turned (part (parts m c) ![0, 0, 0, 0, 0, 0] slices_S4x1x2048x3x8x128_S4x1x2048x1x8x128_0_0_0_0_0_0)
      (m (c.tc.loc main_arg3)) (m (c.tc.loc main_arg4)) (m (c.tc.loc main_arg5))))
    (turned (part (parts m c) ![0, 0, 0, 1, 0, 0] slices_S4x1x2048x3x8x128_S4x1x2048x1x8x128_0_0_0_1_0_0)
      (m (c.tc.loc main_arg3)) (m (c.tc.loc main_arg4)) (m (c.tc.loc main_arg5)))
    (part (parts m c) ![0, 0, 0, 2, 0, 0] slices_S4x1x2048x3x8x128_S4x1x2048x1x8x128_0_0_0_2_0_0)) := rfl

/-- A row of the projection, one of its heads. -/
def head (b : Fin 4) (s : Fin 2048) (E : Fin 24) (d : Fin 128) : EReal :=
  Rows.proj (fun k => m (c.tc.loc main_arg0) (ix2 (⟨b.val * 2048 + s.val, by omega⟩ : Fin 8192) k)) (fun k => m (c.tc.loc main_arg1) (ix1 k))
    (fun k => m (c.tc.loc main_arg2) (ix3 0 k (⟨(lane E d).val, by omega⟩ : Fin 9216)))

theorem parts_at (b : Fin 4) (s : Fin 2048) (p : Fin 3) (e : Fin 8) (d : Fin 128) (E : Fin 24) (hE : E.val = p.val * 8 + e.val) :
    parts m c (ix6 b 0 s p e d) = head m c b s E d := by
  have hj : (⟨p.val * 1024 + e.val * 128 + d.val, by omega⟩ : Fin 9216) = ⟨(lane E d).val, by omega⟩ :=
    Fin.ext (by show p.val * 1024 + e.val * 128 + d.val = E.val * 128 + d.val; omega)
  pointwise [parts]
  rw [head, ← hj]
  rfl

theorem part_at0 (P : FVec Ideal S4x1x2048x3x8x128 .f32) (h) (b : Fin 4) (s : Fin 2048) (e : Fin 8) (d : Fin 128) :
    part P ![0, 0, 0, 0, 0, 0] h (ix5 b 0 s e d) = P (ix6 b 0 s 0 e d) := by
  pointwise [part]

theorem part_at1 (P : FVec Ideal S4x1x2048x3x8x128 .f32) (h) (b : Fin 4) (s : Fin 2048) (e : Fin 8) (d : Fin 128) :
    part P ![0, 0, 0, 1, 0, 0] h (ix5 b 0 s e d) = P (ix6 b 0 s 1 e d) := by
  pointwise [part]

theorem part_at2 (P : FVec Ideal S4x1x2048x3x8x128 .f32) (h) (b : Fin 4) (s : Fin 2048) (e : Fin 8) (d : Fin 128) :
    part P ![0, 0, 0, 2, 0, 0] h (ix5 b 0 s e d) = P (ix6 b 0 s 2 e d) := by
  pointwise [part]

theorem turned_at (x : FVec Ideal S4x1x2048x8x128 .f32) (C A B : FVec Ideal S4x1x2048x128 .f32) (b : Fin 4) (s : Fin 2048) (e : Fin 8) (d : Fin 128) :
    turned x C A B (ix5 b 0 s e d) = turn (fun d => x (ix5 b 0 s e d)) (fun d => C (ix4 b 0 s d)) (fun d => A (ix4 b 0 s d))
      (fun d => B (ix4 b 0 s d)) d := by
  pointwise [turned, table]
  have e1 := back_ends (fun d => x (ix5 b 0 s e d)) d
  have e2 := fwd_ends (fun d => x (ix5 b 0 s e d)) d
  rw [e1, e2]
  rfl

theorem scaled_at (x : FVec Ideal S4x1x2048x8x128 .f32) (b : Fin 4) (s : Fin 2048) (e : Fin 8) (d : Fin 128) :
    scaled x (ix5 b 0 s e d) = x (ix5 b 0 s e d) * scale := by
  pointwise [scaled]

theorem joined_at0 (q k v : FVec Ideal S4x1x2048x8x128 .f32) (b : Fin 4) (s : Fin 2048) (e : Fin 8) (d : Fin 128) :
    joined q k v (ix6 b 0 s 0 e d) = q (ix5 b 0 s e d) := by
  pointwise [joined]

theorem joined_at1 (q k v : FVec Ideal S4x1x2048x8x128 .f32) (b : Fin 4) (s : Fin 2048) (e : Fin 8) (d : Fin 128) :
    joined q k v (ix6 b 0 s 1 e d) = k (ix5 b 0 s e d) := by
  pointwise [joined]

theorem joined_at2 (q k v : FVec Ideal S4x1x2048x8x128 .f32) (b : Fin 4) (s : Fin 2048) (e : Fin 8) (d : Fin 128) :
    joined q k v (ix6 b 0 s 2 e d) = v (ix5 b 0 s e d) := by
  pointwise [joined]

theorem flat_at (x : FVec Ideal S4x1x2048x3x8x128 .f32) (b : Fin 4) (s : Fin 2048) (p : Fin 3) (e : Fin 8) (d : Fin 128) (j : Fin 3072)
    (hj : j.val = p.val * 1024 + e.val * 128 + d.val) :
    flat x (ix4 b 0 s j) = x (ix6 b 0 s p e d) := by
  have h1 : (⟨j.val / 1024, by omega⟩ : Fin 3) = p := Fin.ext (by show j.val / 1024 = p.val; omega)
  have h2 : (⟨j.val / 128 % 8, by omega⟩ : Fin 8) = e := Fin.ext (by show j.val / 128 % 8 = e.val; omega)
  have h3 : (⟨j.val % 128, by omega⟩ : Fin 128) = d := Fin.ext (by show j.val % 128 = d.val; omega)
  pointwise [flat]
  rw [h1, h2, h3]

/-- The host program's result at an entry. -/
def result : Buf (Elt Ideal) ((c.tc : Thread nD τ).loc main_v57) := fun i =>
  entry ((i 3).val / 1024) (head m c (i 0) (i 2) (headOf (i 3))) (fun d => m (c.tc.loc main_arg3) (ix4 (i 0) 0 (i 2) d))
    (fun d => m (c.tc.loc main_arg4) (ix4 (i 0) 0 (i 2) d)) (fun d => m (c.tc.loc main_arg5) (ix4 (i 0) 0 (i 2) d)) (placeOf (i 3))

theorem res_at (b : Fin 4) (s : Fin 2048) (j : Fin 3072) : res_main_v57 m c (ix4 b 0 s j) = result m c (ix4 b 0 s j) := by
  have hj : j.val = (⟨j.val / 1024, by omega⟩ : Fin 3).val * 1024 + (⟨j.val / 128 % 8, by omega⟩ : Fin 8).val * 128 + (placeOf j).val := by
    show j.val = j.val / 1024 * 1024 + j.val / 128 % 8 * 128 + j.val % 128
    omega
  have hE : (headOf j).val = (⟨j.val / 1024, by omega⟩ : Fin 3).val * 8 + (⟨j.val / 128 % 8, by omega⟩ : Fin 8).val := by
    show j.val / 128 = j.val / 1024 * 8 + j.val / 128 % 8
    omega
  rw [res_eq, flat_at _ b s _ _ _ j hj]
  show _ = entry (j.val / 1024) (head m c b s (headOf j)) (fun d => m (c.tc.loc main_arg3) (ix4 b 0 s d))
    (fun d => m (c.tc.loc main_arg4) (ix4 b 0 s d)) (fun d => m (c.tc.loc main_arg5) (ix4 b 0 s d)) (placeOf j)
  generalize he : (⟨j.val / 128 % 8, by omega⟩ : Fin 8) = e at hE ⊢
  generalize hp : (⟨j.val / 1024, by omega⟩ : Fin 3) = p at hE ⊢
  rw [show j.val / 1024 = p.val by rw [← hp]]
  clear he hp hj
  fin_cases p
  · refine (joined_at0 _ _ _ b s e _).trans ?_
    rw [scaled_at, turned_at]
    simp only [part_at0, parts_at m c b s 0 e _ (headOf j) hE]
    rfl
  · refine (joined_at1 _ _ _ b s e _).trans ?_
    rw [turned_at]
    simp only [part_at1, parts_at m c b s 1 e _ (headOf j) hE]
    rfl
  · refine (joined_at2 _ _ _ b s e _).trans ?_
    rw [part_at2, parts_at m c b s 2 e _ (headOf j) hE]
    rfl

/-- The run of the host program, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ⟨(h c).1.trans ?_, (h c).2⟩) (run m ρ)
  funext i
  obtain ⟨b, z, s, j, rfl⟩ : ∃ (b : Fin 4) (z : Fin 1) (s : Fin 2048) (j : Fin 3072), i = ix4 b z s j :=
    ⟨i 0, i 1, i 2, i 3, by funext k; fin_cases k <;> rfl⟩
  obtain rfl : z = 0 := Subsingleton.elim _ _
  exact res_at m c b s j

end Cert.Reference5Ideal.Value
-- ==== Proof.AttInShared.lean ====
/-
  What the attention's input projections share, whatever their dilation: the scaled rows cut into planes, a head cut out of a
  row and turned by tables, the weights as they are kept, and which third of a row a head lies in.
-/
module

public import proofs.«01_k».proof.Proof.AttInSpec

@[expose] public section

set_option maxRecDepth 16384

noncomputable section

open Idealize.ShloMosaic Idealize.ShloMosaic.TcCoe Idealize.SL.Sem

namespace Cert.AttIn

/-- The queries' scale is a nonnegative real. -/
theorem scale_nonneg : 0 ≤ scale ∧ scale ≠ ⊤ := by
  have h : ∃ r : ℝ, 0 ≤ r ∧ scale = (r : EReal) := by
    rw [scale, Ideal.ofBits, Ideal.ieee]
    refine ⟨_, ?_, (if_neg (by decide)).trans (if_neg (by decide))⟩
    simp
  obtain ⟨r, hr, h⟩ := h
  rw [h]
  exact ⟨EReal.coe_nonneg.2 hr, EReal.coe_ne_top r⟩

/-- Scaling the tables scales what they turn. -/
theorem turn_scale (x c a b : Fin 128 → EReal) (d : Fin 128) :
    turn x (fun d => c d * scale) (fun d => a d * scale) (fun d => b d * scale) d = turn x c a b d * scale := by
  obtain ⟨h0, h1⟩ := scale_nonneg
  unfold turn
  rw [EReal.right_distrib_of_nonneg_of_ne_top h0 h1, EReal.right_distrib_of_nonneg_of_ne_top h0 h1, mul_assoc, mul_assoc, mul_assoc]

/-- 256 rows of the model's width. -/
abbrev Model : Shape := ⟨2, ![256, 2048]⟩

/-- 256 rows of one head. -/
abbrev Head : Shape := ⟨2, ![256, 128]⟩

/-- 256 rows of all heads. -/
abbrev Whole : Shape := ⟨2, ![256, 3072]⟩

/-! ## The scaled rows in planes -/

/-- The scaled rows, cut into planes of 128 lanes. -/
def planes (X : Vec Ideal Model .f32) (G : Vec Ideal ⟨2, ![1, 2048]⟩ .f32) : Vec Ideal ⟨3, ![16, 256, 128]⟩ .f32 := fun y =>
  Rows.rms (fun k => X (ix2 (y 1) k)) (fun k => G (ix2 0 k)) ⟨(y 0).val * 128 + (y 2).val,
    by have h0 : (y 0).val < 16 := (y 0).isLt; have h2 : (y 2).val < 128 := (y 2).isLt; omega⟩

/-- A plane of a matrix of rows. -/
def plane (M : FVec Ideal Model .f32) (off : ℕ) (h : Model.Slices ![0, off] Head) (hc : Head.ShapeCasts ⟨3, ![1, 256, 128]⟩) :
    FVec Ideal ⟨3, ![1, 256, 128]⟩ .f32 :=
  shapeCast ⟨3, ![1, 256, 128]⟩ (extractStridedSlice Head ![0, off] M h) hc

theorem plane_at (M : FVec Ideal Model .f32) (off : ℕ) (h : Model.Slices ![0, off] Head) (hc) (a : Fin 256) (d : Fin 128) (j : Fin 2048)
    (hj : j.val = off + d.val) : plane M off h hc (ix3 0 a d) = M (ix2 a j) := by
  pointwise [plane]
  exact congrArg (fun k => M (ix2 a k)) (Fin.ext hj.symm)

/-- A plane of the scaled rows `M`. -/
theorem plane_piece {X : Vec Ideal Model .f32} {G : Vec Ideal ⟨2, ![1, 2048]⟩ .f32} {M : FVec Ideal Model .f32}
    (hM : ∀ a j, M (ix2 a j) = Rows.rms (fun k => X (ix2 a k)) (fun k => G (ix2 0 k)) j) (off : ℕ) (h : Model.Slices ![0, off] Head) (hc)
    (y : Shape.Idx ⟨3, ![16, 256, 128]⟩) (x : Shape.Idx ⟨3, ![1, 256, 128]⟩)
    (h0 : off = (y 0).val * 128) (h1 : (y 1).val = (x 1).val) (h2 : (y 2).val = (x 2).val) : plane M off h hc x = planes X G y := by
  obtain ⟨z, a, b, rfl⟩ : ∃ (z : Fin 1) (a : Fin 256) (b : Fin 128), x = ix3 z a b :=
    ⟨x 0, x 1, x 2, by funext k; fin_cases k <;> rfl⟩
  obtain rfl : z = 0 := Subsingleton.elim _ _
  have h0' : (y 0).val < 16 := (y 0).isLt
  have h2' : (y 2).val = b.val := h2
  have ha : y 1 = a := Fin.ext h1
  rw [plane_at _ off h hc a b ⟨(y 0).val * 128 + (y 2).val, by omega⟩ (by show (y 0).val * 128 + (y 2).val = off + b.val; omega), hM, planes, ha]

/-! ## A head cut out and turned -/

/-- The rows of a head turned by the tables, as the kernels turn them. -/
def turnRows (M c a b : FVec Ideal Head .f32) (hr : Head.Rotates 1 none) : FVec Ideal Head .f32 :=
  addf (addf (mulf M c) (mulf (dynamicRotate 1 16#32 none M hr) a)) (mulf (dynamicRotate 1 112#32 none M hr) b)

theorem turnRows_at (M c a b : FVec Ideal Head .f32) (hr) (p : Fin 256) (d : Fin 128) :
    turnRows M c a b hr (ix2 p d) = turn (fun d => M (ix2 p d)) (fun d => c (ix2 p d)) (fun d => a (ix2 p d)) (fun d => b (ix2 p d)) d := by
  have e1 : (⟨(d.val + 128 - 16) % 128, by omega⟩ : Fin 128) = back d := Fin.ext (by show (d.val + 128 - 16) % 128 = (d.val + 112) % 128; omega)
  have e2 : (⟨(d.val + 128 - 112) % 128, by omega⟩ : Fin 128) = fwd d := Fin.ext (by show (d.val + 128 - 112) % 128 = (d.val + 16) % 128; omega)
  pointwise [turnRows]
  rw [e1, e2]
  rfl

/-- A head cut out of a row. -/
theorem cut_at (acc : FVec Ideal Whole .f32) (off : ℕ) (h : Whole.Slices ![0, off] Head) (i : Fin 256) (d : Fin 128) (E : Fin 24)
    (hE : off = E.val * 128) : extractStridedSlice Head ![0, off] acc h (ix2 i d) = acc (ix2 i (lane E d)) := by
  subst hE
  refine extractStridedSlice_apply _ _ _ _ _ fun k => ?_
  fin_cases k
  · exact (Nat.zero_add _).symm
  · rfl

/-! ## Which third of a row a head lies in -/

section thirds

variable (off : ℕ) (j : Fin 3072) (b : Fin 128) (h8 : off % 128 = 0) (hj : j.val = off + b.val)

include h8 hj in
theorem head_off : off = (headOf j).val * 128 := by
  show off = j.val / 128 * 128
  omega

include h8 hj in
theorem place_eq : placeOf j = b := Fin.ext (by show j.val % 128 = b.val; omega)

include h8 hj in
/-- A lane of the queries is what scaled tables turn. -/
theorem entry_q (hoff : off < 1024) (x c a t : Fin 128 → EReal) :
    entry (j.val / 1024) x c a t (placeOf j) = turn x (fun d => c d * scale) (fun d => a d * scale) (fun d => t d * scale) b := by
  rw [entry, if_pos (by omega), place_eq off j b h8 hj, turn_scale]

include h8 hj in
/-- A lane of the keys is what the tables turn. -/
theorem entry_k (hlo : 1024 ≤ off) (hhi : off < 2048) (x c a t : Fin 128 → EReal) :
    entry (j.val / 1024) x c a t (placeOf j) = turn x c a t b := by
  rw [entry, if_neg (by omega), if_pos (by omega), place_eq off j b h8 hj]

end thirds

/-- A lane of the values is the projection's. -/
theorem entry_v (j : Fin 3072) (b : Fin 1024) (hj : j.val = 2048 + b.val) (f : Fin 3072 → EReal) (c a t : Fin 128 → EReal) :
    entry (j.val / 1024) (fun d => f (lane (headOf j) d)) c a t (placeOf j) = f ⟨2048 + b.val, by omega⟩ := by
  rw [entry, if_neg (by omega), if_neg (by omega)]
  exact congrArg f (Fin.ext (by show j.val / 128 * 128 + j.val % 128 = 2048 + b.val; omega))

/-- The weights as the scratch holds them. -/
def weights (X : Vec Ideal ⟨3, ![1, 2048, 3072]⟩ .f32) : Vec Ideal ⟨2, ![2048, 3072]⟩ .bf16 := fun y => X (ix3 0 (y 0) (y 1))

end Cert.AttIn
-- ==== Proof.AttInKernel.lean ====
/-
  The attention's input projection kernel's result array. A point takes 256 rows of one batch; the first point stores the
  weights, 128 rows at a time, and the other points read them.
-/
module

public import proofs.«01_k».proof.Proof.AttInShared
public import proofs.«01_k».proof.Proof.Gen.Kernel5Ideal.Frame
public import Idealize.ShloMosaic.Lib.Pipeline.ReadBack
public import Idealize.ShloMosaic.Lib.WordArith.Masks

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.AttIn

variable (m : (ℓ : Loc nD τ sig) → Buf (Elt Ideal) ℓ)

/-! ## The stored values at an entry -/

theorem pay4_at (w : Vec Ideal S1x128x3072 .f32) (k : Fin 128) (n : Fin 3072) : k0_pay4 w (ix2 k n) = w (ix3 0 k n) := by
  pointwise [k0_pay4]

/-- The projection of a block of rows at an entry. -/
theorem acc_at (X : Vec Ideal S256x2048 .f32) (G : Vec Ideal S1x2048 .f32) (W : Vec Ideal S2048x3072 .bf16)
    (a : Fin 256) (n : Fin 3072) :
    k0_pay6 (k0_pay5 X G) W (ix2 a n) = Rows.proj (fun k => X (ix2 a k)) (fun k => G (ix2 0 k)) (fun k => W (ix2 k n)) := by
  pointwise [k0_pay6, k0_pay5]
  rfl

theorem q_cos (T : Vec Ideal S1x1x256x128 .f32) (a : Fin 256) (d : Fin 128) : k0_pay10 (k0_pay7 T) (ix2 a d) = T (ix4 0 0 a d) * scale := by
  pointwise [k0_pay10, k0_pay7]

theorem q_sa (T : Vec Ideal S1x1x256x128 .f32) (a : Fin 256) (d : Fin 128) : k0_pay11 T (ix2 a d) = T (ix4 0 0 a d) * scale := by
  pointwise [k0_pay11, k0_pay8]

theorem q_sb (T : Vec Ideal S1x1x256x128 .f32) (a : Fin 256) (d : Fin 128) : k0_pay12 T (ix2 a d) = T (ix4 0 0 a d) * scale := by
  pointwise [k0_pay12, k0_pay9]

theorem k_cos (T : Vec Ideal S1x1x256x128 .f32) (a : Fin 256) (d : Fin 128) : k0_pay26 (k0_pay7 T) (ix2 a d) = T (ix4 0 0 a d) := by
  pointwise [k0_pay26, k0_pay7]

theorem k_sa (T : Vec Ideal S1x1x256x128 .f32) (a : Fin 256) (d : Fin 128) : k0_pay27 (k0_pay8 T) (ix2 a d) = T (ix4 0 0 a d) := by
  pointwise [k0_pay27, k0_pay8]

theorem k_sb (T : Vec Ideal S1x1x256x128 .f32) (a : Fin 256) (d : Fin 128) : k0_pay28 (k0_pay9 T) (ix2 a d) = T (ix4 0 0 a d) := by
  pointwise [k0_pay28, k0_pay9]

/-- A head turned by the tables, as the kernel turns it. -/
def turned (M c a b : FVec Ideal S256x128 .f32) : FVec Ideal S1x1x256x128 .bf16 :=
  shapeCast S1x1x256x128 (truncf .bf16 (turnRows M c a b rotates_S256x128_d1) bitsLt_bf16_f32) shapeCasts_S256x128_S1x1x256x128

theorem turned_at (M c a b : FVec Ideal S256x128 .f32) (i : Fin 256) (d : Fin 128) :
    turned M c a b (ix4 0 0 i d) = turn (fun d => M (ix2 i d)) (fun d => c (ix2 i d)) (fun d => a (ix2 i d)) (fun d => b (ix2 i d)) d := by
  pointwise [turned]
  exact turnRows_at M c a b _ i d

/-- What a point leaves in its block, from its blocks and the weights it reads. -/
def block (X : Vec Ideal S256x2048 .f32) (G : Vec Ideal S1x2048 .f32) (W : Vec Ideal S2048x3072 .bf16) (C A B : Vec Ideal S1x1x256x128 .f32)
    (y : S1x1x256x3072.Idx) : EReal :=
  entry ((y 3).val / 1024) (fun d => Rows.proj (fun k => X (ix2 (y 2) k)) (fun k => G (ix2 0 k)) (fun k => W (ix2 k (lane (headOf (y 3)) d))))
    (fun d => C (ix4 0 0 (y 2) d)) (fun d => A (ix4 0 0 (y 2) d)) (fun d => B (ix4 0 0 (y 2) d)) (placeOf (y 3))

section pieces

variable (X : Vec Ideal S256x2048 .f32) (G : Vec Ideal S1x2048 .f32) (W : Vec Ideal S2048x3072 .bf16) (C A B : Vec Ideal S1x1x256x128 .f32)

/-- A head of the queries: one of the first eight. -/
theorem q_piece (off : ℕ) (h : S256x3072.Slices ![0, off] S256x128) (y : S1x1x256x3072.Idx) (x : S1x1x256x128.Idx) (h8 : off % 128 = 0)
    (hoff : off < 1024) (h2 : (y 2).val = (x 2).val) (h3 : (y 3).val = off + (x 3).val) :
    turned (extractStridedSlice S256x128 ![0, off] (k0_pay6 (k0_pay5 X G) W) h) (k0_pay10 (k0_pay7 C)) (k0_pay11 A) (k0_pay12 B) x
      = block X G W C A B y := by
  obtain ⟨z, z', a, b, rfl⟩ : ∃ (z : Fin 1) (z' : Fin 1) (a : Fin 256) (b : Fin 128), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = off + b.val := h3
  have ha : y 2 = a := Fin.ext h2
  have hE := head_off off (y 3) b h8 h3'
  rw [turned_at, block, entry_q off (y 3) b h8 h3' hoff, ha]
  simp only [cut_at _ off h a _ _ hE, acc_at, q_cos, q_sa, q_sb]

/-- A head of the keys: one of the next eight. -/
theorem k_piece (off : ℕ) (h : S256x3072.Slices ![0, off] S256x128) (y : S1x1x256x3072.Idx) (x : S1x1x256x128.Idx) (h8 : off % 128 = 0)
    (hlo : 1024 ≤ off) (hhi : off < 2048) (h2 : (y 2).val = (x 2).val) (h3 : (y 3).val = off + (x 3).val) :
    turned (extractStridedSlice S256x128 ![0, off] (k0_pay6 (k0_pay5 X G) W) h) (k0_pay26 (k0_pay7 C)) (k0_pay27 (k0_pay8 A)) (k0_pay28 (k0_pay9 B)) x
      = block X G W C A B y := by
  obtain ⟨z, z', a, b, rfl⟩ : ∃ (z : Fin 1) (z' : Fin 1) (a : Fin 256) (b : Fin 128), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = off + b.val := h3
  have ha : y 2 = a := Fin.ext h2
  have hE := head_off off (y 3) b h8 h3'
  rw [turned_at, block, entry_k off (y 3) b h8 h3' hlo hhi, ha]
  simp only [cut_at _ off h a _ _ hE, acc_at, k_cos, k_sa, k_sb]

theorem pay3_at (acc : FVec Ideal S256x3072 .f32) (a : Fin 256) (b : Fin 1024) :
    k0_pay3 acc (ix4 0 0 a b) = acc (ix2 a (⟨2048 + b.val, by omega⟩ : Fin 3072)) := by
  pointwise [k0_pay3]

/-- The values: the last third of a row. -/
theorem v_piece (y : S1x1x256x3072.Idx) (x : S1x1x256x1024.Idx) (h2 : (y 2).val = (x 2).val) (h3 : (y 3).val = 2048 + (x 3).val) :
    k0_pay3 (k0_pay6 (k0_pay5 X G) W) x = block X G W C A B y := by
  obtain ⟨z, z', a, b, rfl⟩ : ∃ (z : Fin 1) (z' : Fin 1) (a : Fin 256) (b : Fin 1024), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = 2048 + b.val := h3
  have ha : y 2 = a := Fin.ext h2
  rw [pay3_at, acc_at, block, entry_v (y 3) b h3' (fun n => Rows.proj _ _ (fun k => W (ix2 k n))), ha]

end pieces

/-! ## The weights, stored row block by row block -/

theorem off1_eq (k : Fin k0_t1_loop.trips) : k0_off1 k = ![0, k.val * 128, 0] :=
  (by decide +kernel : ∀ k : Fin k0_t1_loop.trips, k0_off1 k = ![0, k.val * 128, 0]) k
theorem off2_eq (k : Fin k0_t1_loop.trips) : k0_off2 k = ![k.val * 128, 0] :=
  (by decide +kernel : ∀ k : Fin k0_t1_loop.trips, k0_off2 k = ![k.val * 128, 0]) k

/-- One trip's stored rows are those rows of the weights. -/
theorem row_at {arg4 : Memref sig .tc .vmem S1x2048x3072 .f32} (harg4 : arg4.IsWhole) (X : Vec Ideal S1x2048x3072 .f32)
    (n : Fin k0_t1_loop.trips) (h h') (k : Fin 128) (j : Fin 3072) :
    k0_pay4 (View.readAt (Elt Ideal) arg4.view (Rect.unit (s := S1x2048x3072) (k0_off1 n) S1x128x3072.size h).toLoadRect (harg4.unread X)) (ix2 k j)
      = weights X ((Rect.unit (s := S2048x3072) (k0_off2 n) S128x3072.size h').emb (ix2 k j)) := by
  rw [View.readAt_eq_ld, harg4.read_unread, pay4_at]
  refine View.ld_unit_apply_of X _ _ h _ _ fun d => ?_
  have e1 := off1_eq n
  have e2 := off2_eq n
  fin_cases d
  · show 0 = k0_off1 n 0 + 0
    rw [e1]; rfl
  · show k0_off2 n 0 + 1 * k.val = k0_off1 n 1 + k.val
    rw [e1, e2, Nat.one_mul]; rfl
  · show k0_off2 n 1 + 1 * j.val = k0_off1 n 2 + j.val
    rw [e1, e2, Nat.one_mul]; rfl

section loop

variable (𝒱 : Variants) (c : Dev nD) (bd : Option 𝒱.V) (i : grid0.Coords) (arg2 : Memref sig .tc .vmem S256x2048 .f32) (harg2 : arg2.IsWhole)
    (arg3 : Memref sig .tc .vmem S1x2048 .f32) (harg3 : arg3.IsWhole) (arg4 : Memref sig .tc .vmem S1x2048x3072 .f32) (harg4 : arg4.IsWhole)
    (arg5 : Memref sig .tc .vmem S1x1x256x128 .f32) (harg5 : arg5.IsWhole) (arg6 : Memref sig .tc .vmem S1x1x256x128 .f32) (harg6 : arg6.IsWhole)
    (arg7 : Memref sig .tc .vmem S1x1x256x128 .f32) (harg7 : arg7.IsWhole) (arg8 : Memref sig .tc .vmem S1x1x256x3072 .bf16) (harg8 : arg8.IsWhole)
    (arg9 : Memref sig .tc .vmem S2048x3072 .bf16) (harg9 : arg9.IsWhole) (arg10 : Memref sig .tc .vmem S256x2048 .bf16) (harg10 : arg10.IsWhole)
    (h1 : k0_cond1 i = 1#1) (X : Vec Ideal S1x2048x3072 .f32)

/-- Every piece that the loop stores is that part of the weights. -/
theorem pieces (n : ℕ) :
    ∀ p ∈ pb_k0_t1 𝒱 c bd i arg2 harg2 arg3 harg3 arg4 harg4 arg5 harg5 arg6 harg6 arg7 harg7 arg8 harg8 arg9 harg9 arg10 harg10 h1 (harg4.unread X) n,
      ∀ x, p.2 x = weights X (p.1.emb x) := by
  induction n with
  | zero => intro p hp; cases hp
  | succ n ih =>
    intro p hp
    rw [pb_k0_t1.eq_2] at hp
    unfold pb_k0_t1Step at hp
    split at hp
    · rcases List.mem_append.1 hp with hp | hp
      · unfold tripL_k0_t1 trip_k0_t1 at hp
        obtain rfl := List.mem_singleton.1 hp
        intro x
        obtain ⟨k, j, rfl⟩ : ∃ (k : Fin 128) (j : Fin 3072), x = ix2 k j := ⟨x 0, x 1, by funext k; fin_cases k <;> rfl⟩
        exact row_at harg4 X ⟨n, by assumption⟩ (k0_off1_inb i _ h1) (k0_off2_inb i _ h1) k j
      · exact ih p hp
    · exact ih p hp

/-- What the loop leaves: the weights. -/
theorem loop_read :
    View.canon (pb_k0_t1 𝒱 c bd i arg2 harg2 arg3 harg3 arg4 harg4 arg5 harg5 arg6 harg6 arg7 harg7 arg8 harg8 arg9 harg9 arg10 harg10 h1 (harg4.unread X)
      (Scf.trips k0_t1_loop.lb k0_t1_loop.ub k0_t1_loop.st)) = weights X :=
  funext fun y => View.canon_apply_of_pieces (weights X) _ (pieces 𝒱 c bd i arg2 harg2 arg3 harg3 arg4 harg4 arg5 harg5 arg6 harg6 arg7 harg7 arg8 harg8 arg9 harg9 arg10 harg10 h1 X _) y
    (View.cover_of_tiledL (s := S2048x3072) _ S128x3072.size (by sl_kernel_rfl) y)

theorem loop_load (v : View sig .tc .vmem S2048x3072 .bf16) (r : Rect S2048x3072) :
    v.readCov (pb_k0_t1 𝒱 c bd i arg2 harg2 arg3 harg3 arg4 harg4 arg5 harg5 arg6 harg6 arg7 harg7 arg8 harg8 arg9 harg9 arg10 harg10 h1 (harg4.unread X)
      (Scf.trips k0_t1_loop.lb k0_t1_loop.ub k0_t1_loop.st)) r.toLoadRect = View.ld (weights X) r :=
  (View.readCov_eq_canon' v _ _).trans (by rw [loop_read])

end loop

/-! ## What the points leave -/

/-- The weights that the first point stores. -/
abbrev stored (c : Dev nD) (t : Fin cfg0.N) : Vec Ideal S2048x3072 .bf16 := weights (iblk m c 2 t)

theorem held (c : Dev nD) (t : Fin cfg0.N) :
    (outsAt0 m c t.val t.isLt).2 = stored m c ⟨32 * (t.val / 32), Pipeline.run_start_lt t⟩ :=
  Pipeline.eq_of_write_hold (fun n h => (outsAt0 m c n h).2) 32 (stored m c)
    (fun t h0 => by
      rw [outsAt0_A m c t h0]; frame_open
      exact (View.read_writes_junk_eq_canon VS0_0 _).trans (loop_read ..))
    (fun t h0 => by rw [outsAt0_B m c t h0]; rfl) t

theorem out_A (c : Dev nD) (t : Fin cfg0.N) (h0 : t.val % 32 = 0) (y : S1x1x256x3072.Idx) :
    (outsAt0 m c t.val t.isLt).1 y
      = block (iblk m c 0 t) (iblk m c 1 t) (stored m c t) (iblk m c 3 t) (iblk m c 4 t) (iblk m c 5 t) y := by
  rw [outsAt0_A m c t h0]; frame_open
  generalize hL : pb_k0_t1 (F := Ideal) _ _ _ _ _ _ _ _ _ _ _ _ _ _ _ _ _ _ _ _ _ _ _ _ _ = L
  have hW : ∀ r : Rect S2048x3072, scM0_0.view.readCov L r.toLoadRect = View.ld (stored m c t) r := fun r => by
    rw [← hL]; exact loop_load ..
  clear hL
  simp (disch := decide) only [hW, ↓View.readCov_skip, ↓View.readCov_cons_toLoadRect, ↓View.readCov_fill]
  frame_out
  canon_tiles x h using View.cover_of_tiledBy (s := S1x1x256x3072) _ ![1, 1, 256, 128] (by sl_kernel_rfl) y
  · exact v_piece _ _ _ _ _ _ y x (by omega) (by omega)
  iterate 8 · exact k_piece _ _ _ _ _ _ _ (by decide) y x (by omega) (by omega) (by omega) (by omega) (by omega)
  iterate 8 · exact q_piece _ _ _ _ _ _ _ (by decide) y x (by omega) (by omega) (by omega) (by omega)

theorem out_B (c : Dev nD) (t : Fin cfg0.N) (h0 : ¬t.val % 32 = 0) (y : S1x1x256x3072.Idx) :
    (outsAt0 m c t.val t.isLt).1 y
      = block (iblk m c 0 t) (iblk m c 1 t) (outsAt0 m c (t.val - 1) (by omega)).2 (iblk m c 3 t) (iblk m c 4 t) (iblk m c 5 t) y := by
  rw [outsAt0_B m c t h0]; frame_open
  simp (disch := decide) only [↓View.readCov_skip, ↓View.readCov_cons_toLoadRect, ↓View.readCov_fill]
  frame_out
  simp only [read_unread_whole]
  canon_tiles x h using View.cover_of_tiledBy (s := S1x1x256x3072) _ ![1, 1, 256, 128] (by sl_kernel_rfl) y
  · exact v_piece _ _ _ _ _ _ y x (by omega) (by omega)
  iterate 8 · exact k_piece _ _ _ _ _ _ _ (by decide) y x (by omega) (by omega) (by omega) (by omega) (by omega)
  iterate 8 · exact q_piece _ _ _ _ _ _ _ (by decide) y x (by omega) (by omega) (by omega) (by omega)

/-! ## The blocks at coordinates -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![t.val / 8, 0, t.val % 8, 0] := (by decide +kernel : ∀ t : Fin grid0.N, _)
theorem idx4 : ∀ t : Fin cfg0.N, win0_4.index t = ![t.val / 8, 0, t.val % 8, 0] := (by decide +kernel : ∀ t : Fin grid0.N, _)
theorem idx5 : ∀ t : Fin cfg0.N, win0_5.index t = ![t.val / 8, 0, t.val % 8, 0] := (by decide +kernel : ∀ t : Fin grid0.N, _)
theorem idx6 : ∀ t : Fin cfg0.N, win0_6.index t = ![t.val / 8, 0, t.val % 8, 0] := (by decide +kernel : ∀ t : Fin grid0.N, _)

/-- The batch that a point works on. -/
abbrev batchOf (t : Fin cfg0.N) : Fin 4 := ⟨t.val / 8, by have := lt_of_lt_of_eq t.isLt N_0; omega⟩

/-- A point's row among its batch's rows. -/
abbrev rowOf (t : Fin cfg0.N) (a : Fin 256) : Fin 2048 := ⟨t.val % 8 * 256 + a.val, by omega⟩

theorem rows_at (c : Dev nD) (t : Fin cfg0.N) (a : Fin 256) (k : Fin 2048) :
    iblk m c 0 t (ix2 a k) = m (c.tc.loc main_arg0) (ix2 (⟨(batchOf t).val * 2048 + (rowOf t a).val, by omega⟩ : Fin 8192) k) := by
  have hN : t.val < 32 := lt_of_lt_of_eq t.isLt N_0
  blk_point [iblk, V, idx0 t]

theorem gain_at (c : Dev nD) (t : Fin cfg0.N) (k : Fin 2048) :
    iblk m c 1 t (ix2 0 k) = m (c.tc.loc main_arg1) (ix1 k) := by
  blk_point [iblk, V, idx1 t]

theorem stored_at (c : Dev nD) (t : Fin cfg0.N) (k : Fin 2048) (n : Fin 3072) :
    stored m c t (ix2 k n) = m (c.tc.loc main_arg2) (ix3 0 k (⟨n.val, by omega⟩ : Fin 9216)) := by
  show iblk m c 2 t (ix3 0 k n) = _
  blk_point [iblk, V, idx2 t]

theorem cos_at (c : Dev nD) (t : Fin cfg0.N) (a : Fin 256) (d : Fin 128) :
    iblk m c 3 t (ix4 0 0 a d) = m (c.tc.loc main_arg3) (ix4 (batchOf t) 0 (rowOf t a) d) := by
  blk_point [iblk, V, idx3 t]

theorem sa_at (c : Dev nD) (t : Fin cfg0.N) (a : Fin 256) (d : Fin 128) :
    iblk m c 4 t (ix4 0 0 a d) = m (c.tc.loc main_arg4) (ix4 (batchOf t) 0 (rowOf t a) d) := by
  blk_point [iblk, V, idx4 t]

theorem sb_at (c : Dev nD) (t : Fin cfg0.N) (a : Fin 256) (d : Fin 128) :
    iblk m c 5 t (ix4 0 0 a d) = m (c.tc.loc main_arg5) (ix4 (batchOf t) 0 (rowOf t a) d) := by
  blk_point [iblk, V, idx5 t]

/-! ## The result array -/

/-- A row of the projection, one of its heads. -/
def head (c : Dev nD) (b : Fin 4) (s : Fin 2048) (E : Fin 24) (d : Fin 128) : EReal :=
  Rows.proj (fun k => m (c.tc.loc main_arg0) (ix2 (⟨b.val * 2048 + s.val, by omega⟩ : Fin 8192) k)) (fun k => m (c.tc.loc main_arg1) (ix1 k))
    (fun k => m (c.tc.loc main_arg2) (ix3 0 k (⟨(lane E d).val, by omega⟩ : Fin 9216)))

/-- The array the kernel leaves, entry by entry. -/
def result (c : Dev nD) : Buf (Elt Ideal) ((c : Thread nD τ).loc main_v1) := fun i =>
  entry ((i 3).val / 1024) (head m c (i 0) (i 2) (headOf (i 3))) (fun d => m (c.tc.loc main_arg3) (ix4 (i 0) 0 (i 2) d))
    (fun d => m (c.tc.loc main_arg4) (ix4 (i 0) 0 (i 2) d)) (fun d => m (c.tc.loc main_arg5) (ix4 (i 0) 0 (i 2) d)) (placeOf (i 3))

theorem block_at (c : Dev nD) (t : Fin cfg0.N) (W : Vec Ideal S2048x3072 .bf16)
    (hW : ∀ k n, W (ix2 k n) = m (c.tc.loc main_arg2) (ix3 0 k (⟨n.val, by omega⟩ : Fin 9216))) (a : Fin 256) (j : Fin 3072) :
    block (iblk m c 0 t) (iblk m c 1 t) W (iblk m c 3 t) (iblk m c 4 t) (iblk m c 5 t) (ix4 0 0 a j)
      = result m c (ix4 (batchOf t) 0 (rowOf t a) j) := by
  show entry (j.val / 1024) (fun d => Rows.proj (fun k => iblk m c 0 t (ix2 a k)) (fun k => iblk m c 1 t (ix2 0 k)) (fun k => W (ix2 k (lane (headOf j) d))))
    (fun d => iblk m c 3 t (ix4 0 0 a d)) (fun d => iblk m c 4 t (ix4 0 0 a d)) (fun d => iblk m c 5 t (ix4 0 0 a d)) (placeOf j) = _
  have e0 : (fun k => iblk m c 0 t (ix2 a k)) = _ := funext fun k => rows_at m c t a k
  have e1 : (fun k => iblk m c 1 t (ix2 0 k)) = _ := funext fun k => gain_at m c t k
  have e2 : (fun d : Fin 128 => fun k => W (ix2 k (lane (headOf j) d))) = _ := funext fun d => funext fun k => hW k (lane (headOf j) d)
  have e3 : (fun d => iblk m c 3 t (ix4 0 0 a d)) = _ := funext fun d => cos_at m c t a d
  have e4 : (fun d => iblk m c 4 t (ix4 0 0 a d)) = _ := funext fun d => sa_at m c t a d
  have e5 : (fun d => iblk m c 5 t (ix4 0 0 a d)) = _ := funext fun d => sb_at m c t a d
  rw [e0, e1, e3, e4, e5]
  have e6 : (fun d => Rows.proj (fun k => m (c.tc.loc main_arg0) (ix2 (⟨(batchOf t).val * 2048 + (rowOf t a).val, by omega⟩ : Fin 8192) k))
      (fun k => m (c.tc.loc main_arg1) (ix1 k)) (fun k => W (ix2 k (lane (headOf j) d)))) = head m c (batchOf t) (rowOf t a) (headOf j) :=
    funext fun d => congrArg (Rows.proj _ _) (congrFun e2 d)
  exact congrArg (fun x => entry (j.val / 1024) x _ _ _ (placeOf j)) e6

theorem out_at (c : Dev nD) (t : Fin cfg0.N) (a : Fin 256) (j : Fin 3072) :
    (outsAt0 m c t.val t.isLt).1 (ix4 0 0 a j) = result m c (ix4 (batchOf t) 0 (rowOf t a) j) := by
  by_cases h0 : t.val % 32 = 0
  · exact (out_A m c t h0 _).trans (block_at m c t _ (stored_at m c t) a j)
  · exact (out_B m c t h0 _).trans (block_at m c t _ (fun k n => by
      rw [held m c ⟨t.val - 1, by omega⟩]; exact stored_at m c _ k n) a j)

theorem final (c : Dev nD) : (dats m 0 c).arrAt 6 cfg0.N = result m c := by
  refine (dats m 0 c).arrAt_eq_of_covers 6 _ (by decide +kernel) fun t hf y => ?_
  have hN : t.val < 32 := lt_of_lt_of_eq t.isLt N_0
  obtain ⟨z, z', a, b, rfl⟩ : ∃ (z : Fin 1) (z' : Fin 1) (a : Fin 256) (b : Fin 3072), y = ix4 z z' a b :=
    ⟨y 0, y 1, y 2, y 3, by funext k; fin_cases k <;> rfl⟩
  obtain rfl : z = 0 := Subsingleton.elim _ _
  obtain rfl : z' = 0 := Subsingleton.elim _ _
  blk_simp
  rw [after0_6]
  have he : (win0_6.blk t).view.emb (ix4 0 0 a b) = ix4 (batchOf t) 0 (rowOf t a) b := by
    blk_ext [idx6 t]
  rw [he]
  exact out_at m c t a b

/-- The run of the kernel, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨((h.2 c).1 6).trans (final m c), h.1 c⟩) (θ_run_and (unchanged m ρ) (run_main m ρ))

end Cert.Kernel5Ideal.Value
-- ==== Proof.AttIn1.lean ====
/-
  The attention's input projection kernel and the host program compute the same array.
-/
module

public import proofs.«01_k».proof.Defs
public import proofs.«01_k».proof.Proof.AttInKernel
public import proofs.«01_k».proof.Proof.Gen.Kernel5Ideal
public import proofs.«01_k».proof.Proof.Gen.Reference5Ideal

@[expose] public section

noncomputable section

open Idealize.ShloMosaic Idealize.ShloMosaic.TcCoe Idealize.SL.Sem

namespace Cert.AttIn1

/-- The claim: from equal arguments both programs leave the same result, their arguments unchanged. -/
theorem algebraic : Cert.algebraic_Kernel5Ideal_Reference5Ideal (hKernel5Ideal := Cert.Kernel5Ideal.Gen.facts)
    (hReference5Ideal := Cert.Reference5Ideal.Gen.facts) := by
  intro m g m' g' _ hm
  refine ⟨Cert.Kernel5Ideal.Value.result m, Cert.Kernel5Ideal.Value.run_result m g, ?_⟩
  refine (θ_run _ _ _).mono (fun _ h c => ⟨(h c).1.trans ?_, (h c).2⟩) (Cert.Reference5Ideal.Value.run_result m' g')
  obtain ⟨h0, h1, h2, h3, h4, h5⟩ := hm c
  unfold Cert.Reference5Ideal.Value.result Cert.Reference5Ideal.Value.head
  rw [h0, h1, h2, h3, h4, h5]
  rfl

end Cert.AttIn1
-- ==== Proof.AttInSpec4.lean ====
/-
  The attention's input projection for every fourth position, at an entry: the rows are those of the undilated call, laid
  out by their position's residue. The host program computes this entry by entry.
-/
module

public import proofs.«01_k».proof.Proof.AttInSpec
public import proofs.«01_k».proof.Proof.Gen.Reference6Ideal.Run

@[expose] public section

set_option maxRecDepth 16384

noncomputable section

open Idealize.ShloMosaic Idealize.ShloMosaic.TcCoe Idealize.SL.Sem

namespace Cert.Reference6Ideal.Value

open Cert.Reference6Ideal Cert.Reference6Ideal.Gen Cert.AttIn

variable (m : (ℓ : Loc nD τ sig) → Buf (Elt Ideal) ℓ) (c : Dev nD)

/-- The projection of every row, cut into parts and heads. -/
def parts : FVec Ideal S4x4x512x3x8x128 .f32 :=
  transpose S4x4x512x3x8x128 [0, 2, 1, 3, 4, 5] (shapeCast _ (Host.dotGeneral (φ₁ := .f32) (φ₂ := .f32) dot_S8192x2048_S2048x3072_S8192x3072_1_0_0_1_n_n none (mulf (mulf (m ((c.tc : Thread nD τ).loc main_arg0)) (broadcastInDim S8192x2048 ![0, 1] bcast_S8192x1_S8192x2048_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (m ((c.tc : Thread nD τ).loc main_arg1))))) (shapeCast _ (extractStridedSlice S1x2048x3072 ![0, 0, 3072] (m ((c.tc : Thread nD τ).loc main_arg2) : FVec Ideal S2x2048x9216 .f32) slices_S2x2048x9216_S1x2048x3072_0_0_3072) shapeCasts_S1x2048x3072_S2048x3072)) shapeCasts_S8192x3072_S4x512x4x3x8x128) transposes_S4x512x4x3x8x128_S4x4x512x3x8x128_0_2_1_3_4_5

/-- One part of them. -/
def part (P : FVec Ideal S4x4x512x3x8x128 .f32) (off : Fin 6 → ℕ) (h : S4x4x512x3x8x128.Slices off S4x4x512x1x8x128) :
    FVec Ideal S4x4x512x8x128 .f32 :=
  shapeCast _ (extractStridedSlice S4x4x512x1x8x128 off P h) shapeCasts_S4x4x512x1x8x128_S4x4x512x8x128

/-- A table, given to every head. -/
def table (T : FVec Ideal S4x4x512x128 .f32) : FVec Ideal S4x4x512x8x128 .f32 :=
  broadcastInDim S4x4x512x8x128 ![0, 1, 2, 3, 4] bcast_S4x4x512x1x128_S4x4x512x8x128_0_1_2_3_4 (broadcastInDim S4x4x512x1x128 ![0, 1, 2, 4] bcast_S4x4x512x128_S4x4x512x1x128_0_1_2_4 T)

/-- A part turned by the tables. -/
def turned (x : FVec Ideal S4x4x512x8x128 .f32) (C A B : FVec Ideal S4x4x512x128 .f32) : FVec Ideal S4x4x512x8x128 .f32 :=
  addf (addf (mulf x (table C))
    (mulf (concatenate S4x4x512x8x128 4 [⟨S4x4x512x8x16, extractStridedSlice S4x4x512x8x16 ![0, 0, 0, 0, 112] x slices_S4x4x512x8x128_S4x4x512x8x16_0_0_0_0_112⟩,
      ⟨S4x4x512x8x112, extractStridedSlice S4x4x512x8x112 ![0, 0, 0, 0, 0] x slices_S4x4x512x8x128_S4x4x512x8x112_0_0_0_0_0⟩]
      concatenates_S4x4x512x8x16_S4x4x512x8x112_S4x4x512x8x128_d4) (table A)))
    (mulf (concatenate S4x4x512x8x128 4 [⟨S4x4x512x8x112, extractStridedSlice S4x4x512x8x112 ![0, 0, 0, 0, 16] x slices_S4x4x512x8x128_S4x4x512x8x112_0_0_0_0_16⟩,
      ⟨S4x4x512x8x16, extractStridedSlice S4x4x512x8x16 ![0, 0, 0, 0, 0] x slices_S4x4x512x8x128_S4x4x512x8x16_0_0_0_0_0⟩]
      concatenates_S4x4x512x8x112_S4x4x512x8x16_S4x4x512x8x128_d4) (table B))

/-- The queries scaled. -/
def scaled (x : FVec Ideal S4x4x512x8x128 .f32) : FVec Ideal S4x4x512x8x128 .f32 :=
  mulf x (broadcastInDim S4x4x512x8x128 ![] bcast_S_S4x4x512x8x128 (constant S_ .f32 0x3DB504F3#32))

/-- The three parts side by side. -/
def joined (q k v : FVec Ideal S4x4x512x8x128 .f32) : FVec Ideal S4x4x512x3x8x128 .f32 :=
  concatenate S4x4x512x3x8x128 3
    [⟨S4x4x512x1x8x128, broadcastInDim S4x4x512x1x8x128 ![0, 1, 2, 4, 5] bcast_S4x4x512x8x128_S4x4x512x1x8x128_0_1_2_4_5 q⟩,
      ⟨S4x4x512x1x8x128, broadcastInDim S4x4x512x1x8x128 ![0, 1, 2, 4, 5] bcast_S4x4x512x8x128_S4x4x512x1x8x128_0_1_2_4_5 k⟩,
      ⟨S4x4x512x1x8x128, broadcastInDim S4x4x512x1x8x128 ![0, 1, 2, 4, 5] bcast_S4x4x512x8x128_S4x4x512x1x8x128_0_1_2_4_5 v⟩]
    concatenates_S4x4x512x1x8x128_S4x4x512x1x8x128_S4x4x512x1x8x128_S4x4x512x3x8x128_d3

/-- The heads of a row laid out in a line. -/
def flat (x : FVec Ideal S4x4x512x3x8x128 .f32) : FVec Ideal S4x4x512x3072 .bf16 :=
  truncf .bf16 (shapeCast _ x shapeCasts_S4x4x512x3x8x128_S4x4x512x3072) bitsLt_bf16_f32

theorem res_eq : res_main_v57 m c = flat (joined
    (scaled (turned (part (parts m c) ![0, 0, 0, 0, 0, 0] slices_S4x4x512x3x8x128_S4x4x512x1x8x128_0_0_0_0_0_0)
      (m (c.tc.loc main_arg3)) (m (c.tc.loc main_arg4)) (m (c.tc.loc main_arg5))))
    (turned (part (parts m c) ![0, 0, 0, 1, 0, 0] slices_S4x4x512x3x8x128_S4x4x512x1x8x128_0_0_0_1_0_0)
      (m (c.tc.loc main_arg3)) (m (c.tc.loc main_arg4)) (m (c.tc.loc main_arg5)))
    (part (parts m c) ![0, 0, 0, 2, 0, 0] slices_S4x4x512x3x8x128_S4x4x512x1x8x128_0_0_0_2_0_0)) := rfl

/-- A row of the projection, one of its heads. -/
def head (b : Fin 4) (r : Fin 4) (s : Fin 512) (E : Fin 24) (d : Fin 128) : EReal :=
  Rows.proj (fun k => m (c.tc.loc main_arg0) (ix2 (⟨b.val * 2048 + s.val * 4 + r.val, by omega⟩ : Fin 8192) k)) (fun k => m (c.tc.loc main_arg1) (ix1 k))
    (fun k => m (c.tc.loc main_arg2) (ix3 0 k (⟨3072 + (lane E d).val, by omega⟩ : Fin 9216)))

theorem parts_at (b : Fin 4) (r : Fin 4) (s : Fin 512) (p : Fin 3) (e : Fin 8) (d : Fin 128) (E : Fin 24) (hE : E.val = p.val * 8 + e.val) :
    parts m c (ix6 b r s p e d) = head m c b r s E d := by
  have hj : (⟨3072 + (p.val * 1024 + e.val * 128 + d.val), by omega⟩ : Fin 9216) = ⟨3072 + (lane E d).val, by omega⟩ :=
    Fin.ext (by show 3072 + (p.val * 1024 + e.val * 128 + d.val) = 3072 + (E.val * 128 + d.val); omega)
  pointwise [parts]
  rw [head, ← hj]
  rfl

theorem part_at0 (P : FVec Ideal S4x4x512x3x8x128 .f32) (h) (b : Fin 4) (r : Fin 4) (s : Fin 512) (e : Fin 8) (d : Fin 128) :
    part P ![0, 0, 0, 0, 0, 0] h (ix5 b r s e d) = P (ix6 b r s 0 e d) := by
  pointwise [part]

theorem part_at1 (P : FVec Ideal S4x4x512x3x8x128 .f32) (h) (b : Fin 4) (r : Fin 4) (s : Fin 512) (e : Fin 8) (d : Fin 128) :
    part P ![0, 0, 0, 1, 0, 0] h (ix5 b r s e d) = P (ix6 b r s 1 e d) := by
  pointwise [part]

theorem part_at2 (P : FVec Ideal S4x4x512x3x8x128 .f32) (h) (b : Fin 4) (r : Fin 4) (s : Fin 512) (e : Fin 8) (d : Fin 128) :
    part P ![0, 0, 0, 2, 0, 0] h (ix5 b r s e d) = P (ix6 b r s 2 e d) := by
  pointwise [part]

theorem turned_at (x : FVec Ideal S4x4x512x8x128 .f32) (C A B : FVec Ideal S4x4x512x128 .f32) (b : Fin 4) (r : Fin 4) (s : Fin 512) (e : Fin 8) (d : Fin 128) :
    turned x C A B (ix5 b r s e d) = turn (fun d => x (ix5 b r s e d)) (fun d => C (ix4 b r s d)) (fun d => A (ix4 b r s d))
      (fun d => B (ix4 b r s d)) d := by
  pointwise [turned, table]
  have e1 := back_ends (fun d => x (ix5 b r s e d)) d
  have e2 := fwd_ends (fun d => x (ix5 b r s e d)) d
  rw [e1, e2]
  rfl

theorem scaled_at (x : FVec Ideal S4x4x512x8x128 .f32) (b : Fin 4) (r : Fin 4) (s : Fin 512) (e : Fin 8) (d : Fin 128) :
    scaled x (ix5 b r s e d) = x (ix5 b r s e d) * scale := by
  pointwise [scaled]

theorem joined_at0 (q k v : FVec Ideal S4x4x512x8x128 .f32) (b : Fin 4) (r : Fin 4) (s : Fin 512) (e : Fin 8) (d : Fin 128) :
    joined q k v (ix6 b r s 0 e d) = q (ix5 b r s e d) := by
  pointwise [joined]

theorem joined_at1 (q k v : FVec Ideal S4x4x512x8x128 .f32) (b : Fin 4) (r : Fin 4) (s : Fin 512) (e : Fin 8) (d : Fin 128) :
    joined q k v (ix6 b r s 1 e d) = k (ix5 b r s e d) := by
  pointwise [joined]

theorem joined_at2 (q k v : FVec Ideal S4x4x512x8x128 .f32) (b : Fin 4) (r : Fin 4) (s : Fin 512) (e : Fin 8) (d : Fin 128) :
    joined q k v (ix6 b r s 2 e d) = v (ix5 b r s e d) := by
  pointwise [joined]

theorem flat_at (x : FVec Ideal S4x4x512x3x8x128 .f32) (b : Fin 4) (r : Fin 4) (s : Fin 512) (p : Fin 3) (e : Fin 8) (d : Fin 128) (j : Fin 3072)
    (hj : j.val = p.val * 1024 + e.val * 128 + d.val) :
    flat x (ix4 b r s j) = x (ix6 b r s p e d) := by
  have h1 : (⟨j.val / 1024, by omega⟩ : Fin 3) = p := Fin.ext (by show j.val / 1024 = p.val; omega)
  have h2 : (⟨j.val / 128 % 8, by omega⟩ : Fin 8) = e := Fin.ext (by show j.val / 128 % 8 = e.val; omega)
  have h3 : (⟨j.val % 128, by omega⟩ : Fin 128) = d := Fin.ext (by show j.val % 128 = d.val; omega)
  pointwise [flat]
  rw [h1, h2, h3]

/-- The host program's result at an entry. -/
def result : Buf (Elt Ideal) ((c.tc : Thread nD τ).loc main_v57) := fun i =>
  entry ((i 3).val / 1024) (head m c (i 0) (i 1) (i 2) (headOf (i 3))) (fun d => m (c.tc.loc main_arg3) (ix4 (i 0) (i 1) (i 2) d))
    (fun d => m (c.tc.loc main_arg4) (ix4 (i 0) (i 1) (i 2) d)) (fun d => m (c.tc.loc main_arg5) (ix4 (i 0) (i 1) (i 2) d)) (placeOf (i 3))

theorem res_at (b : Fin 4) (r : Fin 4) (s : Fin 512) (j : Fin 3072) : res_main_v57 m c (ix4 b r s j) = result m c (ix4 b r s j) := by
  have hj : j.val = (⟨j.val / 1024, by omega⟩ : Fin 3).val * 1024 + (⟨j.val / 128 % 8, by omega⟩ : Fin 8).val * 128 + (placeOf j).val := by
    show j.val = j.val / 1024 * 1024 + j.val / 128 % 8 * 128 + j.val % 128
    omega
  have hE : (headOf j).val = (⟨j.val / 1024, by omega⟩ : Fin 3).val * 8 + (⟨j.val / 128 % 8, by omega⟩ : Fin 8).val := by
    show j.val / 128 = j.val / 1024 * 8 + j.val / 128 % 8
    omega
  rw [res_eq, flat_at _ b r s _ _ _ j hj]
  show _ = entry (j.val / 1024) (head m c b r s (headOf j)) (fun d => m (c.tc.loc main_arg3) (ix4 b r s d))
    (fun d => m (c.tc.loc main_arg4) (ix4 b r s d)) (fun d => m (c.tc.loc main_arg5) (ix4 b r s d)) (placeOf j)
  generalize he : (⟨j.val / 128 % 8, by omega⟩ : Fin 8) = e at hE ⊢
  generalize hp : (⟨j.val / 1024, by omega⟩ : Fin 3) = p at hE ⊢
  rw [show j.val / 1024 = p.val by rw [← hp]]
  clear he hp hj
  fin_cases p
  · refine (joined_at0 _ _ _ b r s e _).trans ?_
    rw [scaled_at, turned_at]
    simp only [part_at0, parts_at m c b r s 0 e _ (headOf j) hE]
    rfl
  · refine (joined_at1 _ _ _ b r s e _).trans ?_
    rw [turned_at]
    simp only [part_at1, parts_at m c b r s 1 e _ (headOf j) hE]
    rfl
  · refine (joined_at2 _ _ _ b r s e _).trans ?_
    rw [part_at2, parts_at m c b r s 2 e _ (headOf j) hE]
    rfl

/-- The run of the host program, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ⟨(h c).1.trans ?_, (h c).2⟩) (run m ρ)
  funext i
  obtain ⟨b, r, s, j, rfl⟩ : ∃ (b : Fin 4) (r : Fin 4) (s : Fin 512) (j : Fin 3072), i = ix4 b r s j :=
    ⟨i 0, i 1, i 2, i 3, by funext k; fin_cases k <;> rfl⟩
  exact res_at m c b r s j

end Cert.Reference6Ideal.Value
-- ==== Proof.AttInKernel4.lean ====
/-
  The attention's input projection kernel for every fourth position: its result array. A point takes 256 rows of one
  batch, scales them, lays them out by their position's residue through planes of 128 lanes, and projects and turns them
  there. The first point stores the weights, 128 rows at a time, and the other points read them.
-/
module

public import proofs.«01_k».proof.Proof.AttInShared
public import proofs.«01_k».proof.Proof.AttInSpec4
public import proofs.«01_k».proof.Proof.Gen.Kernel6Ideal.Frame
public import Idealize.ShloMosaic.Lib.Pipeline.ReadBack
public import Idealize.ShloMosaic.Lib.WordArith.Masks

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.AttIn

variable (m : (ℓ : Loc nD τ sig) → Buf (Elt Ideal) ℓ)

/-! ## The scaled rows, laid out by residue -/

section rows

variable (X : Vec Ideal S256x2048 .f32) (G : Vec Ideal S1x2048 .f32)

/-- The row of a block that is stored at a place: the rows of one residue after those of another. -/
def source (a : Fin 256) : Fin 256 := ⟨a.val % 64 * 4 + a.val / 64, by omega⟩

/-- The scaled rows, laid out by residue. -/
def rows : Vec Ideal S256x2048 .bf16 := fun y =>
  Rows.rms (fun k => X (ix2 (source (y 0)) k)) (fun k => G (ix2 0 k)) (y 1)

theorem scaled_at (a : Fin 256) (j : Fin 2048) : k0_pay4 X G (ix2 a j) = Rows.rms (fun k => X (ix2 a k)) (fun k => G (ix2 0 k)) j := by
  pointwise [k0_pay4]
  rfl

theorem round_at (V : Vec Ideal S1x64x128 .f32) (a : Fin 64) (d : Fin 128) : k0_pay22 V (ix2 a d) = V (ix3 0 a d) := by
  pointwise [k0_pay22]

/-- A block of the rows laid out by residue: one plane's rows of one residue. -/
theorem row_piece (p r : ℕ) (h) (y : S256x2048.Idx) (x : S64x128.Idx) (hp : p < 16) (hr : r < 4)
    (h0 : (y 0).val = r * 64 + (x 0).val) (h1 : (y 1).val = p * 128 + (x 1).val) :
    k0_pay22 (fun j => planes X G ((⟨![p, r, 0], S1x64x128.size, ![1, 4, 1], h⟩ : LoadRect S16x256x128).idx j)) x = rows X G y := by
  obtain ⟨a, b, rfl⟩ : ∃ (a : Fin 64) (b : Fin 128), x = ix2 a b := ⟨x 0, x 1, by funext k; fin_cases k <;> rfl⟩
  rw [round_at, planes, rows]
  have h0' : (y 0).val = r * 64 + a.val := h0
  have h1' : (y 1).val = p * 128 + b.val := h1
  have e1 : (⟨![p, r, 0], S1x64x128.size, ![1, 4, 1], h⟩ : LoadRect S16x256x128).idx (ix3 0 a b) 1 = source (y 0) :=
    Fin.ext (by show r + 4 * a.val = (y 0).val % 64 * 4 + (y 0).val / 64; omega)
  rw [e1]
  exact congrArg _ (Fin.ext (by show (p + 1 * 0) * 128 + (0 + 1 * b.val) = (y 1).val; omega))

theorem rows_whole (h) : (fun j => rows X G ((Rect.unit (s := S256x2048) ![0, 0] ![256, 2048] h).idx j)) = rows X G :=
  View.ld_unit_zero (S := S256x2048) (by funext k; fin_cases k <;> rfl) h (rows X G)

end rows

/-! ## The stored values at an entry -/

theorem pay3_at (w : Vec Ideal S1x128x3072 .f32) (k : Fin 128) (n : Fin 3072) : k0_pay3 w (ix2 k n) = w (ix3 0 k n) := by
  pointwise [k0_pay3]

/-- The projection of the rows laid out by residue at an entry. -/
theorem acc_at (X : Vec Ideal S256x2048 .f32) (G : Vec Ideal S1x2048 .f32) (W : Vec Ideal S2048x3072 .bf16)
    (a : Fin 256) (n : Fin 3072) :
    k0_pay99 (rows X G) W (ix2 a n) = Rows.proj (fun k => X (ix2 (source a) k)) (fun k => G (ix2 0 k)) (fun k => W (ix2 k n)) := by
  pointwise [k0_pay99]
  rfl

/-- A place's residue. -/
abbrev residue (a : Fin 256) : Fin 4 := ⟨a.val / 64, by omega⟩

/-- A place's position among those of its residue. -/
abbrev among (a : Fin 256) : Fin 64 := ⟨a.val % 64, by omega⟩

theorem q_cos (T : Vec Ideal S1x4x64x128 .f32) (a : Fin 256) (d : Fin 128) :
    k0_pay104 (k0_pay100 T) (k0_pay103 (F := Ideal)) (ix2 a d) = T (ix4 0 (residue a) (among a) d) * scale := by
  pointwise [k0_pay104, k0_pay100, k0_pay103]

theorem q_sa (T : Vec Ideal S1x4x64x128 .f32) (a : Fin 256) (d : Fin 128) :
    k0_pay105 (k0_pay101 T) (ix2 a d) = T (ix4 0 (residue a) (among a) d) * scale := by
  pointwise [k0_pay105, k0_pay101]

theorem q_sb (T : Vec Ideal S1x4x64x128 .f32) (a : Fin 256) (d : Fin 128) :
    k0_pay106 (k0_pay102 T) (ix2 a d) = T (ix4 0 (residue a) (among a) d) * scale := by
  pointwise [k0_pay106, k0_pay102]

theorem k_cos (T : Vec Ideal S1x4x64x128 .f32) (a : Fin 256) (d : Fin 128) :
    k0_pay155 (k0_pay100 T) (ix2 a d) = T (ix4 0 (residue a) (among a) d) := by
  pointwise [k0_pay155, k0_pay100]

theorem k_sa (T : Vec Ideal S1x4x64x128 .f32) (a : Fin 256) (d : Fin 128) :
    k0_pay156 (k0_pay101 T) (ix2 a d) = T (ix4 0 (residue a) (among a) d) := by
  pointwise [k0_pay156, k0_pay101]

theorem k_sb (T : Vec Ideal S1x4x64x128 .f32) (a : Fin 256) (d : Fin 128) :
    k0_pay157 (k0_pay102 T) (ix2 a d) = T (ix4 0 (residue a) (among a) d) := by
  pointwise [k0_pay157, k0_pay102]

/-- The rows of one residue of a head turned by the tables, as the kernel turns it. -/
def turned (M c a b : FVec Ideal S256x128 .f32) (r : ℕ) (h : S256x128.Slices ![r, 0] S64x128) : FVec Ideal S1x1x64x128 .bf16 :=
  shapeCast S1x1x64x128 (truncf .bf16 (extractStridedSlice S64x128 ![r, 0]
    (turnRows M c a b rotates_S256x128_d1) h) bitsLt_bf16_f32) shapeCasts_S64x128_S1x1x64x128

theorem turned_at (M c a b : FVec Ideal S256x128 .f32) (r : ℕ) (h : S256x128.Slices ![r, 0] S64x128) (i : Fin 64) (d : Fin 128) (p : Fin 256)
    (hp : p.val = r + i.val) :
    turned M c a b r h (ix4 0 0 i d) = turn (fun d => M (ix2 p d)) (fun d => c (ix2 p d)) (fun d => a (ix2 p d)) (fun d => b (ix2 p d)) d := by
  obtain ⟨p, hlt⟩ := p
  obtain rfl : p = r + i.val := hp
  pointwise [turned]
  exact turnRows_at M c a b _ _ d

/-- The row of a block at a residue and a position among that residue's. -/
def at4 (r : Fin 4) (s : Fin 64) : Fin 256 := ⟨s.val * 4 + r.val, by omega⟩

/-- What a point leaves in its block, from its blocks and the weights it reads. -/
def block (X : Vec Ideal S256x2048 .f32) (G : Vec Ideal S1x2048 .f32) (W : Vec Ideal S2048x3072 .bf16) (C A B : Vec Ideal S1x4x64x128 .f32)
    (y : S1x4x64x3072.Idx) : EReal :=
  entry ((y 3).val / 1024) (fun d => Rows.proj (fun k => X (ix2 (at4 (y 1) (y 2)) k)) (fun k => G (ix2 0 k)) (fun k => W (ix2 k (lane (headOf (y 3)) d))))
    (fun d => C (ix4 0 (y 1) (y 2) d)) (fun d => A (ix4 0 (y 1) (y 2) d)) (fun d => B (ix4 0 (y 1) (y 2) d)) (placeOf (y 3))

section pieces

variable (X : Vec Ideal S256x2048 .f32) (G : Vec Ideal S1x2048 .f32) (W : Vec Ideal S2048x3072 .bf16) (C A B : Vec Ideal S1x4x64x128 .f32)

/-- The place of a residue's position. -/
def place (r : Fin 4) (s : Fin 64) : Fin 256 := ⟨r.val * 64 + s.val, by omega⟩

theorem residue_place (r : Fin 4) (s : Fin 64) : residue (place r s) = r := Fin.ext (by show (r.val * 64 + s.val) / 64 = r.val; omega)
theorem among_place (r : Fin 4) (s : Fin 64) : among (place r s) = s := Fin.ext (by show (r.val * 64 + s.val) % 64 = s.val; omega)
theorem source_place (r : Fin 4) (s : Fin 64) : source (place r s) = at4 r s :=
  Fin.ext (by show (r.val * 64 + s.val) % 64 * 4 + (r.val * 64 + s.val) / 64 = s.val * 4 + r.val; omega)

/-- A residue's rows of a head of the queries: one of the first eight. -/
theorem q_piece (off r : ℕ) (h : S256x3072.Slices ![0, off] S256x128) (hs : S256x128.Slices ![r, 0] S64x128) (y : S1x4x64x3072.Idx)
    (x : S1x1x64x128.Idx) (h8 : off % 128 = 0) (hoff : off < 1024) (h1 : r = (y 1).val * 64) (h2 : (y 2).val = (x 2).val)
    (h3 : (y 3).val = off + (x 3).val) :
    turned (extractStridedSlice S256x128 ![0, off] (k0_pay99 (rows X G) W) h) (k0_pay104 (k0_pay100 C) (k0_pay103 (F := Ideal)))
      (k0_pay105 (k0_pay101 A)) (k0_pay106 (k0_pay102 B)) r hs x = block X G W C A B y := by
  obtain ⟨z, z', a, b, rfl⟩ : ∃ (z : Fin 1) (z' : Fin 1) (a : Fin 64) (b : Fin 128), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = off + b.val := h3
  have ha : y 2 = a := Fin.ext h2
  obtain ⟨q, hq⟩ : ∃ q : Fin 4, y 1 = q := ⟨y 1, rfl⟩
  have hE := head_off off (y 3) b h8 h3'
  rw [turned_at _ _ _ _ r hs a b (place q a) (by rw [h1, hq]; rfl), block, entry_q off (y 3) b h8 h3' hoff, ha, hq]
  simp only [cut_at _ off h _ _ _ hE, acc_at, q_cos, q_sa, q_sb, residue_place, among_place, source_place]

/-- A residue's rows of a head of the keys: one of the next eight. -/
theorem k_piece (off r : ℕ) (h : S256x3072.Slices ![0, off] S256x128) (hs : S256x128.Slices ![r, 0] S64x128) (y : S1x4x64x3072.Idx)
    (x : S1x1x64x128.Idx) (h8 : off % 128 = 0) (hlo : 1024 ≤ off) (hhi : off < 2048) (h1 : r = (y 1).val * 64)
    (h2 : (y 2).val = (x 2).val) (h3 : (y 3).val = off + (x 3).val) :
    turned (extractStridedSlice S256x128 ![0, off] (k0_pay99 (rows X G) W) h) (k0_pay155 (k0_pay100 C)) (k0_pay156 (k0_pay101 A))
      (k0_pay157 (k0_pay102 B)) r hs x = block X G W C A B y := by
  obtain ⟨z, z', a, b, rfl⟩ : ∃ (z : Fin 1) (z' : Fin 1) (a : Fin 64) (b : Fin 128), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = off + b.val := h3
  have ha : y 2 = a := Fin.ext h2
  obtain ⟨q, hq⟩ : ∃ q : Fin 4, y 1 = q := ⟨y 1, rfl⟩
  have hE := head_off off (y 3) b h8 h3'
  rw [turned_at _ _ _ _ r hs a b (place q a) (by rw [h1, hq]; rfl), block, entry_k off (y 3) b h8 h3' hlo hhi, ha, hq]
  simp only [cut_at _ off h _ _ _ hE, acc_at, k_cos, k_sa, k_sb, residue_place, among_place, source_place]

/-- The rows of one residue of the last third. -/
def last (acc : FVec Ideal S256x3072 .f32) (r : ℕ) (h : S256x1024.Slices ![r, 0] S64x1024) : FVec Ideal S1x1x64x1024 .bf16 :=
  shapeCast S1x1x64x1024 (truncf .bf16 (extractStridedSlice S64x1024 ![r, 0]
    (extractStridedSlice S256x1024 ![0, 2048] acc slices_S256x3072_o0_2048_S256x1024) h) bitsLt_bf16_f32) shapeCasts_S64x1024_S1x1x64x1024

theorem last_at (acc : FVec Ideal S256x3072 .f32) (r : ℕ) (h : S256x1024.Slices ![r, 0] S64x1024) (a : Fin 64) (b : Fin 1024) (p : Fin 256)
    (hp : p.val = r + a.val) : last acc r h (ix4 0 0 a b) = acc (ix2 p (⟨2048 + b.val, by omega⟩ : Fin 3072)) := by
  obtain ⟨p, hlt⟩ := p
  obtain rfl : p = r + a.val := hp
  pointwise [last]

/-- The values: the last third of a row. -/
theorem v_piece (r : ℕ) (hs : S256x1024.Slices ![r, 0] S64x1024) (y : S1x4x64x3072.Idx) (x : S1x1x64x1024.Idx) (h1 : r = (y 1).val * 64)
    (h2 : (y 2).val = (x 2).val) (h3 : (y 3).val = 2048 + (x 3).val) : last (k0_pay99 (rows X G) W) r hs x = block X G W C A B y := by
  obtain ⟨z, z', a, b, rfl⟩ : ∃ (z : Fin 1) (z' : Fin 1) (a : Fin 64) (b : Fin 1024), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = 2048 + b.val := h3
  have ha : y 2 = a := Fin.ext h2
  obtain ⟨q, hq⟩ : ∃ q : Fin 4, y 1 = q := ⟨y 1, rfl⟩
  rw [last_at _ r hs a b (place q a) (by rw [h1, hq]; rfl), acc_at, source_place, block, entry_v (y 3) b h3' (fun n => Rows.proj _ _ (fun k => W (ix2 k n))), ha, hq]

end pieces

/-! ## The weights, stored row block by row block -/

theorem off1_eq (k : Fin k0_t1_loop.trips) : k0_off1 k = ![0, k.val * 128, 0] :=
  (by decide +kernel : ∀ k : Fin k0_t1_loop.trips, k0_off1 k = ![0, k.val * 128, 0]) k
theorem off2_eq (k : Fin k0_t1_loop.trips) : k0_off2 k = ![k.val * 128, 0] :=
  (by decide +kernel : ∀ k : Fin k0_t1_loop.trips, k0_off2 k = ![k.val * 128, 0]) k

/-- One trip's stored rows are those rows of the weights. -/
theorem row_at {arg4 : Memref sig .tc .vmem S1x2048x3072 .f32} (harg4 : arg4.IsWhole) (X : Vec Ideal S1x2048x3072 .f32)
    (n : Fin k0_t1_loop.trips) (h h') (k : Fin 128) (j : Fin 3072) :
    k0_pay3 (View.readAt (Elt Ideal) arg4.view (Rect.unit (s := S1x2048x3072) (k0_off1 n) S1x128x3072.size h).toLoadRect (harg4.unread X)) (ix2 k j)
      = weights X ((Rect.unit (s := S2048x3072) (k0_off2 n) S128x3072.size h').emb (ix2 k j)) := by
  rw [View.readAt_eq_ld, harg4.read_unread, pay3_at]
  refine View.ld_unit_apply_of X _ _ h _ _ fun d => ?_
  have e1 := off1_eq n
  have e2 := off2_eq n
  fin_cases d
  · show 0 = k0_off1 n 0 + 0
    rw [e1]; rfl
  · show k0_off2 n 0 + 1 * k.val = k0_off1 n 1 + k.val
    rw [e1, e2, Nat.one_mul]; rfl
  · show k0_off2 n 1 + 1 * j.val = k0_off1 n 2 + j.val
    rw [e1, e2, Nat.one_mul]; rfl

section loop

variable (𝒱 : Variants) (c : Dev nD) (bd : Option 𝒱.V) (i : grid0.Coords) (arg2 : Memref sig .tc .vmem S256x2048 .f32) (harg2 : arg2.IsWhole)
    (arg3 : Memref sig .tc .vmem S1x2048 .f32) (harg3 : arg3.IsWhole) (arg4 : Memref sig .tc .vmem S1x2048x3072 .f32) (harg4 : arg4.IsWhole)
    (arg5 : Memref sig .tc .vmem S1x4x64x128 .f32) (harg5 : arg5.IsWhole) (arg6 : Memref sig .tc .vmem S1x4x64x128 .f32) (harg6 : arg6.IsWhole)
    (arg7 : Memref sig .tc .vmem S1x4x64x128 .f32) (harg7 : arg7.IsWhole) (arg8 : Memref sig .tc .vmem S1x4x64x3072 .bf16) (harg8 : arg8.IsWhole)
    (arg9 : Memref sig .tc .vmem S2048x3072 .bf16) (harg9 : arg9.IsWhole) (arg10 : Memref sig .tc .vmem S256x2048 .bf16) (harg10 : arg10.IsWhole)
    (arg11 : Memref sig .tc .vmem S16x256x128 .f32) (harg11 : arg11.IsWhole)
    (h1 : k0_cond1 i = 1#1) (X : Vec Ideal S1x2048x3072 .f32)

/-- Every piece that the loop stores is that part of the weights. -/
theorem pieces (n : ℕ) :
    ∀ p ∈ pb_k0_t1 𝒱 c bd i arg2 harg2 arg3 harg3 arg4 harg4 arg5 harg5 arg6 harg6 arg7 harg7 arg8 harg8 arg9 harg9 arg10 harg10 arg11 harg11 h1 (harg4.unread X) n,
      ∀ x, p.2 x = weights X (p.1.emb x) := by
  induction n with
  | zero => intro p hp; cases hp
  | succ n ih =>
    intro p hp
    rw [pb_k0_t1.eq_2] at hp
    unfold pb_k0_t1Step at hp
    split at hp
    · rcases List.mem_append.1 hp with hp | hp
      · unfold tripL_k0_t1 trip_k0_t1 at hp
        obtain rfl := List.mem_singleton.1 hp
        intro x
        obtain ⟨k, j, rfl⟩ : ∃ (k : Fin 128) (j : Fin 3072), x = ix2 k j := ⟨x 0, x 1, by funext k; fin_cases k <;> rfl⟩
        exact row_at harg4 X ⟨n, by assumption⟩ (k0_off1_inb i _ h1) (k0_off2_inb i _ h1) k j
      · exact ih p hp
    · exact ih p hp

/-- What the loop leaves: the weights. -/
theorem loop_read :
    View.canon (pb_k0_t1 𝒱 c bd i arg2 harg2 arg3 harg3 arg4 harg4 arg5 harg5 arg6 harg6 arg7 harg7 arg8 harg8 arg9 harg9 arg10 harg10 arg11 harg11 h1 (harg4.unread X)
      (Scf.trips k0_t1_loop.lb k0_t1_loop.ub k0_t1_loop.st)) = weights X :=
  funext fun y => View.canon_apply_of_pieces (weights X) _ (pieces 𝒱 c bd i arg2 harg2 arg3 harg3 arg4 harg4 arg5 harg5 arg6 harg6 arg7 harg7 arg8 harg8 arg9 harg9 arg10 harg10 arg11 harg11 h1 X _) y
    (View.cover_of_tiledL (s := S2048x3072) _ S128x3072.size (by sl_kernel_rfl) y)

theorem loop_load (v : View sig .tc .vmem S2048x3072 .bf16) (r : Rect S2048x3072) :
    v.readCov (pb_k0_t1 𝒱 c bd i arg2 harg2 arg3 harg3 arg4 harg4 arg5 harg5 arg6 harg6 arg7 harg7 arg8 harg8 arg9 harg9 arg10 harg10 arg11 harg11 h1 (harg4.unread X)
      (Scf.trips k0_t1_loop.lb k0_t1_loop.ub k0_t1_loop.st)) r.toLoadRect = View.ld (weights X) r :=
  (View.readCov_eq_canon' v _ _).trans (by rw [loop_read])

end loop

/-! ## What the points leave -/

/-- The weights that the first point stores. -/
abbrev stored (c : Dev nD) (t : Fin cfg0.N) : Vec Ideal S2048x3072 .bf16 := weights (iblk m c 2 t)

theorem held (c : Dev nD) (t : Fin cfg0.N) :
    (outsAt0 m c t.val t.isLt).2 = stored m c ⟨32 * (t.val / 32), Pipeline.run_start_lt t⟩ :=
  Pipeline.eq_of_write_hold (fun n h => (outsAt0 m c n h).2) 32 (stored m c)
    (fun t h0 => by
      rw [outsAt0_A m c t h0]; frame_open
      exact (View.read_writes_junk_eq_canon VS0_0 _).trans (loop_read ..))
    (fun t h0 => by rw [outsAt0_B m c t h0]; rfl) t

set_option maxHeartbeats 2000000 in
theorem out_A (c : Dev nD) (t : Fin cfg0.N) (h0 : t.val % 32 = 0) (y : S1x4x64x3072.Idx) :
    (outsAt0 m c t.val t.isLt).1 y
      = block (iblk m c 0 t) (iblk m c 1 t) (stored m c t) (iblk m c 3 t) (iblk m c 4 t) (iblk m c 5 t) y := by
  rw [outsAt0_A m c t h0]; frame_open
  generalize hL : pb_k0_t1 (F := Ideal) _ _ _ _ _ _ _ _ _ _ _ _ _ _ _ _ _ _ _ _ _ _ _ _ _ _ _ = L
  have hW : ∀ r : Rect S2048x3072, scM0_0.view.readCov L r.toLoadRect = View.ld (stored m c t) r := fun r => by
    rw [← hL]; exact loop_load ..
  clear hL
  simp only [hW]
  frame_out
  simp only [read_unread_whole, View.readCov_eq_canon']
  generalize hP : View.canon (Val := Elt Ideal) (s := S16x256x128) _ = P
  obtain rfl : P = planes (iblk m c 0 t) (iblk m c 1 t) := by
    rw [← hP]
    funext y
    canon_tiles x h
    iterate 16 · exact plane_piece (scaled_at _ _) _ (by decide) shapeCasts_S256x128_S1x256x128 y x (by omega) (by omega) (by omega)
  clear hP
  generalize hV : View.canon (Val := Elt Ideal) (s := S256x2048) _ = V
  obtain rfl : V = rows (iblk m c 0 t) (iblk m c 1 t) := by
    rw [← hV]
    funext y
    canon_tiles x h
    iterate 64 · exact row_piece _ _ _ _ _ y x (by decide) (by decide) (by omega) (by omega)
  clear hV
  simp only [rows_whole]
  canon_tiles x h using View.cover_of_tiledBy (s := S1x4x64x3072) _ ![1, 1, 64, 128] (by sl_kernel_rfl) y
  iterate 4 · exact v_piece _ _ _ _ _ _ _ (by decide) y x (by omega) (by omega) (by omega)
  iterate 32 · exact k_piece _ _ _ _ _ _ _ _ (by decide) (by decide) y x (by omega) (by omega) (by omega) (by omega) (by omega) (by omega)
  iterate 32 · exact q_piece _ _ _ _ _ _ _ _ (by decide) (by decide) y x (by omega) (by omega) (by omega) (by omega) (by omega)

set_option maxHeartbeats 2000000 in
theorem out_B (c : Dev nD) (t : Fin cfg0.N) (h0 : ¬t.val % 32 = 0) (y : S1x4x64x3072.Idx) :
    (outsAt0 m c t.val t.isLt).1 y
      = block (iblk m c 0 t) (iblk m c 1 t) (outsAt0 m c (t.val - 1) (by omega)).2 (iblk m c 3 t) (iblk m c 4 t) (iblk m c 5 t) y := by
  rw [outsAt0_B m c t h0]
  frame_out
  simp only [read_unread_whole, View.readCov_eq_canon']
  generalize hP : View.canon (Val := Elt Ideal) (s := S16x256x128) _ = P
  obtain rfl : P = planes (iblk m c 0 t) (iblk m c 1 t) := by
    rw [← hP]
    funext y
    canon_tiles x h
    iterate 16 · exact plane_piece (scaled_at _ _) _ (by decide) shapeCasts_S256x128_S1x256x128 y x (by omega) (by omega) (by omega)
  clear hP
  generalize hV : View.canon (Val := Elt Ideal) (s := S256x2048) _ = V
  obtain rfl : V = rows (iblk m c 0 t) (iblk m c 1 t) := by
    rw [← hV]
    funext y
    canon_tiles x h
    iterate 64 · exact row_piece _ _ _ _ _ y x (by decide) (by decide) (by omega) (by omega)
  clear hV
  simp only [rows_whole]
  canon_tiles x h using View.cover_of_tiledBy (s := S1x4x64x3072) _ ![1, 1, 64, 128] (by sl_kernel_rfl) y
  iterate 4 · exact v_piece _ _ _ _ _ _ _ (by decide) y x (by omega) (by omega) (by omega)
  iterate 32 · exact k_piece _ _ _ _ _ _ _ _ (by decide) (by decide) y x (by omega) (by omega) (by omega) (by omega) (by omega) (by omega)
  iterate 32 · exact q_piece _ _ _ _ _ _ _ _ (by decide) (by decide) y x (by omega) (by omega) (by omega) (by omega) (by omega)

/-! ## The blocks at coordinates -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 1] := (by decide +kernel : ∀ t : Fin grid0.N, _)
theorem idx3 : ∀ t : Fin cfg0.N, win0_3.index t = ![t.val / 8, 0, t.val % 8, 0] := (by decide +kernel : ∀ t : Fin grid0.N, _)
theorem idx4 : ∀ t : Fin cfg0.N, win0_4.index t = ![t.val / 8, 0, t.val % 8, 0] := (by decide +kernel : ∀ t : Fin grid0.N, _)
theorem idx5 : ∀ t : Fin cfg0.N, win0_5.index t = ![t.val / 8, 0, t.val % 8, 0] := (by decide +kernel : ∀ t : Fin grid0.N, _)
theorem idx6 : ∀ t : Fin cfg0.N, win0_6.index t = ![t.val / 8, 0, t.val % 8, 0] := (by decide +kernel : ∀ t : Fin grid0.N, _)

/-- The batch that a point works on. -/
abbrev batchOf (t : Fin cfg0.N) : Fin 4 := ⟨t.val / 8, by have := lt_of_lt_of_eq t.isLt N_0; omega⟩

/-- A point's position among those of a residue. -/
abbrev rowOf (t : Fin cfg0.N) (a : Fin 64) : Fin 512 := ⟨t.val % 8 * 64 + a.val, by omega⟩

theorem rows_at (c : Dev nD) (t : Fin cfg0.N) (r : Fin 4) (a : Fin 64) (k : Fin 2048) :
    iblk m c 0 t (ix2 (at4 r a) k) = m (c.tc.loc main_arg0) (ix2 (⟨(batchOf t).val * 2048 + (rowOf t a).val * 4 + r.val, by omega⟩ : Fin 8192) k) := by
  have hN : t.val < 32 := lt_of_lt_of_eq t.isLt N_0
  unfold at4
  blk_point [iblk, V, idx0 t]

theorem gain_at (c : Dev nD) (t : Fin cfg0.N) (k : Fin 2048) :
    iblk m c 1 t (ix2 0 k) = m (c.tc.loc main_arg1) (ix1 k) := by
  blk_point [iblk, V, idx1 t]

theorem stored_at (c : Dev nD) (t : Fin cfg0.N) (k : Fin 2048) (n : Fin 3072) :
    stored m c t (ix2 k n) = m (c.tc.loc main_arg2) (ix3 0 k (⟨3072 + n.val, by omega⟩ : Fin 9216)) := by
  show iblk m c 2 t (ix3 0 k n) = _
  blk_point [iblk, V, idx2 t]

theorem cos_at (c : Dev nD) (t : Fin cfg0.N) (r : Fin 4) (a : Fin 64) (d : Fin 128) :
    iblk m c 3 t (ix4 0 r a d) = m (c.tc.loc main_arg3) (ix4 (batchOf t) r (rowOf t a) d) := by
  blk_point [iblk, V, idx3 t]

theorem sa_at (c : Dev nD) (t : Fin cfg0.N) (r : Fin 4) (a : Fin 64) (d : Fin 128) :
    iblk m c 4 t (ix4 0 r a d) = m (c.tc.loc main_arg4) (ix4 (batchOf t) r (rowOf t a) d) := by
  blk_point [iblk, V, idx4 t]

theorem sb_at (c : Dev nD) (t : Fin cfg0.N) (r : Fin 4) (a : Fin 64) (d : Fin 128) :
    iblk m c 5 t (ix4 0 r a d) = m (c.tc.loc main_arg5) (ix4 (batchOf t) r (rowOf t a) d) := by
  blk_point [iblk, V, idx5 t]

/-! ## The result array -/

/-- A row of the projection, one of its heads. -/
def head (c : Dev nD) (b : Fin 4) (r : Fin 4) (s : Fin 512) (E : Fin 24) (d : Fin 128) : EReal :=
  Rows.proj (fun k => m (c.tc.loc main_arg0) (ix2 (⟨b.val * 2048 + s.val * 4 + r.val, by omega⟩ : Fin 8192) k)) (fun k => m (c.tc.loc main_arg1) (ix1 k))
    (fun k => m (c.tc.loc main_arg2) (ix3 0 k (⟨3072 + (lane E d).val, by omega⟩ : Fin 9216)))

/-- The array the kernel leaves, entry by entry. -/
def result (c : Dev nD) : Buf (Elt Ideal) ((c : Thread nD τ).loc main_v1) := fun i =>
  entry ((i 3).val / 1024) (head m c (i 0) (i 1) (i 2) (headOf (i 3))) (fun d => m (c.tc.loc main_arg3) (ix4 (i 0) (i 1) (i 2) d))
    (fun d => m (c.tc.loc main_arg4) (ix4 (i 0) (i 1) (i 2) d)) (fun d => m (c.tc.loc main_arg5) (ix4 (i 0) (i 1) (i 2) d)) (placeOf (i 3))

theorem block_at (c : Dev nD) (t : Fin cfg0.N) (W : Vec Ideal S2048x3072 .bf16)
    (hW : ∀ k n, W (ix2 k n) = m (c.tc.loc main_arg2) (ix3 0 k (⟨3072 + n.val, by omega⟩ : Fin 9216))) (r : Fin 4) (a : Fin 64) (j : Fin 3072) :
    block (iblk m c 0 t) (iblk m c 1 t) W (iblk m c 3 t) (iblk m c 4 t) (iblk m c 5 t) (ix4 0 r a j)
      = result m c (ix4 (batchOf t) r (rowOf t a) j) := by
  show entry (j.val / 1024) (fun d => Rows.proj (fun k => iblk m c 0 t (ix2 (at4 r a) k)) (fun k => iblk m c 1 t (ix2 0 k)) (fun k => W (ix2 k (lane (headOf j) d))))
    (fun d => iblk m c 3 t (ix4 0 r a d)) (fun d => iblk m c 4 t (ix4 0 r a d)) (fun d => iblk m c 5 t (ix4 0 r a d)) (placeOf j) = _
  have e0 : (fun k => iblk m c 0 t (ix2 (at4 r a) k)) = _ := funext fun k => rows_at m c t r a k
  have e1 : (fun k => iblk m c 1 t (ix2 0 k)) = _ := funext fun k => gain_at m c t k
  have e2 : (fun d : Fin 128 => fun k => W (ix2 k (lane (headOf j) d))) = _ := funext fun d => funext fun k => hW k (lane (headOf j) d)
  have e3 : (fun d => iblk m c 3 t (ix4 0 r a d)) = _ := funext fun d => cos_at m c t r a d
  have e4 : (fun d => iblk m c 4 t (ix4 0 r a d)) = _ := funext fun d => sa_at m c t r a d
  have e5 : (fun d => iblk m c 5 t (ix4 0 r a d)) = _ := funext fun d => sb_at m c t r a d
  rw [e0, e1, e3, e4, e5]
  have e6 : (fun d => Rows.proj (fun k => m (c.tc.loc main_arg0) (ix2 (⟨(batchOf t).val * 2048 + (rowOf t a).val * 4 + r.val, by omega⟩ : Fin 8192) k))
      (fun k => m (c.tc.loc main_arg1) (ix1 k)) (fun k => W (ix2 k (lane (headOf j) d)))) = head m c (batchOf t) r (rowOf t a) (headOf j) :=
    funext fun d => congrArg (Rows.proj _ _) (congrFun e2 d)
  exact congrArg (fun x => entry (j.val / 1024) x _ _ _ (placeOf j)) e6

theorem out_at (c : Dev nD) (t : Fin cfg0.N) (r : Fin 4) (a : Fin 64) (j : Fin 3072) :
    (outsAt0 m c t.val t.isLt).1 (ix4 0 r a j) = result m c (ix4 (batchOf t) r (rowOf t a) j) := by
  by_cases h0 : t.val % 32 = 0
  · exact (out_A m c t h0 _).trans (block_at m c t _ (stored_at m c t) r a j)
  · exact (out_B m c t h0 _).trans (block_at m c t _ (fun k n => by
      rw [held m c ⟨t.val - 1, by omega⟩]; exact stored_at m c _ k n) r a j)

theorem final (c : Dev nD) : (dats m 0 c).arrAt 6 cfg0.N = result m c := by
  refine (dats m 0 c).arrAt_eq_of_covers 6 _ (by decide +kernel) fun t hf y => ?_
  have hN : t.val < 32 := lt_of_lt_of_eq t.isLt N_0
  obtain ⟨z, r, a, b, rfl⟩ : ∃ (z : Fin 1) (r : Fin 4) (a : Fin 64) (b : Fin 3072), y = ix4 z r a b :=
    ⟨y 0, y 1, y 2, y 3, by funext k; fin_cases k <;> rfl⟩
  obtain rfl : z = 0 := Subsingleton.elim _ _
  blk_simp
  rw [after0_6]
  have he : (win0_6.blk t).view.emb (ix4 0 r a b) = ix4 (batchOf t) r (rowOf t a) b := by
    blk_ext [idx6 t]
  rw [he]
  exact out_at m c t r a b

/-- The run of the kernel, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨((h.2 c).1 6).trans (final m c), h.1 c⟩) (θ_run_and (unchanged m ρ) (run_main m ρ))

end Cert.Kernel6Ideal.Value
-- ==== Proof.AttIn4.lean ====
/-
  The attention's input projection kernel for every fourth position and the host program compute the same array.
-/
module

public import proofs.«01_k».proof.Defs
public import proofs.«01_k».proof.Proof.AttInKernel4
public import proofs.«01_k».proof.Proof.Gen.Kernel6Ideal
public import proofs.«01_k».proof.Proof.Gen.Reference6Ideal

@[expose] public section

noncomputable section

open Idealize.ShloMosaic Idealize.ShloMosaic.TcCoe Idealize.SL.Sem

namespace Cert.AttIn4

/-- The claim: from equal arguments both programs leave the same result, their arguments unchanged. -/
theorem algebraic : Cert.algebraic_Kernel6Ideal_Reference6Ideal (hKernel6Ideal := Cert.Kernel6Ideal.Gen.facts)
    (hReference6Ideal := Cert.Reference6Ideal.Gen.facts) := by
  intro m g m' g' _ hm
  refine ⟨Cert.Kernel6Ideal.Value.result m, Cert.Kernel6Ideal.Value.run_result m g, ?_⟩
  refine (θ_run _ _ _).mono (fun _ h c => ⟨(h c).1.trans ?_, (h c).2⟩) (Cert.Reference6Ideal.Value.run_result m' g')
  obtain ⟨h0, h1, h2, h3, h4, h5⟩ := hm c
  unfold Cert.Reference6Ideal.Value.result Cert.Reference6Ideal.Value.head
  rw [h0, h1, h2, h3, h4, h5]
  rfl

end Cert.AttIn4
-- ==== Proof.AttInSpec16.lean ====
/-
  The attention's input projection for every sixteenth position, at an entry: the rows are those of the undilated call, laid
  out by their position's residue. The host program computes this entry by entry.
-/
module

public import proofs.«01_k».proof.Proof.AttInSpec
public import proofs.«01_k».proof.Proof.Gen.Reference7Ideal.Run

@[expose] public section

set_option maxRecDepth 16384

noncomputable section

open Idealize.ShloMosaic Idealize.ShloMosaic.TcCoe Idealize.SL.Sem

namespace Cert.Reference7Ideal.Value

open Cert.Reference7Ideal Cert.Reference7Ideal.Gen Cert.AttIn

variable (m : (ℓ : Loc nD τ sig) → Buf (Elt Ideal) ℓ) (c : Dev nD)

/-- The projection of every row, cut into parts and heads. -/
def parts : FVec Ideal S4x16x128x3x8x128 .f32 :=
  transpose S4x16x128x3x8x128 [0, 2, 1, 3, 4, 5] (shapeCast _ (Host.dotGeneral (φ₁ := .f32) (φ₂ := .f32) dot_S8192x2048_S2048x3072_S8192x3072_1_0_0_1_n_n none (mulf (mulf (m ((c.tc : Thread nD τ).loc main_arg0)) (broadcastInDim S8192x2048 ![0, 1] bcast_S8192x1_S8192x2048_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (m ((c.tc : Thread nD τ).loc main_arg1))))) (shapeCast _ (extractStridedSlice S1x2048x3072 ![0, 0, 6144] (m ((c.tc : Thread nD τ).loc main_arg2) : FVec Ideal S2x2048x9216 .f32) slices_S2x2048x9216_S1x2048x3072_0_0_6144) shapeCasts_S1x2048x3072_S2048x3072)) shapeCasts_S8192x3072_S4x128x16x3x8x128) transposes_S4x128x16x3x8x128_S4x16x128x3x8x128_0_2_1_3_4_5

/-- One part of them. -/
def part (P : FVec Ideal S4x16x128x3x8x128 .f32) (off : Fin 6 → ℕ) (h : S4x16x128x3x8x128.Slices off S4x16x128x1x8x128) :
    FVec Ideal S4x16x128x8x128 .f32 :=
  shapeCast _ (extractStridedSlice S4x16x128x1x8x128 off P h) shapeCasts_S4x16x128x1x8x128_S4x16x128x8x128

/-- A table, given to every head. -/
def table (T : FVec Ideal S4x16x128x128 .f32) : FVec Ideal S4x16x128x8x128 .f32 :=
  broadcastInDim S4x16x128x8x128 ![0, 1, 2, 3, 4] bcast_S4x16x128x1x128_S4x16x128x8x128_0_1_2_3_4 (broadcastInDim S4x16x128x1x128 ![0, 1, 2, 4] bcast_S4x16x128x128_S4x16x128x1x128_0_1_2_4 T)

/-- A part turned by the tables. -/
def turned (x : FVec Ideal S4x16x128x8x128 .f32) (C A B : FVec Ideal S4x16x128x128 .f32) : FVec Ideal S4x16x128x8x128 .f32 :=
  addf (addf (mulf x (table C))
    (mulf (concatenate S4x16x128x8x128 4 [⟨S4x16x128x8x16, extractStridedSlice S4x16x128x8x16 ![0, 0, 0, 0, 112] x slices_S4x16x128x8x128_S4x16x128x8x16_0_0_0_0_112⟩,
      ⟨S4x16x128x8x112, extractStridedSlice S4x16x128x8x112 ![0, 0, 0, 0, 0] x slices_S4x16x128x8x128_S4x16x128x8x112_0_0_0_0_0⟩]
      concatenates_S4x16x128x8x16_S4x16x128x8x112_S4x16x128x8x128_d4) (table A)))
    (mulf (concatenate S4x16x128x8x128 4 [⟨S4x16x128x8x112, extractStridedSlice S4x16x128x8x112 ![0, 0, 0, 0, 16] x slices_S4x16x128x8x128_S4x16x128x8x112_0_0_0_0_16⟩,
      ⟨S4x16x128x8x16, extractStridedSlice S4x16x128x8x16 ![0, 0, 0, 0, 0] x slices_S4x16x128x8x128_S4x16x128x8x16_0_0_0_0_0⟩]
      concatenates_S4x16x128x8x112_S4x16x128x8x16_S4x16x128x8x128_d4) (table B))

/-- The queries scaled. -/
def scaled (x : FVec Ideal S4x16x128x8x128 .f32) : FVec Ideal S4x16x128x8x128 .f32 :=
  mulf x (broadcastInDim S4x16x128x8x128 ![] bcast_S_S4x16x128x8x128 (constant S_ .f32 0x3DB504F3#32))

/-- The three parts side by side. -/
def joined (q k v : FVec Ideal S4x16x128x8x128 .f32) : FVec Ideal S4x16x128x3x8x128 .f32 :=
  concatenate S4x16x128x3x8x128 3
    [⟨S4x16x128x1x8x128, broadcastInDim S4x16x128x1x8x128 ![0, 1, 2, 4, 5] bcast_S4x16x128x8x128_S4x16x128x1x8x128_0_1_2_4_5 q⟩,
      ⟨S4x16x128x1x8x128, broadcastInDim S4x16x128x1x8x128 ![0, 1, 2, 4, 5] bcast_S4x16x128x8x128_S4x16x128x1x8x128_0_1_2_4_5 k⟩,
      ⟨S4x16x128x1x8x128, broadcastInDim S4x16x128x1x8x128 ![0, 1, 2, 4, 5] bcast_S4x16x128x8x128_S4x16x128x1x8x128_0_1_2_4_5 v⟩]
    concatenates_S4x16x128x1x8x128_S4x16x128x1x8x128_S4x16x128x1x8x128_S4x16x128x3x8x128_d3

/-- The heads of a row laid out in a line. -/
def flat (x : FVec Ideal S4x16x128x3x8x128 .f32) : FVec Ideal S4x16x128x3072 .bf16 :=
  truncf .bf16 (shapeCast _ x shapeCasts_S4x16x128x3x8x128_S4x16x128x3072) bitsLt_bf16_f32

theorem res_eq : res_main_v57 m c = flat (joined
    (scaled (turned (part (parts m c) ![0, 0, 0, 0, 0, 0] slices_S4x16x128x3x8x128_S4x16x128x1x8x128_0_0_0_0_0_0)
      (m (c.tc.loc main_arg3)) (m (c.tc.loc main_arg4)) (m (c.tc.loc main_arg5))))
    (turned (part (parts m c) ![0, 0, 0, 1, 0, 0] slices_S4x16x128x3x8x128_S4x16x128x1x8x128_0_0_0_1_0_0)
      (m (c.tc.loc main_arg3)) (m (c.tc.loc main_arg4)) (m (c.tc.loc main_arg5)))
    (part (parts m c) ![0, 0, 0, 2, 0, 0] slices_S4x16x128x3x8x128_S4x16x128x1x8x128_0_0_0_2_0_0)) := rfl

/-- A row of the projection, one of its heads. -/
def head (b : Fin 4) (r : Fin 16) (s : Fin 128) (E : Fin 24) (d : Fin 128) : EReal :=
  Rows.proj (fun k => m (c.tc.loc main_arg0) (ix2 (⟨b.val * 2048 + s.val * 16 + r.val, by omega⟩ : Fin 8192) k)) (fun k => m (c.tc.loc main_arg1) (ix1 k))
    (fun k => m (c.tc.loc main_arg2) (ix3 0 k (⟨6144 + (lane E d).val, by omega⟩ : Fin 9216)))

theorem parts_at (b : Fin 4) (r : Fin 16) (s : Fin 128) (p : Fin 3) (e : Fin 8) (d : Fin 128) (E : Fin 24) (hE : E.val = p.val * 8 + e.val) :
    parts m c (ix6 b r s p e d) = head m c b r s E d := by
  have hj : (⟨6144 + (p.val * 1024 + e.val * 128 + d.val), by omega⟩ : Fin 9216) = ⟨6144 + (lane E d).val, by omega⟩ :=
    Fin.ext (by show 6144 + (p.val * 1024 + e.val * 128 + d.val) = 6144 + (E.val * 128 + d.val); omega)
  pointwise [parts]
  rw [head, ← hj]
  rfl

theorem part_at0 (P : FVec Ideal S4x16x128x3x8x128 .f32) (h) (b : Fin 4) (r : Fin 16) (s : Fin 128) (e : Fin 8) (d : Fin 128) :
    part P ![0, 0, 0, 0, 0, 0] h (ix5 b r s e d) = P (ix6 b r s 0 e d) := by
  pointwise [part]

theorem part_at1 (P : FVec Ideal S4x16x128x3x8x128 .f32) (h) (b : Fin 4) (r : Fin 16) (s : Fin 128) (e : Fin 8) (d : Fin 128) :
    part P ![0, 0, 0, 1, 0, 0] h (ix5 b r s e d) = P (ix6 b r s 1 e d) := by
  pointwise [part]

theorem part_at2 (P : FVec Ideal S4x16x128x3x8x128 .f32) (h) (b : Fin 4) (r : Fin 16) (s : Fin 128) (e : Fin 8) (d : Fin 128) :
    part P ![0, 0, 0, 2, 0, 0] h (ix5 b r s e d) = P (ix6 b r s 2 e d) := by
  pointwise [part]

theorem turned_at (x : FVec Ideal S4x16x128x8x128 .f32) (C A B : FVec Ideal S4x16x128x128 .f32) (b : Fin 4) (r : Fin 16) (s : Fin 128) (e : Fin 8) (d : Fin 128) :
    turned x C A B (ix5 b r s e d) = turn (fun d => x (ix5 b r s e d)) (fun d => C (ix4 b r s d)) (fun d => A (ix4 b r s d))
      (fun d => B (ix4 b r s d)) d := by
  pointwise [turned, table]
  have e1 := back_ends (fun d => x (ix5 b r s e d)) d
  have e2 := fwd_ends (fun d => x (ix5 b r s e d)) d
  rw [e1, e2]
  rfl

theorem scaled_at (x : FVec Ideal S4x16x128x8x128 .f32) (b : Fin 4) (r : Fin 16) (s : Fin 128) (e : Fin 8) (d : Fin 128) :
    scaled x (ix5 b r s e d) = x (ix5 b r s e d) * scale := by
  pointwise [scaled]

theorem joined_at0 (q k v : FVec Ideal S4x16x128x8x128 .f32) (b : Fin 4) (r : Fin 16) (s : Fin 128) (e : Fin 8) (d : Fin 128) :
    joined q k v (ix6 b r s 0 e d) = q (ix5 b r s e d) := by
  pointwise [joined]

theorem joined_at1 (q k v : FVec Ideal S4x16x128x8x128 .f32) (b : Fin 4) (r : Fin 16) (s : Fin 128) (e : Fin 8) (d : Fin 128) :
    joined q k v (ix6 b r s 1 e d) = k (ix5 b r s e d) := by
  pointwise [joined]

theorem joined_at2 (q k v : FVec Ideal S4x16x128x8x128 .f32) (b : Fin 4) (r : Fin 16) (s : Fin 128) (e : Fin 8) (d : Fin 128) :
    joined q k v (ix6 b r s 2 e d) = v (ix5 b r s e d) := by
  pointwise [joined]

theorem flat_at (x : FVec Ideal S4x16x128x3x8x128 .f32) (b : Fin 4) (r : Fin 16) (s : Fin 128) (p : Fin 3) (e : Fin 8) (d : Fin 128) (j : Fin 3072)
    (hj : j.val = p.val * 1024 + e.val * 128 + d.val) :
    flat x (ix4 b r s j) = x (ix6 b r s p e d) := by
  have h1 : (⟨j.val / 1024, by omega⟩ : Fin 3) = p := Fin.ext (by show j.val / 1024 = p.val; omega)
  have h2 : (⟨j.val / 128 % 8, by omega⟩ : Fin 8) = e := Fin.ext (by show j.val / 128 % 8 = e.val; omega)
  have h3 : (⟨j.val % 128, by omega⟩ : Fin 128) = d := Fin.ext (by show j.val % 128 = d.val; omega)
  pointwise [flat]
  rw [h1, h2, h3]

/-- The host program's result at an entry. -/
def result : Buf (Elt Ideal) ((c.tc : Thread nD τ).loc main_v57) := fun i =>
  entry ((i 3).val / 1024) (head m c (i 0) (i 1) (i 2) (headOf (i 3))) (fun d => m (c.tc.loc main_arg3) (ix4 (i 0) (i 1) (i 2) d))
    (fun d => m (c.tc.loc main_arg4) (ix4 (i 0) (i 1) (i 2) d)) (fun d => m (c.tc.loc main_arg5) (ix4 (i 0) (i 1) (i 2) d)) (placeOf (i 3))

theorem res_at (b : Fin 4) (r : Fin 16) (s : Fin 128) (j : Fin 3072) : res_main_v57 m c (ix4 b r s j) = result m c (ix4 b r s j) := by
  have hj : j.val = (⟨j.val / 1024, by omega⟩ : Fin 3).val * 1024 + (⟨j.val / 128 % 8, by omega⟩ : Fin 8).val * 128 + (placeOf j).val := by
    show j.val = j.val / 1024 * 1024 + j.val / 128 % 8 * 128 + j.val % 128
    omega
  have hE : (headOf j).val = (⟨j.val / 1024, by omega⟩ : Fin 3).val * 8 + (⟨j.val / 128 % 8, by omega⟩ : Fin 8).val := by
    show j.val / 128 = j.val / 1024 * 8 + j.val / 128 % 8
    omega
  rw [res_eq, flat_at _ b r s _ _ _ j hj]
  show _ = entry (j.val / 1024) (head m c b r s (headOf j)) (fun d => m (c.tc.loc main_arg3) (ix4 b r s d))
    (fun d => m (c.tc.loc main_arg4) (ix4 b r s d)) (fun d => m (c.tc.loc main_arg5) (ix4 b r s d)) (placeOf j)
  generalize he : (⟨j.val / 128 % 8, by omega⟩ : Fin 8) = e at hE ⊢
  generalize hp : (⟨j.val / 1024, by omega⟩ : Fin 3) = p at hE ⊢
  rw [show j.val / 1024 = p.val by rw [← hp]]
  clear he hp hj
  fin_cases p
  · refine (joined_at0 _ _ _ b r s e _).trans ?_
    rw [scaled_at, turned_at]
    simp only [part_at0, parts_at m c b r s 0 e _ (headOf j) hE]
    rfl
  · refine (joined_at1 _ _ _ b r s e _).trans ?_
    rw [turned_at]
    simp only [part_at1, parts_at m c b r s 1 e _ (headOf j) hE]
    rfl
  · refine (joined_at2 _ _ _ b r s e _).trans ?_
    rw [part_at2, parts_at m c b r s 2 e _ (headOf j) hE]
    rfl

/-- The run of the host program, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ⟨(h c).1.trans ?_, (h c).2⟩) (run m ρ)
  funext i
  obtain ⟨b, r, s, j, rfl⟩ : ∃ (b : Fin 4) (r : Fin 16) (s : Fin 128) (j : Fin 3072), i = ix4 b r s j :=
    ⟨i 0, i 1, i 2, i 3, by funext k; fin_cases k <;> rfl⟩
  exact res_at m c b r s j

end Cert.Reference7Ideal.Value
-- ==== Proof.AttInKernel16.lean ====
/-
  The attention's input projection kernel for every sixteenth position: its result array. A point takes 256 rows of one
  batch, scales them, lays them out by their position's residue through planes of 128 lanes, and projects and turns them
  there. The first point stores the weights, 128 rows at a time, and the other points read them.
-/
module

public import proofs.«01_k».proof.Proof.AttInShared
public import proofs.«01_k».proof.Proof.AttInSpec16
public import proofs.«01_k».proof.Proof.Gen.Kernel7Ideal.Frame
public import Idealize.ShloMosaic.Lib.Pipeline.ReadBack
public import Idealize.ShloMosaic.Lib.WordArith.Masks

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen Cert.AttIn

variable (m : (ℓ : Loc nD τ sig) → Buf (Elt Ideal) ℓ)

/-! ## The scaled rows, laid out by residue -/

section rows

variable (X : Vec Ideal S256x2048 .f32) (G : Vec Ideal S1x2048 .f32)

/-- The row of a block that is stored at a place: the rows of one residue after those of another. -/
def source (a : Fin 256) : Fin 256 := ⟨a.val % 16 * 16 + a.val / 16, by omega⟩

/-- The scaled rows, laid out by residue. -/
def rows : Vec Ideal S256x2048 .bf16 := fun y =>
  Rows.rms (fun k => X (ix2 (source (y 0)) k)) (fun k => G (ix2 0 k)) (y 1)

theorem scaled_at (a : Fin 256) (j : Fin 2048) : k0_pay5 X G (ix2 a j) = Rows.rms (fun k => X (ix2 a k)) (fun k => G (ix2 0 k)) j := by
  pointwise [k0_pay5]
  rfl

theorem round_at (V : Vec Ideal S1x16x128 .f32) (a : Fin 16) (d : Fin 128) : k0_pay23 V (ix2 a d) = V (ix3 0 a d) := by
  pointwise [k0_pay23]

/-- A block of the rows laid out by residue: one plane's rows of one residue. -/
theorem row_piece (p r : ℕ) (h) (y : S256x2048.Idx) (x : S16x128.Idx) (hp : p < 16) (hr : r < 16)
    (h0 : (y 0).val = r * 16 + (x 0).val) (h1 : (y 1).val = p * 128 + (x 1).val) :
    k0_pay23 (fun j => planes X G ((⟨![p, r, 0], S1x16x128.size, ![1, 16, 1], h⟩ : LoadRect S16x256x128).idx j)) x = rows X G y := by
  obtain ⟨a, b, rfl⟩ : ∃ (a : Fin 16) (b : Fin 128), x = ix2 a b := ⟨x 0, x 1, by funext k; fin_cases k <;> rfl⟩
  rw [round_at, planes, rows]
  have h0' : (y 0).val = r * 16 + a.val := h0
  have h1' : (y 1).val = p * 128 + b.val := h1
  have e1 : (⟨![p, r, 0], S1x16x128.size, ![1, 16, 1], h⟩ : LoadRect S16x256x128).idx (ix3 0 a b) 1 = source (y 0) :=
    Fin.ext (by show r + 16 * a.val = (y 0).val % 16 * 16 + (y 0).val / 16; omega)
  rw [e1]
  exact congrArg _ (Fin.ext (by show (p + 1 * 0) * 128 + (0 + 1 * b.val) = (y 1).val; omega))

theorem rows_whole (h) : (fun j => rows X G ((Rect.unit (s := S256x2048) ![0, 0] ![256, 2048] h).idx j)) = rows X G :=
  View.ld_unit_zero (S := S256x2048) (by funext k; fin_cases k <;> rfl) h (rows X G)

end rows

/-! ## The stored values at an entry -/

theorem pay4_at (w : Vec Ideal S1x128x3072 .f32) (k : Fin 128) (n : Fin 3072) : k0_pay4 w (ix2 k n) = w (ix3 0 k n) := by
  pointwise [k0_pay4]

/-- The projection of the rows laid out by residue at an entry. -/
theorem acc_at (X : Vec Ideal S256x2048 .f32) (G : Vec Ideal S1x2048 .f32) (W : Vec Ideal S2048x3072 .bf16)
    (a : Fin 256) (n : Fin 3072) :
    k0_pay330 (rows X G) W (constant S256x3072 .f32 0x00000000#32) (ix2 a n) = Rows.proj (fun k => X (ix2 (source a) k)) (fun k => G (ix2 0 k)) (fun k => W (ix2 k n)) := by
  pointwise [k0_pay330]
  rfl

/-- A place's residue. -/
abbrev residue (a : Fin 256) : Fin 16 := ⟨a.val / 16, by omega⟩

/-- A place's position among those of its residue. -/
abbrev among (a : Fin 256) : Fin 16 := ⟨a.val % 16, by omega⟩

theorem q_cos (T : Vec Ideal S1x16x16x128 .f32) (a : Fin 256) (d : Fin 128) :
    k0_pay334 T (ix2 a d) = T (ix4 0 (residue a) (among a) d) * scale := by
  pointwise [k0_pay334, k0_pay331]

theorem q_sa (T : Vec Ideal S1x16x16x128 .f32) (a : Fin 256) (d : Fin 128) :
    k0_pay335 T (ix2 a d) = T (ix4 0 (residue a) (among a) d) * scale := by
  pointwise [k0_pay335, k0_pay332]

theorem q_sb (T : Vec Ideal S1x16x16x128 .f32) (a : Fin 256) (d : Fin 128) :
    k0_pay336 T (ix2 a d) = T (ix4 0 (residue a) (among a) d) * scale := by
  pointwise [k0_pay336, k0_pay333]

theorem k_cos (T : Vec Ideal S1x16x16x128 .f32) (a : Fin 256) (d : Fin 128) :
    k0_pay476 (k0_pay331 T) (ix2 a d) = T (ix4 0 (residue a) (among a) d) := by
  pointwise [k0_pay476, k0_pay331]

theorem k_sa (T : Vec Ideal S1x16x16x128 .f32) (a : Fin 256) (d : Fin 128) :
    k0_pay477 (k0_pay332 T) (ix2 a d) = T (ix4 0 (residue a) (among a) d) := by
  pointwise [k0_pay477, k0_pay332]

theorem k_sb (T : Vec Ideal S1x16x16x128 .f32) (a : Fin 256) (d : Fin 128) :
    k0_pay478 (k0_pay333 T) (ix2 a d) = T (ix4 0 (residue a) (among a) d) := by
  pointwise [k0_pay478, k0_pay333]

/-- The rows of one residue of a head turned by the tables, as the kernel turns it. -/
def turned (M c a b : FVec Ideal S256x128 .f32) (r : ℕ) (h : S256x128.Slices ![r, 0] S16x128) : FVec Ideal S1x1x16x128 .bf16 :=
  shapeCast S1x1x16x128 (truncf .bf16 (extractStridedSlice S16x128 ![r, 0]
    (turnRows M c a b rotates_S256x128_d1) h) bitsLt_bf16_f32) shapeCasts_S16x128_S1x1x16x128

theorem turned_at (M c a b : FVec Ideal S256x128 .f32) (r : ℕ) (h : S256x128.Slices ![r, 0] S16x128) (i : Fin 16) (d : Fin 128) (p : Fin 256)
    (hp : p.val = r + i.val) :
    turned M c a b r h (ix4 0 0 i d) = turn (fun d => M (ix2 p d)) (fun d => c (ix2 p d)) (fun d => a (ix2 p d)) (fun d => b (ix2 p d)) d := by
  obtain ⟨p, hlt⟩ := p
  obtain rfl : p = r + i.val := hp
  pointwise [turned]
  exact turnRows_at M c a b _ _ d

/-- The row of a block at a residue and a position among that residue's. -/
def at16 (r : Fin 16) (s : Fin 16) : Fin 256 := ⟨s.val * 16 + r.val, by omega⟩

/-- What a point leaves in its block, from its blocks and the weights it reads. -/
def block (X : Vec Ideal S256x2048 .f32) (G : Vec Ideal S1x2048 .f32) (W : Vec Ideal S2048x3072 .bf16) (C A B : Vec Ideal S1x16x16x128 .f32)
    (y : S1x16x16x3072.Idx) : EReal :=
  entry ((y 3).val / 1024) (fun d => Rows.proj (fun k => X (ix2 (at16 (y 1) (y 2)) k)) (fun k => G (ix2 0 k)) (fun k => W (ix2 k (lane (headOf (y 3)) d))))
    (fun d => C (ix4 0 (y 1) (y 2) d)) (fun d => A (ix4 0 (y 1) (y 2) d)) (fun d => B (ix4 0 (y 1) (y 2) d)) (placeOf (y 3))

section pieces

variable (X : Vec Ideal S256x2048 .f32) (G : Vec Ideal S1x2048 .f32) (W : Vec Ideal S2048x3072 .bf16) (C A B : Vec Ideal S1x16x16x128 .f32)

/-- The place of a residue's position. -/
def place (r : Fin 16) (s : Fin 16) : Fin 256 := ⟨r.val * 16 + s.val, by omega⟩

theorem residue_place (r : Fin 16) (s : Fin 16) : residue (place r s) = r := Fin.ext (by show (r.val * 16 + s.val) / 16 = r.val; omega)
theorem among_place (r : Fin 16) (s : Fin 16) : among (place r s) = s := Fin.ext (by show (r.val * 16 + s.val) % 16 = s.val; omega)
theorem source_place (r : Fin 16) (s : Fin 16) : source (place r s) = at16 r s :=
  Fin.ext (by show (r.val * 16 + s.val) % 16 * 16 + (r.val * 16 + s.val) / 16 = s.val * 16 + r.val; omega)

/-- A residue's rows of a head of the queries: one of the first eight. -/
theorem q_piece (off r : ℕ) (h : S256x3072.Slices ![0, off] S256x128) (hs : S256x128.Slices ![r, 0] S16x128) (y : S1x16x16x3072.Idx)
    (x : S1x1x16x128.Idx) (h8 : off % 128 = 0) (hoff : off < 1024) (h1 : r = (y 1).val * 16) (h2 : (y 2).val = (x 2).val)
    (h3 : (y 3).val = off + (x 3).val) :
    turned (extractStridedSlice S256x128 ![0, off] (k0_pay330 (rows X G) W (constant S256x3072 .f32 0x00000000#32)) h) (k0_pay334 C)
      (k0_pay335 A) (k0_pay336 B) r hs x = block X G W C A B y := by
  obtain ⟨z, z', a, b, rfl⟩ : ∃ (z : Fin 1) (z' : Fin 1) (a : Fin 16) (b : Fin 128), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = off + b.val := h3
  have ha : y 2 = a := Fin.ext h2
  obtain ⟨q, hq⟩ : ∃ q : Fin 16, y 1 = q := ⟨y 1, rfl⟩
  have hE := head_off off (y 3) b h8 h3'
  rw [turned_at _ _ _ _ r hs a b (place q a) (by rw [h1, hq]; rfl), block, entry_q off (y 3) b h8 h3' hoff, ha, hq]
  simp only [cut_at _ off h _ _ _ hE, acc_at, q_cos, q_sa, q_sb, residue_place, among_place, source_place]

/-- A residue's rows of a head of the keys: one of the next eight. -/
theorem k_piece (off r : ℕ) (h : S256x3072.Slices ![0, off] S256x128) (hs : S256x128.Slices ![r, 0] S16x128) (y : S1x16x16x3072.Idx)
    (x : S1x1x16x128.Idx) (h8 : off % 128 = 0) (hlo : 1024 ≤ off) (hhi : off < 2048) (h1 : r = (y 1).val * 16)
    (h2 : (y 2).val = (x 2).val) (h3 : (y 3).val = off + (x 3).val) :
    turned (extractStridedSlice S256x128 ![0, off] (k0_pay330 (rows X G) W (constant S256x3072 .f32 0x00000000#32)) h) (k0_pay476 (k0_pay331 C)) (k0_pay477 (k0_pay332 A))
      (k0_pay478 (k0_pay333 B)) r hs x = block X G W C A B y := by
  obtain ⟨z, z', a, b, rfl⟩ : ∃ (z : Fin 1) (z' : Fin 1) (a : Fin 16) (b : Fin 128), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = off + b.val := h3
  have ha : y 2 = a := Fin.ext h2
  obtain ⟨q, hq⟩ : ∃ q : Fin 16, y 1 = q := ⟨y 1, rfl⟩
  have hE := head_off off (y 3) b h8 h3'
  rw [turned_at _ _ _ _ r hs a b (place q a) (by rw [h1, hq]; rfl), block, entry_k off (y 3) b h8 h3' hlo hhi, ha, hq]
  simp only [cut_at _ off h _ _ _ hE, acc_at, k_cos, k_sa, k_sb, residue_place, among_place, source_place]

/-- The rows of one residue of the last third. -/
def last (acc : FVec Ideal S256x3072 .f32) (r : ℕ) (h : S256x1024.Slices ![r, 0] S16x1024) : FVec Ideal S1x1x16x1024 .bf16 :=
  shapeCast S1x1x16x1024 (truncf .bf16 (extractStridedSlice S16x1024 ![r, 0]
    (extractStridedSlice S256x1024 ![0, 2048] acc slices_S256x3072_o0_2048_S256x1024) h) bitsLt_bf16_f32) shapeCasts_S16x1024_S1x1x16x1024

theorem last_at (acc : FVec Ideal S256x3072 .f32) (r : ℕ) (h : S256x1024.Slices ![r, 0] S16x1024) (a : Fin 16) (b : Fin 1024) (p : Fin 256)
    (hp : p.val = r + a.val) : last acc r h (ix4 0 0 a b) = acc (ix2 p (⟨2048 + b.val, by omega⟩ : Fin 3072)) := by
  obtain ⟨p, hlt⟩ := p
  obtain rfl : p = r + a.val := hp
  pointwise [last]

/-- The values: the last third of a row. -/
theorem v_piece (r : ℕ) (hs : S256x1024.Slices ![r, 0] S16x1024) (y : S1x16x16x3072.Idx) (x : S1x1x16x1024.Idx) (h1 : r = (y 1).val * 16)
    (h2 : (y 2).val = (x 2).val) (h3 : (y 3).val = 2048 + (x 3).val) : last (k0_pay330 (rows X G) W (constant S256x3072 .f32 0x00000000#32)) r hs x = block X G W C A B y := by
  obtain ⟨z, z', a, b, rfl⟩ : ∃ (z : Fin 1) (z' : Fin 1) (a : Fin 16) (b : Fin 1024), x = ix4 z z' a b :=
    ⟨x 0, x 1, x 2, x 3, by funext k; fin_cases k <;> rfl⟩
  obtain rfl : z = 0 := Subsingleton.elim _ _
  obtain rfl : z' = 0 := Subsingleton.elim _ _
  have h3' : (y 3).val = 2048 + b.val := h3
  have ha : y 2 = a := Fin.ext h2
  obtain ⟨q, hq⟩ : ∃ q : Fin 16, y 1 = q := ⟨y 1, rfl⟩
  rw [last_at _ r hs a b (place q a) (by rw [h1, hq]; rfl), acc_at, source_place, block, entry_v (y 3) b h3' (fun n => Rows.proj _ _ (fun k => W (ix2 k n))), ha, hq]

end pieces

/-! ## The weights, stored row block by row block -/

theorem off1_eq (k : Fin k0_t1_loop.trips) : k0_off1 k = ![0, k.val * 128, 0] :=
  (by decide +kernel : ∀ k : Fin k0_t1_loop.trips, k0_off1 k = ![0, k.val * 128, 0]) k
theorem off2_eq (k : Fin k0_t1_loop.trips) : k0_off2 k = ![k.val * 128, 0] :=
  (by decide +kernel : ∀ k : Fin k0_t1_loop.trips, k0_off2 k = ![k.val * 128, 0]) k

/-- One trip's stored rows are those rows of the weights. -/
theorem row_at {arg4 : Memref sig .tc .vmem S1x2048x3072 .f32} (harg4 : arg4.IsWhole) (X : Vec Ideal S1x2048x3072 .f32)
    (n : Fin k0_t1_loop.trips) (h h') (k : Fin 128) (j : Fin 3072) :
    k0_pay4 (View.readAt (Elt Ideal) arg4.view (Rect.unit (s := S1x2048x3072) (k0_off1 n) S1x128x3072.size h).toLoadRect (harg4.unread X)) (ix2 k j)
      = weights X ((Rect.unit (s := S2048x3072) (k0_off2 n) S128x3072.size h').emb (ix2 k j)) := by
  rw [View.readAt_eq_ld, harg4.read_unread, pay4_at]
  refine View.ld_unit_apply_of X _ _ h _ _ fun d => ?_
  have e1 := off1_eq n
  have e2 := off2_eq n
  fin_cases d
  · show 0 = k0_off1 n 0 + 0
    rw [e1]; rfl
  · show k0_off2 n 0 + 1 * k.val = k0_off1 n 1 + k.val
    rw [e1, e2, Nat.one_mul]; rfl
  · show k0_off2 n 1 + 1 * j.val = k0_off1 n 2 + j.val
    rw [e1, e2, Nat.one_mul]; rfl

section loop

variable (𝒱 : Variants) (c : Dev nD) (bd : Option 𝒱.V) (i : grid0.Coords) (arg2 : Memref sig .tc .vmem S256x2048 .f32) (harg2 : arg2.IsWhole)
    (arg3 : Memref sig .tc .vmem S1x2048 .f32) (harg3 : arg3.IsWhole) (arg4 : Memref sig .tc .vmem S1x2048x3072 .f32) (harg4 : arg4.IsWhole)
    (arg5 : Memref sig .tc .vmem S1x16x16x128 .f32) (harg5 : arg5.IsWhole) (arg6 : Memref sig .tc .vmem S1x16x16x128 .f32) (harg6 : arg6.IsWhole)
    (arg7 : Memref sig .tc .vmem S1x16x16x128 .f32) (harg7 : arg7.IsWhole) (arg8 : Memref sig .tc .vmem S1x16x16x3072 .bf16) (harg8 : arg8.IsWhole)
    (arg9 : Memref sig .tc .vmem S2048x3072 .bf16) (harg9 : arg9.IsWhole) (arg10 : Memref sig .tc .vmem S256x2048 .bf16) (harg10 : arg10.IsWhole)
    (arg11 : Memref sig .tc .vmem S16x256x128 .f32) (harg11 : arg11.IsWhole)
    (h1 : k0_cond1 i = 1#1) (X : Vec Ideal S1x2048x3072 .f32)

/-- Every piece that the loop stores is that part of the weights. -/
theorem pieces (n : ℕ) :
    ∀ p ∈ pb_k0_t1 𝒱 c bd i arg2 harg2 arg3 harg3 arg4 harg4 arg5 harg5 arg6 harg6 arg7 harg7 arg8 harg8 arg9 harg9 arg10 harg10 arg11 harg11 h1 (harg4.unread X) n,
      ∀ x, p.2 x = weights X (p.1.emb x) := by
  induction n with
  | zero => intro p hp; cases hp
  | succ n ih =>
    intro p hp
    rw [pb_k0_t1.eq_2] at hp
    unfold pb_k0_t1Step at hp
    split at hp
    · rcases List.mem_append.1 hp with hp | hp
      · unfold tripL_k0_t1 trip_k0_t1 at hp
        obtain rfl := List.mem_singleton.1 hp
        intro x
        obtain ⟨k, j, rfl⟩ : ∃ (k : Fin 128) (j : Fin 3072), x = ix2 k j := ⟨x 0, x 1, by funext k; fin_cases k <;> rfl⟩
        exact row_at harg4 X ⟨n, by assumption⟩ (k0_off1_inb i _ h1) (k0_off2_inb i _ h1) k j
      · exact ih p hp
    · exact ih p hp

/-- What the loop leaves: the weights. -/
theorem loop_read :
    View.canon (pb_k0_t1 𝒱 c bd i arg2 harg2 arg3 harg3 arg4 harg4 arg5 harg5 arg6 harg6 arg7 harg7 arg8 harg8 arg9 harg9 arg10 harg10 arg11 harg11 h1 (harg4.unread X)
      (Scf.trips k0_t1_loop.lb k0_t1_loop.ub k0_t1_loop.st)) = weights X :=
  funext fun y => View.canon_apply_of_pieces (weights X) _ (pieces 𝒱 c bd i arg2 harg2 arg3 harg3 arg4 harg4 arg5 harg5 arg6 harg6 arg7 harg7 arg8 harg8 arg9 harg9 arg10 harg10 arg11 harg11 h1 X _) y
    (View.cover_of_tiledL (s := S2048x3072) _ S128x3072.size (by sl_kernel_rfl) y)

theorem loop_load (v : View sig .tc .vmem S2048x3072 .bf16) (r : Rect S2048x3072) :
    v.readCov (pb_k0_t1 𝒱 c bd i arg2 harg2 arg3 harg3 arg4 harg4 arg5 harg5 arg6 harg6 arg7 harg7 arg8 harg8 arg9 harg9 arg10 harg10 arg11 harg11 h1 (harg4.unread X)
      (Scf.trips k0_t1_loop.lb k0_t1_loop.ub k0_t1_loop.st)) r.toLoadRect = View.ld (weights X) r :=
  (View.readCov_eq_canon' v _ _).trans (by rw [loop_read])

end loop

/-! ## What the points leave -/

/-- The weights that the first point stores. -/
abbrev stored (c : Dev nD) (t : Fin cfg0.N) : Vec Ideal S2048x3072 .bf16 := weights (iblk m c 2 t)

theorem held (c : Dev nD) (t : Fin cfg0.N) :
    (outsAt0 m c t.val t.isLt).2 = stored m c ⟨32 * (t.val / 32), Pipeline.run_start_lt t⟩ :=
  Pipeline.eq_of_write_hold (fun n h => (outsAt0 m c n h).2) 32 (stored m c)
    (fun t h0 => by
      rw [outsAt0_A m c t h0]; frame_open
      exact (View.read_writes_junk_eq_canon VS0_0 _).trans (loop_read ..))
    (fun t h0 => by rw [outsAt0_B m c t h0]; rfl) t

set_option maxHeartbeats 40000000 in
theorem out_A (c : Dev nD) (t : Fin cfg0.N) (h0 : t.val % 32 = 0) (y : S1x16x16x3072.Idx) :
    (outsAt0 m c t.val t.isLt).1 y
      = block (iblk m c 0 t) (iblk m c 1 t) (stored m c t) (iblk m c 3 t) (iblk m c 4 t) (iblk m c 5 t) y := by
  rw [outsAt0_A m c t h0]; frame_open
  generalize hL : pb_k0_t1 (F := Ideal) _ _ _ _ _ _ _ _ _ _ _ _ _ _ _ _ _ _ _ _ _ _ _ _ _ _ _ = L
  have hW : ∀ r : Rect S2048x3072, scM0_0.view.readCov L r.toLoadRect = View.ld (stored m c t) r := fun r => by
    rw [← hL]; exact loop_load ..
  clear hL
  simp only [hW]
  frame_out
  simp only [read_unread_whole, View.readCov_eq_canon']
  generalize hP : View.canon (Val := Elt Ideal) (s := S16x256x128) _ = P
  obtain rfl : P = planes (iblk m c 0 t) (iblk m c 1 t) := by
    rw [← hP]
    funext y
    canon_tiles x h
    iterate 16 · exact plane_piece (scaled_at _ _) _ (by decide) shapeCasts_S256x128_S1x256x128 y x (by omega) (by omega) (by omega)
  clear hP
  generalize hV : View.canon (Val := Elt Ideal) (s := S256x2048) _ = V
  obtain rfl : V = rows (iblk m c 0 t) (iblk m c 1 t) := by
    rw [← hV]
    funext y
    canon_tiles x h
    iterate 256 · exact row_piece _ _ _ _ _ y x (by decide) (by decide) (by omega) (by omega)
  clear hV
  simp only [rows_whole]
  canon_tiles x h using View.cover_of_tiledBy (s := S1x16x16x3072) _ ![1, 1, 16, 128] (by sl_kernel_rfl) y
  iterate 16 · exact v_piece _ _ _ _ _ _ _ (by decide) y x (by omega) (by omega) (by omega)
  iterate 128 · exact k_piece _ _ _ _ _ _ _ _ (by decide) (by decide) y x (by omega) (by omega) (by omega) (by omega) (by omega) (by omega)
  iterate 128 · exact q_piece _ _ _ _ _ _ _ _ (by decide) (by decide) y x (by omega) (by omega) (by omega) (by omega) (by omega)

set_option maxHeartbeats 40000000 in
theorem out_B (c : Dev nD) (t : Fin cfg0.N) (h0 : ¬t.val % 32 = 0) (y : S1x16x16x3072.Idx) :
    (outsAt0 m c t.val t.isLt).1 y
      = block (iblk m c 0 t) (iblk m c 1 t) (outsAt0 m c (t.val - 1) (by omega)).2 (iblk m c 3 t) (iblk m c 4 t) (iblk m c 5 t) y := by
  rw [outsAt0_B m c t h0]
  frame_out
  simp only [read_unread_whole, View.readCov_eq_canon']
  generalize hP : View.canon (Val := Elt Ideal) (s := S16x256x128) _ = P
  obtain rfl : P = planes (iblk m c 0 t) (iblk m c 1 t) := by
    rw [← hP]
    funext y
    canon_tiles x h
    iterate 16 · exact plane_piece (scaled_at _ _) _ (by decide) shapeCasts_S256x128_S1x256x128 y x (by omega) (by omega) (by omega)
  clear hP
  generalize hV : View.canon (Val := Elt Ideal) (s := S256x2048) _ = V
  obtain rfl : V = rows (iblk m c 0 t) (iblk m c 1 t) := by
    rw [← hV]
    funext y
    canon_tiles x h
    iterate 256 · exact row_piece _ _ _ _ _ y x (by decide) (by decide) (by omega) (by omega)
  clear hV
  simp only [rows_whole]
  canon_tiles x h using View.cover_of_tiledBy (s := S1x16x16x3072) _ ![1, 1, 16, 128] (by sl_kernel_rfl) y
  iterate 16 · exact v_piece _ _ _ _ _ _ _ (by decide) y x (by omega) (by omega) (by omega)
  iterate 128 · exact k_piece _ _ _ _ _ _ _ _ (by decide) (by decide) y x (by omega) (by omega) (by omega) (by omega) (by omega) (by omega)
  iterate 128 · exact q_piece _ _ _ _ _ _ _ _ (by decide) (by decide) y x (by omega) (by omega) (by omega) (by omega) (by omega)

/-! ## The blocks at coordinates -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 2] := (by decide +kernel : ∀ t : Fin grid0.N, _)
theorem idx3 : ∀ t : Fin cfg0.N, win0_3.index t = ![t.val / 8, 0, t.val % 8, 0] := (by decide +kernel : ∀ t : Fin grid0.N, _)
theorem idx4 : ∀ t : Fin cfg0.N, win0_4.index t = ![t.val / 8, 0, t.val % 8, 0] := (by decide +kernel : ∀ t : Fin grid0.N, _)
theorem idx5 : ∀ t : Fin cfg0.N, win0_5.index t = ![t.val / 8, 0, t.val % 8, 0] := (by decide +kernel : ∀ t : Fin grid0.N, _)
theorem idx6 : ∀ t : Fin cfg0.N, win0_6.index t = ![t.val / 8, 0, t.val % 8, 0] := (by decide +kernel : ∀ t : Fin grid0.N, _)

/-- The batch that a point works on. -/
abbrev batchOf (t : Fin cfg0.N) : Fin 4 := ⟨t.val / 8, by have := lt_of_lt_of_eq t.isLt N_0; omega⟩

/-- A point's position among those of a residue. -/
abbrev rowOf (t : Fin cfg0.N) (a : Fin 16) : Fin 128 := ⟨t.val % 8 * 16 + a.val, by omega⟩

theorem rows_at (c : Dev nD) (t : Fin cfg0.N) (r : Fin 16) (a : Fin 16) (k : Fin 2048) :
    iblk m c 0 t (ix2 (at16 r a) k) = m (c.tc.loc main_arg0) (ix2 (⟨(batchOf t).val * 2048 + (rowOf t a).val * 16 + r.val, by omega⟩ : Fin 8192) k) := by
  have hN : t.val < 32 := lt_of_lt_of_eq t.isLt N_0
  unfold at16
  blk_point [iblk, V, idx0 t]

theorem gain_at (c : Dev nD) (t : Fin cfg0.N) (k : Fin 2048) :
    iblk m c 1 t (ix2 0 k) = m (c.tc.loc main_arg1) (ix1 k) := by
  blk_point [iblk, V, idx1 t]

theorem stored_at (c : Dev nD) (t : Fin cfg0.N) (k : Fin 2048) (n : Fin 3072) :
    stored m c t (ix2 k n) = m (c.tc.loc main_arg2) (ix3 0 k (⟨6144 + n.val, by omega⟩ : Fin 9216)) := by
  show iblk m c 2 t (ix3 0 k n) = _
  blk_point [iblk, V, idx2 t]

theorem cos_at (c : Dev nD) (t : Fin cfg0.N) (r : Fin 16) (a : Fin 16) (d : Fin 128) :
    iblk m c 3 t (ix4 0 r a d) = m (c.tc.loc main_arg3) (ix4 (batchOf t) r (rowOf t a) d) := by
  blk_point [iblk, V, idx3 t]

theorem sa_at (c : Dev nD) (t : Fin cfg0.N) (r : Fin 16) (a : Fin 16) (d : Fin 128) :
    iblk m c 4 t (ix4 0 r a d) = m (c.tc.loc main_arg4) (ix4 (batchOf t) r (rowOf t a) d) := by
  blk_point [iblk, V, idx4 t]

theorem sb_at (c : Dev nD) (t : Fin cfg0.N) (r : Fin 16) (a : Fin 16) (d : Fin 128) :
    iblk m c 5 t (ix4 0 r a d) = m (c.tc.loc main_arg5) (ix4 (batchOf t) r (rowOf t a) d) := by
  blk_point [iblk, V, idx5 t]

/-! ## The result array -/

/-- A row of the projection, one of its heads. -/
def head (c : Dev nD) (b : Fin 4) (r : Fin 16) (s : Fin 128) (E : Fin 24) (d : Fin 128) : EReal :=
  Rows.proj (fun k => m (c.tc.loc main_arg0) (ix2 (⟨b.val * 2048 + s.val * 16 + r.val, by omega⟩ : Fin 8192) k)) (fun k => m (c.tc.loc main_arg1) (ix1 k))
    (fun k => m (c.tc.loc main_arg2) (ix3 0 k (⟨6144 + (lane E d).val, by omega⟩ : Fin 9216)))

/-- The array the kernel leaves, entry by entry. -/
def result (c : Dev nD) : Buf (Elt Ideal) ((c : Thread nD τ).loc main_v1) := fun i =>
  entry ((i 3).val / 1024) (head m c (i 0) (i 1) (i 2) (headOf (i 3))) (fun d => m (c.tc.loc main_arg3) (ix4 (i 0) (i 1) (i 2) d))
    (fun d => m (c.tc.loc main_arg4) (ix4 (i 0) (i 1) (i 2) d)) (fun d => m (c.tc.loc main_arg5) (ix4 (i 0) (i 1) (i 2) d)) (placeOf (i 3))

theorem block_at (c : Dev nD) (t : Fin cfg0.N) (W : Vec Ideal S2048x3072 .bf16)
    (hW : ∀ k n, W (ix2 k n) = m (c.tc.loc main_arg2) (ix3 0 k (⟨6144 + n.val, by omega⟩ : Fin 9216))) (r : Fin 16) (a : Fin 16) (j : Fin 3072) :
    block (iblk m c 0 t) (iblk m c 1 t) W (iblk m c 3 t) (iblk m c 4 t) (iblk m c 5 t) (ix4 0 r a j)
      = result m c (ix4 (batchOf t) r (rowOf t a) j) := by
  show entry (j.val / 1024) (fun d => Rows.proj (fun k => iblk m c 0 t (ix2 (at16 r a) k)) (fun k => iblk m c 1 t (ix2 0 k)) (fun k => W (ix2 k (lane (headOf j) d))))
    (fun d => iblk m c 3 t (ix4 0 r a d)) (fun d => iblk m c 4 t (ix4 0 r a d)) (fun d => iblk m c 5 t (ix4 0 r a d)) (placeOf j) = _
  have e0 : (fun k => iblk m c 0 t (ix2 (at16 r a) k)) = _ := funext fun k => rows_at m c t r a k
  have e1 : (fun k => iblk m c 1 t (ix2 0 k)) = _ := funext fun k => gain_at m c t k
  have e2 : (fun d : Fin 128 => fun k => W (ix2 k (lane (headOf j) d))) = _ := funext fun d => funext fun k => hW k (lane (headOf j) d)
  have e3 : (fun d => iblk m c 3 t (ix4 0 r a d)) = _ := funext fun d => cos_at m c t r a d
  have e4 : (fun d => iblk m c 4 t (ix4 0 r a d)) = _ := funext fun d => sa_at m c t r a d
  have e5 : (fun d => iblk m c 5 t (ix4 0 r a d)) = _ := funext fun d => sb_at m c t r a d
  rw [e0, e1, e3, e4, e5]
  have e6 : (fun d => Rows.proj (fun k => m (c.tc.loc main_arg0) (ix2 (⟨(batchOf t).val * 2048 + (rowOf t a).val * 16 + r.val, by omega⟩ : Fin 8192) k))
      (fun k => m (c.tc.loc main_arg1) (ix1 k)) (fun k => W (ix2 k (lane (headOf j) d)))) = head m c (batchOf t) r (rowOf t a) (headOf j) :=
    funext fun d => congrArg (Rows.proj _ _) (congrFun e2 d)
  exact congrArg (fun x => entry (j.val / 1024) x _ _ _ (placeOf j)) e6

theorem out_at (c : Dev nD) (t : Fin cfg0.N) (r : Fin 16) (a : Fin 16) (j : Fin 3072) :
    (outsAt0 m c t.val t.isLt).1 (ix4 0 r a j) = result m c (ix4 (batchOf t) r (rowOf t a) j) := by
  by_cases h0 : t.val % 32 = 0
  · exact (out_A m c t h0 _).trans (block_at m c t _ (stored_at m c t) r a j)
  · exact (out_B m c t h0 _).trans (block_at m c t _ (fun k n => by
      rw [held m c ⟨t.val - 1, by omega⟩]; exact stored_at m c _ k n) r a j)

theorem final (c : Dev nD) : (dats m 0 c).arrAt 6 cfg0.N = result m c := by
  refine (dats m 0 c).arrAt_eq_of_covers 6 _ (by decide +kernel) fun t hf y => ?_
  have hN : t.val < 32 := lt_of_lt_of_eq t.isLt N_0
  obtain ⟨z, r, a, b, rfl⟩ : ∃ (z : Fin 1) (r : Fin 16) (a : Fin 16) (b : Fin 3072), y = ix4 z r a b :=
    ⟨y 0, y 1, y 2, y 3, by funext k; fin_cases k <;> rfl⟩
  obtain rfl : z = 0 := Subsingleton.elim _ _
  blk_simp
  rw [after0_6]
  have he : (win0_6.blk t).view.emb (ix4 0 r a b) = ix4 (batchOf t) r (rowOf t a) b := by
    blk_ext [idx6 t]
  rw [he]
  exact out_at m c t r a b

/-- The run of the kernel, its result read entry by entry. -/
theorem run_result (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨((h.2 c).1 6).trans (final m c), h.1 c⟩) (θ_run_and (unchanged m ρ) (run_main m ρ))

end Cert.Kernel7Ideal.Value
-- ==== Proof.AttIn16.lean ====
/-
  The attention's input projection kernel for every sixteenth position and the host program compute the same array.
-/
module

public import proofs.«01_k».proof.Defs
public import proofs.«01_k».proof.Proof.AttInKernel16
public import proofs.«01_k».proof.Proof.Gen.Kernel7Ideal
public import proofs.«01_k».proof.Proof.Gen.Reference7Ideal

@[expose] public section

noncomputable section

open Idealize.ShloMosaic Idealize.ShloMosaic.TcCoe Idealize.SL.Sem

namespace Cert.AttIn16

/-- The claim: from equal arguments both programs leave the same result, their arguments unchanged. -/
theorem algebraic : Cert.algebraic_Kernel7Ideal_Reference7Ideal (hKernel7Ideal := Cert.Kernel7Ideal.Gen.facts)
    (hReference7Ideal := Cert.Reference7Ideal.Gen.facts) := by
  intro m g m' g' _ hm
  refine ⟨Cert.Kernel7Ideal.Value.result m, Cert.Kernel7Ideal.Value.run_result m g, ?_⟩
  refine (θ_run _ _ _).mono (fun _ h c => ⟨(h c).1.trans ?_, (h c).2⟩) (Cert.Reference7Ideal.Value.run_result m' g')
  obtain ⟨h0, h1, h2, h3, h4, h5⟩ := hm c
  unfold Cert.Reference7Ideal.Value.result Cert.Reference7Ideal.Value.head
  rw [h0, h1, h2, h3, h4, h5]
  rfl

end Cert.AttIn16
-- ==== Proof.lean ====
module

public import proofs.«01_k».proof.Defs
public import proofs.«01_k».proof.Proof.Gen.Pre_finite_qk
public import Idealize.ShloMosaic.Lib.Quiescent
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Attn
public import proofs.«01_k».proof.Proof.Mlp
public import proofs.«01_k».proof.Proof.PartProj
public import proofs.«01_k».proof.Proof.OutProj
public import proofs.«01_k».proof.Proof.AttIn1
public import proofs.«01_k».proof.Proof.AttIn4
public import proofs.«01_k».proof.Proof.AttIn16

/-! # The claim, put together from the modules of the calls -/

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Pre_finite_qk.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2.2, sem_eq_zero_of_no_sems rfl r.2⟩) (Cert.ReferenceIdeal.Value.run m ρ),
    fun m ρ _ => (θ_run _ _ _).mono (fun r h => ⟨fun c => (h c).2.2, sem_eq_zero_of_no_sems rfl r.2⟩) (Cert.ReferenceIdeal.Value.run m ρ),
    fun m ρ _ => Cert.Kernel2.Gen.frame m ρ,
    fun m ρ _ => Cert.Kernel2Ideal.Gen.frame m ρ,
    fun m ρ _ => (θ_run _ _ _).mono (fun r h => ⟨fun c => (h c).2, sem_eq_zero_of_no_sems rfl r.2⟩) (Cert.Reference2Ideal.Value.run m ρ),
    fun m ρ _ => Cert.Kernel3.Gen.frame m ρ,
    fun m ρ _ => Cert.Kernel3Ideal.Gen.frame m ρ,
    fun m ρ _ => (θ_run _ _ _).mono (fun r h => ⟨fun c => (h c).2, sem_eq_zero_of_no_sems rfl r.2⟩) (Cert.Reference3Ideal.Value.run m ρ),
    fun m ρ _ => Cert.Kernel4.Gen.frame m ρ,
    fun m ρ _ => Cert.Kernel4Ideal.Gen.frame m ρ,
    fun m ρ _ => (θ_run _ _ _).mono (fun r h => ⟨fun c => (h c).2, sem_eq_zero_of_no_sems rfl r.2⟩) (Cert.Reference4Ideal.Value.run m ρ),
    fun m ρ _ => Cert.Kernel5.Gen.frame m ρ,
    fun m ρ _ => Cert.Kernel5Ideal.Gen.frame m ρ,
    fun m ρ _ => (θ_run _ _ _).mono (fun r h => ⟨fun c => (h c).2, sem_eq_zero_of_no_sems rfl r.2⟩) (Cert.Reference5Ideal.Value.run m ρ),
    fun m ρ _ => Cert.Kernel6.Gen.frame m ρ,
    fun m ρ _ => Cert.Kernel6Ideal.Gen.frame m ρ,
    fun m ρ _ => (θ_run _ _ _).mono (fun r h => ⟨fun c => (h c).2, sem_eq_zero_of_no_sems rfl r.2⟩) (Cert.Reference6Ideal.Value.run m ρ),
    fun m ρ _ => Cert.Kernel7.Gen.frame m ρ,
    fun m ρ _ => Cert.Kernel7Ideal.Gen.frame m ρ,
    fun m ρ _ => (θ_run _ _ _).mono (fun r h => ⟨fun c => (h c).2, sem_eq_zero_of_no_sems rfl r.2⟩) (Cert.Reference7Ideal.Value.run m ρ),
    fun m ρ _ => Cert.Kernel8.Gen.frame m ρ,
    fun m ρ _ => Cert.Kernel8Ideal.Gen.frame m ρ,
    fun m ρ _ => (θ_run _ _ _).mono (fun r h => ⟨fun c => (h c).2, sem_eq_zero_of_no_sems rfl r.2⟩) (Cert.Reference8Ideal.Value.run m ρ),
    fun m ρ _ => Cert.Kernel9.Gen.frame m ρ,
    fun m ρ _ => Cert.Kernel9Ideal.Gen.frame m ρ,
    fun m ρ _ => (θ_run _ _ _).mono (fun r h => ⟨fun c => (h c).2.2, sem_eq_zero_of_no_sems rfl r.2⟩) (Cert.Reference9Ideal.Value.run m ρ),
    trivial,
    Cert.Attn.algebraic,
    trivial,
    Cert.Mlp.algebraic,
    trivial,
    Cert.PartProj.algebraic,
    trivial,
    Cert.OutProj.algebraic,
    trivial,
    Cert.AttIn1.algebraic,
    trivial,
    Cert.AttIn4.algebraic,
    trivial,
    Cert.AttIn16.algebraic,
    trivial,
    trivial⟩

end Cert.Proof
